-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_floor_positive [hPre_floor_positive : Cert.Pre_floor_positive.Facts] (m : (ℓ : Loc Cert.KernelIdeal.nD Cert.KernelIdeal.τ Cert.KernelIdeal.sig) → Buf (Elt Ideal) ℓ) : Prop :=
  ∀ c : Dev Cert.KernelIdeal.nD,
    (Cert.Pre_floor_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_floor_positive [hPre_floor_positive : Cert.Pre_floor_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_floor_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_ConvPrompt (m : (ℓ : Loc Cert.ConvPrompt.nD Cert.ConvPrompt.τ Cert.ConvPrompt.sig) → Buf (Elt Bits) ℓ) : Prop :=
  True

def Pre_ConvPromptIdeal (m : (ℓ : Loc Cert.ConvPromptIdeal.nD Cert.ConvPromptIdeal.τ Cert.ConvPromptIdeal.sig) → Buf (Elt Ideal) ℓ) : Prop :=
  True

def Pre_ConvPromptReferenceIdeal (m : (ℓ : Loc Cert.ConvPromptReferenceIdeal.nD Cert.ConvPromptReferenceIdeal.τ Cert.ConvPromptReferenceIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleReferenceIdeal (m : (ℓ : Loc Cert.ConvSampleReferenceIdeal.nD Cert.ConvSampleReferenceIdeal.τ Cert.ConvSampleReferenceIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_sample_floor_positive [hPre_sample_floor_positive : Cert.Pre_sample_floor_positive.Facts] (m : (ℓ : Loc Cert.SampleIdeal.nD Cert.SampleIdeal.τ Cert.SampleIdeal.sig) → Buf (Elt Ideal) ℓ) : Prop :=
  ∀ c : Dev Cert.SampleIdeal.nD,
    (Cert.Pre_sample_floor_positive.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3))) = (fun _ => 1#1)

def Pre_SampleReferenceIdeal (m : (ℓ : Loc Cert.SampleReferenceIdeal.nD Cert.SampleReferenceIdeal.τ Cert.SampleReferenceIdeal.sig) → Buf (Elt Ideal) ℓ) : Prop :=
  True

def Pre_SampleReferenceIdeal_sample_floor_positive [hPre_sample_floor_positive : Cert.Pre_sample_floor_positive.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_sample_floor_positive.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_floor_positive [hKernelIdeal : Cert.KernelIdeal.Facts] [hPre_floor_positive : Cert.Pre_floor_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_floor_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_floor_positive [hReferenceIdeal : Cert.ReferenceIdeal.Facts] [hPre_floor_positive : Cert.Pre_floor_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_floor_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6))
      ∧ r.2.sem = fun _ => 0)

def quiescent_ConvPrompt [hConvPrompt : Cert.ConvPrompt.Facts] : Prop :=
  ∀ (m : (ℓ : Loc Cert.ConvPrompt.nD Cert.ConvPrompt.τ Cert.ConvPrompt.sig) → Buf (Elt Bits) ℓ) (g : Dev Cert.ConvPrompt.nD → PrngReg), Pre_ConvPrompt m →
    θ_run (Cert.ConvPrompt.defs (F := Bits)) (onTc (τ := Cert.ConvPrompt.τ) (Cert.ConvPrompt.main (F := Bits))) ⟨m, fun _ => 0, g⟩ (fun r => (∀ c : Dev Cert.ConvPrompt.nD,
      r.2.mem ((c.tc : Thread Cert.ConvPrompt.nD Cert.ConvPrompt.τ).loc Cert.ConvPrompt.main_arg0) = m ((c.tc : Thread Cert.ConvPrompt.nD Cert.ConvPrompt.τ).loc Cert.ConvPrompt.main_arg0)
      ∧ r.2.mem ((c.tc : Thread Cert.ConvPrompt.nD Cert.ConvPrompt.τ).loc Cert.ConvPrompt.main_arg1) = m ((c.tc : Thread Cert.ConvPrompt.nD Cert.ConvPrompt.τ).loc Cert.ConvPrompt.main_arg1))
      ∧ r.2.sem = fun _ => 0)

def quiescent_ConvPromptIdeal [hConvPromptIdeal : Cert.ConvPromptIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg), Pre_ConvPromptIdeal m →
    θ_run (Cert.ConvPromptIdeal.defs (F := Ideal)) (onTc (τ := Cert.ConvPromptIdeal.τ) (Cert.ConvPromptIdeal.main (F := Ideal))) ⟨m, fun _ => 0, g⟩ (fun r => (∀ c : Dev Cert.ConvPromptIdeal.nD,
      r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
      ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1))
      ∧ r.2.sem = fun _ => 0)

def quiescent_ConvPromptReferenceIdeal [hConvPromptReferenceIdeal : Cert.ConvPromptReferenceIdeal.Facts] : Prop :=
  ∀ (m : (ℓ : Loc Cert.ConvPromptReferenceIdeal.nD Cert.ConvPromptReferenceIdeal.τ Cert.ConvPromptReferenceIdeal.sig) → Buf (Elt Ideal) ℓ) (g : Dev Cert.ConvPromptReferenceIdeal.nD → PrngReg), Pre_ConvPromptReferenceIdeal m →
    θ_run (Cert.ConvPromptReferenceIdeal.defs (F := Ideal)) (onTc (τ := Cert.ConvPromptReferenceIdeal.τ) (Cert.ConvPromptReferenceIdeal.main (F := Ideal))) ⟨m, fun _ => 0, g⟩ (fun r => (∀ c : Dev Cert.ConvPromptReferenceIdeal.nD,
      r.2.mem ((c.tc : Thread Cert.ConvPromptReferenceIdeal.nD Cert.ConvPromptReferenceIdeal.τ).loc Cert.ConvPromptReferenceIdeal.main_arg0) = m ((c.tc : Thread Cert.ConvPromptReferenceIdeal.nD Cert.ConvPromptReferenceIdeal.τ).loc Cert.ConvPromptReferenceIdeal.main_arg0)
      ∧ r.2.mem ((c.tc : Thread Cert.ConvPromptReferenceIdeal.nD Cert.ConvPromptReferenceIdeal.τ).loc Cert.ConvPromptReferenceIdeal.main_arg1) = m ((c.tc : Thread Cert.ConvPromptReferenceIdeal.nD Cert.ConvPromptReferenceIdeal.τ).loc Cert.ConvPromptReferenceIdeal.main_arg1))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2))
      ∧ r.2.sem = fun _ => 0)

def quiescent_ConvSampleReferenceIdeal [hConvSampleReferenceIdeal : Cert.ConvSampleReferenceIdeal.Facts] : Prop :=
  ∀ (m : (ℓ : Loc Cert.ConvSampleReferenceIdeal.nD Cert.ConvSampleReferenceIdeal.τ Cert.ConvSampleReferenceIdeal.sig) → Buf (Elt Ideal) ℓ) (g : Dev Cert.ConvSampleReferenceIdeal.nD → PrngReg), Pre_ConvSampleReferenceIdeal m →
    θ_run (Cert.ConvSampleReferenceIdeal.defs (F := Ideal)) (onTc (τ := Cert.ConvSampleReferenceIdeal.τ) (Cert.ConvSampleReferenceIdeal.main (F := Ideal))) ⟨m, fun _ => 0, g⟩ (fun r => (∀ c : Dev Cert.ConvSampleReferenceIdeal.nD,
      r.2.mem ((c.tc : Thread Cert.ConvSampleReferenceIdeal.nD Cert.ConvSampleReferenceIdeal.τ).loc Cert.ConvSampleReferenceIdeal.main_arg0) = m ((c.tc : Thread Cert.ConvSampleReferenceIdeal.nD Cert.ConvSampleReferenceIdeal.τ).loc Cert.ConvSampleReferenceIdeal.main_arg0)
      ∧ r.2.mem ((c.tc : Thread Cert.ConvSampleReferenceIdeal.nD Cert.ConvSampleReferenceIdeal.τ).loc Cert.ConvSampleReferenceIdeal.main_arg1) = m ((c.tc : Thread Cert.ConvSampleReferenceIdeal.nD Cert.ConvSampleReferenceIdeal.τ).loc Cert.ConvSampleReferenceIdeal.main_arg1)
      ∧ r.2.mem ((c.tc : Thread Cert.ConvSampleReferenceIdeal.nD Cert.ConvSampleReferenceIdeal.τ).loc Cert.ConvSampleReferenceIdeal.main_arg2) = m ((c.tc : Thread Cert.ConvSampleReferenceIdeal.nD Cert.ConvSampleReferenceIdeal.τ).loc Cert.ConvSampleReferenceIdeal.main_arg2))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_SampleIdeal_pre_sample_floor_positive [hSampleIdeal : Cert.SampleIdeal.Facts] [hPre_sample_floor_positive : Cert.Pre_sample_floor_positive.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_sample_floor_positive m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3))
      ∧ r.2.sem = fun _ => 0)

def quiescent_SampleReferenceIdeal_pre_sample_floor_positive [hSampleReferenceIdeal : Cert.SampleReferenceIdeal.Facts] [hPre_sample_floor_positive : Cert.Pre_sample_floor_positive.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal_sample_floor_positive m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3))
      ∧ r.2.sem = fun _ => 0)

def preserves_Kernel_KernelIdeal : Prop :=
  True

def algebraic_KernelIdeal_ReferenceIdeal_pre_floor_positive [hKernelIdeal : Cert.KernelIdeal.Facts] [hReferenceIdeal : Cert.ReferenceIdeal.Facts] [hPre_floor_positive : Cert.Pre_floor_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_floor_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v50_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v2) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v10) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6))

def preserves_ConvPrompt_ConvPromptIdeal : Prop :=
  True

def algebraic_ConvPromptIdeal_ConvPromptReferenceIdeal [hConvPromptIdeal : Cert.ConvPromptIdeal.Facts] [hConvPromptReferenceIdeal : Cert.ConvPromptReferenceIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg)
    (m' : (ℓ : Loc Cert.ConvPromptReferenceIdeal.nD Cert.ConvPromptReferenceIdeal.τ Cert.ConvPromptReferenceIdeal.sig) → Buf (Elt Ideal) ℓ) (g' : Dev Cert.ConvPromptReferenceIdeal.nD → PrngReg), Pre_ConvPromptIdeal m →
    (∀ c : Dev Cert.ConvPromptIdeal.nD,
      m' ((c.tc : Thread Cert.ConvPromptReferenceIdeal.nD Cert.ConvPromptReferenceIdeal.τ).loc Cert.ConvPromptReferenceIdeal.main_arg0) = m ((c.tc : Thread Cert.ConvPromptIdeal.nD Cert.ConvPromptIdeal.τ).loc Cert.ConvPromptIdeal.main_arg0)
      ∧ m' ((c.tc : Thread Cert.ConvPromptReferenceIdeal.nD Cert.ConvPromptReferenceIdeal.τ).loc Cert.ConvPromptReferenceIdeal.main_arg1) = m ((c.tc : Thread Cert.ConvPromptIdeal.nD Cert.ConvPromptIdeal.τ).loc Cert.ConvPromptIdeal.main_arg1)) →
    ∃ (v0 : (c : Dev Cert.ConvPromptIdeal.nD) → Buf (Elt Ideal) ((c.tc : Thread Cert.ConvPromptIdeal.nD Cert.ConvPromptIdeal.τ).loc Cert.ConvPromptIdeal.main_v0_0)) (v1 : (c : Dev Cert.ConvPromptIdeal.nD) → Buf (Elt Ideal) ((c.tc : Thread Cert.ConvPromptIdeal.nD Cert.ConvPromptIdeal.τ).loc Cert.ConvPromptIdeal.main_v0_1)),
      θ_run (Cert.ConvPromptIdeal.defs (F := Ideal)) (onTc (τ := Cert.ConvPromptIdeal.τ) (Cert.ConvPromptIdeal.main (F := Ideal))) ⟨m, fun _ => 0, g⟩ (fun r => ∀ c : Dev Cert.ConvPromptIdeal.nD,
          r.2.mem ((c.tc : Thread Cert.ConvPromptIdeal.nD Cert.ConvPromptIdeal.τ).loc Cert.ConvPromptIdeal.main_v0_0) = v0 c
          ∧ r.2.mem ((c.tc : Thread Cert.ConvPromptIdeal.nD Cert.ConvPromptIdeal.τ).loc Cert.ConvPromptIdeal.main_v0_1) = v1 c
          ∧ r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
          ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1))
      ∧ θ_run (Cert.ConvPromptReferenceIdeal.defs (F := Ideal)) (onTc (τ := Cert.ConvPromptReferenceIdeal.τ) (Cert.ConvPromptReferenceIdeal.main (F := Ideal))) ⟨m', fun _ => 0, g'⟩ (fun r => ∀ c : Dev Cert.ConvPromptReferenceIdeal.nD,
          r.2.mem ((c.tc : Thread Cert.ConvPromptReferenceIdeal.nD Cert.ConvPromptReferenceIdeal.τ).loc Cert.ConvPromptReferenceIdeal.main_v32) = v0 c
          ∧ r.2.mem ((c.tc : Thread Cert.ConvPromptReferenceIdeal.nD Cert.ConvPromptReferenceIdeal.τ).loc Cert.ConvPromptReferenceIdeal.main_v30) = v1 c
          ∧ r.2.mem ((c.tc : Thread Cert.ConvPromptReferenceIdeal.nD Cert.ConvPromptReferenceIdeal.τ).loc Cert.ConvPromptReferenceIdeal.main_arg0) = m' ((c.tc : Thread Cert.ConvPromptReferenceIdeal.nD Cert.ConvPromptReferenceIdeal.τ).loc Cert.ConvPromptReferenceIdeal.main_arg0)
          ∧ r.2.mem ((c.tc : Thread Cert.ConvPromptReferenceIdeal.nD Cert.ConvPromptReferenceIdeal.τ).loc Cert.ConvPromptReferenceIdeal.main_arg1) = m' ((c.tc : Thread Cert.ConvPromptReferenceIdeal.nD Cert.ConvPromptReferenceIdeal.τ).loc Cert.ConvPromptReferenceIdeal.main_arg1))

def preserves_ConvSample_ConvSampleIdeal : Prop :=
  True

def algebraic_ConvSampleIdeal_ConvSampleReferenceIdeal [hConvSampleIdeal : Cert.ConvSampleIdeal.Facts] [hConvSampleReferenceIdeal : Cert.ConvSampleReferenceIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleReferenceIdeal.nD Cert.ConvSampleReferenceIdeal.τ Cert.ConvSampleReferenceIdeal.sig) → Buf (Elt Ideal) ℓ) (g' : Dev Cert.ConvSampleReferenceIdeal.nD → PrngReg), Pre_ConvSampleIdeal m →
    (∀ c : Dev Cert.ConvSampleIdeal.nD,
      m' ((c.tc : Thread Cert.ConvSampleReferenceIdeal.nD Cert.ConvSampleReferenceIdeal.τ).loc Cert.ConvSampleReferenceIdeal.main_arg0) = m ((c.tc : Thread Cert.ConvSampleIdeal.nD Cert.ConvSampleIdeal.τ).loc Cert.ConvSampleIdeal.main_arg0)
      ∧ m' ((c.tc : Thread Cert.ConvSampleReferenceIdeal.nD Cert.ConvSampleReferenceIdeal.τ).loc Cert.ConvSampleReferenceIdeal.main_arg1) = m ((c.tc : Thread Cert.ConvSampleIdeal.nD Cert.ConvSampleIdeal.τ).loc Cert.ConvSampleIdeal.main_arg1)
      ∧ m' ((c.tc : Thread Cert.ConvSampleReferenceIdeal.nD Cert.ConvSampleReferenceIdeal.τ).loc Cert.ConvSampleReferenceIdeal.main_arg2) = m ((c.tc : Thread Cert.ConvSampleIdeal.nD Cert.ConvSampleIdeal.τ).loc Cert.ConvSampleIdeal.main_arg2)) →
    ∃ (v0 : (c : Dev Cert.ConvSampleIdeal.nD) → Buf (Elt Ideal) ((c.tc : Thread Cert.ConvSampleIdeal.nD Cert.ConvSampleIdeal.τ).loc Cert.ConvSampleIdeal.main_v7_0)) (v1 : (c : Dev Cert.ConvSampleIdeal.nD) → Buf (Elt Ideal) ((c.tc : Thread Cert.ConvSampleIdeal.nD Cert.ConvSampleIdeal.τ).loc Cert.ConvSampleIdeal.main_v9)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v7_0) = v0 c
          ∧ r.2.mem ((c.tc : Thread Cert.ConvSampleIdeal.nD Cert.ConvSampleIdeal.τ).loc Cert.ConvSampleIdeal.main_v9) = v1 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2))
      ∧ θ_run (Cert.ConvSampleReferenceIdeal.defs (F := Ideal)) (onTc (τ := Cert.ConvSampleReferenceIdeal.τ) (Cert.ConvSampleReferenceIdeal.main (F := Ideal))) ⟨m', fun _ => 0, g'⟩ (fun r => ∀ c : Dev Cert.ConvSampleReferenceIdeal.nD,
          r.2.mem ((c.tc : Thread Cert.ConvSampleReferenceIdeal.nD Cert.ConvSampleReferenceIdeal.τ).loc Cert.ConvSampleReferenceIdeal.main_v31) = v0 c
          ∧ r.2.mem ((c.tc : Thread Cert.ConvSampleReferenceIdeal.nD Cert.ConvSampleReferenceIdeal.τ).loc Cert.ConvSampleReferenceIdeal.main_v29) = v1 c
          ∧ r.2.mem ((c.tc : Thread Cert.ConvSampleReferenceIdeal.nD Cert.ConvSampleReferenceIdeal.τ).loc Cert.ConvSampleReferenceIdeal.main_arg0) = m' ((c.tc : Thread Cert.ConvSampleReferenceIdeal.nD Cert.ConvSampleReferenceIdeal.τ).loc Cert.ConvSampleReferenceIdeal.main_arg0)
          ∧ r.2.mem ((c.tc : Thread Cert.ConvSampleReferenceIdeal.nD Cert.ConvSampleReferenceIdeal.τ).loc Cert.ConvSampleReferenceIdeal.main_arg1) = m' ((c.tc : Thread Cert.ConvSampleReferenceIdeal.nD Cert.ConvSampleReferenceIdeal.τ).loc Cert.ConvSampleReferenceIdeal.main_arg1)
          ∧ r.2.mem ((c.tc : Thread Cert.ConvSampleReferenceIdeal.nD Cert.ConvSampleReferenceIdeal.τ).loc Cert.ConvSampleReferenceIdeal.main_arg2) = m' ((c.tc : Thread Cert.ConvSampleReferenceIdeal.nD Cert.ConvSampleReferenceIdeal.τ).loc Cert.ConvSampleReferenceIdeal.main_arg2))

def preserves_NormIn_NormInIdeal : Prop :=
  True

def algebraic_NormInIdeal_NormInReferenceIdeal [hNormInIdeal : Cert.NormInIdeal.Facts] [hNormInReferenceIdeal : Cert.NormInReferenceIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)
      ∧ m' ((c.tc : Thread Cert.NormInReferenceIdeal.nD Cert.NormInReferenceIdeal.τ).loc Cert.NormInReferenceIdeal.main_arg2) = m ((c.tc : Thread Cert.NormInIdeal.nD Cert.NormInIdeal.τ).loc Cert.NormInIdeal.main_arg2)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v25) = v0 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2))

def preserves_Sample_SampleIdeal : Prop :=
  True

def algebraic_SampleIdeal_SampleReferenceIdeal_pre_sample_floor_positive [hSampleIdeal : Cert.SampleIdeal.Facts] [hSampleReferenceIdeal : Cert.SampleReferenceIdeal.Facts] [hPre_sample_floor_positive : Cert.Pre_sample_floor_positive.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal_sample_floor_positive m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)) →
    ∃ (v0 : (c : Dev Cert.SampleIdeal.nD) → Buf (Elt Ideal) ((c.tc : Thread Cert.SampleIdeal.nD Cert.SampleIdeal.τ).loc Cert.SampleIdeal.main_v0_0)) (v1 : (c : Dev Cert.SampleIdeal.nD) → Buf (Elt Ideal) ((c.tc : Thread Cert.SampleIdeal.nD Cert.SampleIdeal.τ).loc Cert.SampleIdeal.main_v0_1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v0_0) = v0 c
          ∧ r.2.mem ((c.tc : Thread Cert.SampleIdeal.nD Cert.SampleIdeal.τ).loc Cert.SampleIdeal.main_v0_1) = v1 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v91) = v0 c
          ∧ r.2.mem ((c.tc : Thread Cert.SampleReferenceIdeal.nD Cert.SampleReferenceIdeal.τ).loc Cert.SampleReferenceIdeal.main_v71) = v1 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hConvPrompt : Cert.ConvPrompt.Facts) (hConvPromptIdeal : Cert.ConvPromptIdeal.Facts) (hConvPromptReferenceIdeal : Cert.ConvPromptReferenceIdeal.Facts) (hConvSample : Cert.ConvSample.Facts) (hConvSampleIdeal : Cert.ConvSampleIdeal.Facts) (hConvSampleReferenceIdeal : Cert.ConvSampleReferenceIdeal.Facts) (hNormIn : Cert.NormIn.Facts) (hNormInIdeal : Cert.NormInIdeal.Facts) (hNormInReferenceIdeal : Cert.NormInReferenceIdeal.Facts) (hSample : Cert.Sample.Facts) (hSampleIdeal : Cert.SampleIdeal.Facts) (hSampleReferenceIdeal : Cert.SampleReferenceIdeal.Facts) (hPre_floor_positive : Cert.Pre_floor_positive.Facts) (hPre_sample_floor_positive : Cert.Pre_sample_floor_positive.Facts),
    quiescent_Kernel (hKernel := hKernel)
    ∧ quiescent_KernelIdeal (hKernelIdeal := hKernelIdeal)
    ∧ quiescent_KernelIdeal_pre_floor_positive (hKernelIdeal := hKernelIdeal) (hPre_floor_positive := hPre_floor_positive)
    ∧ quiescent_ReferenceIdeal (hReferenceIdeal := hReferenceIdeal)
    ∧ quiescent_ReferenceIdeal_pre_floor_positive (hReferenceIdeal := hReferenceIdeal) (hPre_floor_positive := hPre_floor_positive)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_ConvPrompt (hConvPrompt := hConvPrompt)
    ∧ quiescent_ConvPromptIdeal (hConvPromptIdeal := hConvPromptIdeal)
    ∧ quiescent_ConvPromptReferenceIdeal (hConvPromptReferenceIdeal := hConvPromptReferenceIdeal)
    ∧ quiescent_ConvSample (hConvSample := hConvSample)
    ∧ quiescent_ConvSampleIdeal (hConvSampleIdeal := hConvSampleIdeal)
    ∧ quiescent_ConvSampleReferenceIdeal (hConvSampleReferenceIdeal := hConvSampleReferenceIdeal)
    ∧ quiescent_NormIn (hNormIn := hNormIn)
    ∧ quiescent_NormInIdeal (hNormInIdeal := hNormInIdeal)
    ∧ quiescent_NormInReferenceIdeal (hNormInReferenceIdeal := hNormInReferenceIdeal)
    ∧ quiescent_Sample (hSample := hSample)
    ∧ quiescent_SampleIdeal (hSampleIdeal := hSampleIdeal)
    ∧ quiescent_SampleIdeal_pre_sample_floor_positive (hSampleIdeal := hSampleIdeal) (hPre_sample_floor_positive := hPre_sample_floor_positive)
    ∧ quiescent_SampleReferenceIdeal (hSampleReferenceIdeal := hSampleReferenceIdeal)
    ∧ quiescent_SampleReferenceIdeal_pre_sample_floor_positive (hSampleReferenceIdeal := hSampleReferenceIdeal) (hPre_sample_floor_positive := hPre_sample_floor_positive)
    ∧ preserves_Kernel_KernelIdeal
    ∧ algebraic_KernelIdeal_ReferenceIdeal_pre_floor_positive (hKernelIdeal := hKernelIdeal) (hReferenceIdeal := hReferenceIdeal) (hPre_floor_positive := hPre_floor_positive)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_ConvPrompt_ConvPromptIdeal
    ∧ algebraic_ConvPromptIdeal_ConvPromptReferenceIdeal (hConvPromptIdeal := hConvPromptIdeal) (hConvPromptReferenceIdeal := hConvPromptReferenceIdeal)
    ∧ preserves_ConvSample_ConvSampleIdeal
    ∧ algebraic_ConvSampleIdeal_ConvSampleReferenceIdeal (hConvSampleIdeal := hConvSampleIdeal) (hConvSampleReferenceIdeal := hConvSampleReferenceIdeal)
    ∧ preserves_NormIn_NormInIdeal
    ∧ algebraic_NormInIdeal_NormInReferenceIdeal (hNormInIdeal := hNormInIdeal) (hNormInReferenceIdeal := hNormInReferenceIdeal)
    ∧ preserves_Sample_SampleIdeal
    ∧ algebraic_SampleIdeal_SampleReferenceIdeal_pre_sample_floor_positive (hSampleIdeal := hSampleIdeal) (hSampleReferenceIdeal := hSampleReferenceIdeal) (hPre_sample_floor_positive := hPre_sample_floor_positive)
-- ==== Pre_floor_positive.lean ====
abbrev S8704x14336 : Shape := ⟨2, ![8704, 14336]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)

variable [Facts]

def fn {F : FTy → Type} [FloatOps F] (main_arg0 : FVec F S8704x14336 .bf16) (main_arg1 : FVec F S1x2048 .f32) (main_arg2 : FVec F S1x2048 .f32) : IVec S1x2048 1 :=
  let main_cst : FVec F S_ .f32 := constant S_ .f32 0x00000000#32
  let main_v0 : FVec F S1x2048 .f32 := broadcastInDim S1x2048 ![] bcast_S_S1x2048 main_cst
  let main_v1 : IVec S1x2048 1 := cmpf .ogt main_arg1 main_v0
  let main_cst_0 : FVec F S_ .f32 := constant S_ .f32 0x7F800000#32
  let main_v2 : FVec F S1x2048 .f32 := broadcastInDim S1x2048 ![] bcast_S_S1x2048 main_cst_0
  let main_v3 : IVec S1x2048 1 := cmpf .olt main_arg1 main_v2
  let main_v4 : IVec S1x2048 1 := andi main_v1 main_v3
  main_v4
-- ==== Pre_sample_floor_positive.lean ====
abbrev S8704x14336 : Shape := ⟨2, ![8704, 14336]⟩
abbrev S1x2048 : Shape := ⟨2, ![1, 2048]⟩
abbrev S128x16x128x128 : Shape := ⟨4, ![128, 16, 128, 128]⟩
abbrev S_ : Shape := ⟨0, ![]⟩

class Facts : Prop where
  bcast_S_S1x2048 : S_.BroadcastsInDim S1x2048 (![] : Fin 0 → Fin S1x2048.rank)

variable [Facts]

def fn {F : FTy → Type} [FloatOps F] (main_arg0 : FVec F S8704x14336 .bf16) (main_arg1 : FVec F S1x2048 .f32) (main_arg2 : FVec F S1x2048 .f32) (main_arg3 : FVec F S128x16x128x128 .f32) : IVec S1x2048 1 :=
  let main_cst : FVec F S_ .f32 := constant S_ .f32 0x00000000#32
  let main_v0 : FVec F S1x2048 .f32 := broadcastInDim S1x2048 ![] bcast_S_S1x2048 main_cst
  let main_v1 : IVec S1x2048 1 := cmpf .ogt main_arg1 main_v0
  let main_cst_0 : FVec F S_ .f32 := constant S_ .f32 0x7F800000#32
  let main_v2 : FVec F S1x2048 .f32 := broadcastInDim S1x2048 ![] bcast_S_S1x2048 main_cst_0
  let main_v3 : IVec S1x2048 1 := cmpf .olt main_arg1 main_v2
  let main_v4 : IVec S1x2048 1 := andi main_v1 main_v3
  main_v4
-- ==== Kernel.lean ====
abbrev S8704x14336 : Shape := ⟨2, ![8704, 14336]⟩
abbrev S1x2048 : Shape := ⟨2, ![1, 2048]⟩
abbrev S8192x2048 : Shape := ⟨2, ![8192, 2048]⟩
abbrev S4x16x128x128 : Shape := ⟨4, ![4, 16, 128, 128]⟩
abbrev S2048x128 : Shape := ⟨2, ![2048, 128]⟩
abbrev S1x128 : Shape := ⟨2, ![1, 128]⟩
abbrev S1x1x128x128 : Shape := ⟨4, ![1, 1, 128, 128]⟩
abbrev S64x64 : Shape := ⟨2, ![64, 64]⟩
abbrev S128x128 : Shape := ⟨2, ![128, 128]⟩
abbrev S512x128 : Shape := ⟨2, ![512, 128]⟩
abbrev S8x64x128 : Shape := ⟨3, ![8, 64, 128]⟩
abbrev S8x1x128 : Shape := ⟨3, ![8, 1, 128]⟩
abbrev S64x128 : Shape := ⟨2, ![64, 128]⟩
abbrev S512 : Shape := ⟨1, ![512]⟩
abbrev S512x1 : Shape := ⟨2, ![512, 1]⟩

abbrev nBuf : Space → Nat
  | .hbm => 5
  | .vmem => 16
  | .smem => 0
  | _ => 0

abbrev bufTy : (tb : Table) → Fin (tcTables nBuf tb) → BufTy
  | .hbm, ⟨0, _⟩ => ⟨S8704x14336, .bf16⟩
  | .hbm, ⟨1, _⟩ => ⟨S1x2048, .f32⟩
  | .hbm, ⟨2, _⟩ => ⟨S1x2048, .f32⟩
  | .hbm, ⟨3, _⟩ => ⟨S8192x2048, .bf16⟩
  | .hbm, ⟨4, _⟩ => ⟨S4x16x128x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | .local _ .vmem, ⟨14, _⟩ => ⟨S1x1x128x128, .f32⟩
  | .local _ .vmem, ⟨15, _⟩ => ⟨S1x1x128x128, .f32⟩
  | _, _ => ⟨S8704x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v12 : BitVec 32 := Scalar.muli arg10 c512_i32
  v12
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v12 : BitVec 32 := Scalar.muli arg10 c512_i32
  let v13 : BitVec 32 := v12
  let v14 : Index := Scalar.indexCast v13
  let c0_8 : Index := 0#32
  ![v14.toNat, 0]
def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8704x14336 : Shape := ⟨2, ![8704, 14336]⟩
abbrev S1x2048 : Shape := ⟨2, ![1, 2048]⟩
abbrev S8192x14336 : Shape := ⟨2, ![8192, 14336]⟩
abbrev S8192x6144 : Shape := ⟨2, ![8192, 6144]⟩
abbrev S4x2048x6144 : Shape := ⟨3, ![4, 2048, 6144]⟩
abbrev S4x2048x2048 : Shape := ⟨3, ![4, 2048, 2048]⟩
abbrev S4x2048x16x128 : Shape := ⟨4, ![4, 2048, 16, 128]⟩
abbrev S16x128 : Shape := ⟨2, ![16, 128]⟩
abbrev S_ : Shape := ⟨0, ![]⟩
abbrev S1x1x16x128 : Shape := ⟨4, ![1, 1, 16, 128]⟩
abbrev S4x16x128x128 : Shape := ⟨4, ![4, 16, 128, 128]⟩
abbrev S64x64 : Shape := ⟨2, ![64, 64]⟩
abbrev S4x32x64x16x128 : Shape := ⟨5, ![4, 32, 64, 16, 128]⟩
abbrev S32x4x64x16x128 : Shape := ⟨5, ![32, 4, 64, 16, 128]⟩
abbrev S1x4x64x16x128 : Shape := ⟨5, ![1, 4, 64, 16, 128]⟩
abbrev S4x64x16x128 : Shape := ⟨4, ![4, 64, 16, 128]⟩
abbrev S4x1x16x128 : Shape := ⟨4, ![4, 1, 16, 128]⟩
abbrev S4x16x64x64 : Shape := ⟨4, ![4, 16, 64, 64]⟩
abbrev S4x16x128x64 : Shape := ⟨4, ![4, 16, 128, 64]⟩
abbrev S4x16x128 : Shape := ⟨3, ![4, 16, 128]⟩
abbrev S4x16x128x1 : Shape := ⟨4, ![4, 16, 128, 1]⟩
abbrev S4x2048x16 : Shape := ⟨3, ![4, 2048, 16]⟩
abbrev S4x2048x16x1 : Shape := ⟨4, ![4, 2048, 16, 1]⟩
abbrev S8192x2048 : Shape := ⟨2, ![8192, 2048]⟩
abbrev S1x1x2048 : Shape := ⟨3, ![1, 1, 2048]⟩

abbrev nBuf : Space → Nat
  | .hbm => 185
  | .vmem => 0
  | .smem => 0
  | _ => 0

abbrev hbmTy0_0 (i : Nat) : BufTy := match i % 128 with
  | 0 => ⟨S8704x14336, .bf16⟩
  | 1 => ⟨S1x2048, .f32⟩
  | 2 => ⟨S1x2048, .f32⟩
  | 3 => ⟨S8192x14336, .bf16⟩
  | 4 => ⟨S8192x14336, .f32⟩
  | 5 => ⟨S8192x6144, .f32⟩
  | 6 => ⟨S4x2048x6144, .f32⟩
  | 7 => ⟨S4x2048x2048, .f32⟩
  | 8 => ⟨S4x2048x2048, .f32⟩
  | 9 => ⟨S4x2048x2048, .f32⟩
  | 10 => ⟨S4x2048x16x128, .f32⟩
  | 11 => ⟨S16x128, .f32⟩
  | 12 => ⟨S_, .f32⟩
  | 13 => ⟨S16x128, .f32⟩
  | 14 => ⟨S16x128, .f32⟩
  | 15 => ⟨S4x2048x16x128, .f32⟩
  | 16 => ⟨S4x2048x16x128, .f32⟩
  | 17 => ⟨S_, .f32⟩
  | 18 => ⟨S4x2048x16x128, .f32⟩
  | 19 => ⟨S4x2048x16x128, .f32⟩
  | 20 => ⟨S_, .f32⟩
  | 21 => ⟨S4x2048x16x128, .f32⟩
  | 22 => ⟨S4x2048x16x128, .f32⟩
  | 23 => ⟨S1x1x16x128, .f32⟩
  | 24 => ⟨S4x2048x16x128, .f32⟩
  | 25 => ⟨S4x2048x16x128, .f32⟩
  | 26 => ⟨S1x1x16x128, .f32⟩
  | 27 => ⟨S4x2048x16x128, .f32⟩
  | 28 => ⟨S4x2048x16x128, .f32⟩
  | 29 => ⟨S4x2048x16x128, .f32⟩
  | 30 => ⟨S_, .f32⟩
  | 31 => ⟨S16x128, .f32⟩
  | 32 => ⟨S16x128, .f32⟩
  | 33 => ⟨S4x2048x16x128, .f32⟩
  | 34 => ⟨S4x2048x16x128, .f32⟩
  | 35 => ⟨S4x2048x16x128, .f32⟩
  | 36 => ⟨S_, .f32⟩
  | 37 => ⟨S4x2048x16x128, .f32⟩
  | 38 => ⟨S4x2048x16x128, .f32⟩
  | 39 => ⟨S_, .f32⟩
  | 40 => ⟨S4x2048x16x128, .f32⟩
  | 41 => ⟨S4x2048x16x128, .f32⟩
  | 42 => ⟨S1x1x16x128, .f32⟩
  | 43 => ⟨S4x2048x16x128, .f32⟩
  | 44 => ⟨S4x2048x16x128, .f32⟩
  | 45 => ⟨S4x2048x16x128, .f32⟩
  | 46 => ⟨S4x2048x16x128, .f32⟩
  | 47 => ⟨S_, .f32⟩
  | 48 => ⟨S4x16x128x128, .f32⟩
  | 49 => ⟨S_, .i1⟩
  | 50 => ⟨S64x64, .i1⟩
  | 51 => ⟨S64x64, .i32⟩
  | 52 => ⟨S_, .i32⟩
  | 53 => ⟨S64x64, .i32⟩
  | 54 => ⟨S64x64, .i32⟩
  | 55 => ⟨S64x64, .i32⟩
  | 56 => ⟨S64x64, .i1⟩
  | 57 => ⟨S_, .i1⟩
  | 58 => ⟨S64x64, .i1⟩
  | 59 => ⟨S64x64, .i1⟩
  | 60 => ⟨S4x32x64x16x128, .f32⟩
  | 61 => ⟨S32x4x64x16x128, .f32⟩
  | 62 => ⟨S4x32x64x16x128, .f32⟩
  | 63 => ⟨S32x4x64x16x128, .f32⟩
  | 64 => ⟨S4x32x64x16x128, .f32⟩
  | 65 => ⟨S32x4x64x16x128, .f32⟩
  | 66 => ⟨S4x32x64x16x128, .f32⟩
  | 67 => ⟨S32x4x64x16x128, .f32⟩
  | 68 => ⟨S_, .f32⟩
  | 69 => ⟨S32x4x64x16x128, .f32⟩
  | 70 => ⟨S_, .i32⟩
  | 71 => ⟨S32x4x64x16x128, .f32⟩
  | 72 => ⟨S32x4x64x16x128, .f32⟩
  | 73 => ⟨S32x4x64x16x128, .f32⟩
  | 74 => ⟨S32x4x64x16x128, .f32⟩
  | 75 => ⟨S64x64, .i1⟩
  | 76 => ⟨S_, .i32⟩
  | 77 => ⟨S4x16x128x128, .f32⟩
  | 78 => ⟨S32x4x64x16x128, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S1x4x64x16x128, .f32⟩
  | 86 => ⟨S4x64x16x128, .f32⟩
  | 87 => ⟨S_, .i32⟩
  | 88 => ⟨S_, .i32⟩
  | 89 => ⟨S_, .i32⟩
  | 90 => ⟨S_, .i32⟩
  | 91 => ⟨S1x4x64x16x128, .f32⟩
  | 92 => ⟨S4x64x16x128, .f32⟩
  | 93 => ⟨S_, .i32⟩
  | 94 => ⟨S_, .i32⟩
  | 95 => ⟨S_, .i32⟩
  | 96 => ⟨S_, .i32⟩
  | 97 => ⟨S1x4x64x16x128, .f32⟩
  | 98 => ⟨S4x64x16x128, .f32⟩
  | 99 => ⟨S_, .i32⟩
  | 100 => ⟨S_, .i32⟩
  | 101 => ⟨S_, .i32⟩
  | 102 => ⟨S_, .i32⟩
  | 103 => ⟨S1x4x64x16x128, .f32⟩
  | 104 => ⟨S4x64x16x128, .f32⟩
  | 105 => ⟨S_, .f32⟩
  | 106 => ⟨S_, .f32⟩
  | 107 => ⟨S4x64x16x128, .f32⟩
  | 108 => ⟨S4x1x16x128, .f32⟩
  | 109 => ⟨S4x64x16x128, .f32⟩
  | 110 => ⟨S4x64x16x128, .f32⟩
  | 111 => ⟨S4x64x16x128, .f32⟩
  | 112 => ⟨S4x64x16x128, .f32⟩
  | 113 => ⟨S4x64x16x128, .f32⟩
  | 114 => ⟨S4x64x16x128, .f32⟩
  | 115 => ⟨S4x64x16x128, .f32⟩
  | 116 => ⟨S4x64x16x128, .f32⟩
  | 117 => ⟨S4x16x64x64, .f32⟩
  | 118 => ⟨S_, .f32⟩
  | 119 => ⟨S_, .f32⟩
  | 120 => ⟨S4x16x64x64, .i1⟩
  | 121 => ⟨S4x16x64x64, .f32⟩
  | 122 => ⟨S4x16x64x64, .f32⟩
  | 123 => ⟨S4x16x128x64, .f32⟩
  | 124 => ⟨S4x64x16x128, .f32⟩
  | 125 => ⟨S4x64x16x128, .f32⟩
  | 126 => ⟨S4x64x16x128, .f32⟩
  | 127 => ⟨S4x16x128x64, .f32⟩
  | _ => ⟨S8704x14336, .bf16⟩

abbrev hbmTy0_1 (i : Nat) : BufTy := match i % 128 with
  | 0 => ⟨S4x64x16x128, .f32⟩
  | 1 => ⟨S4x64x16x128, .f32⟩
  | 2 => ⟨S4x1x16x128, .f32⟩
  | 3 => ⟨S4x16x128, .f32⟩
  | 4 => ⟨S4x16x128, .f32⟩
  | 5 => ⟨S4x16x128x1, .f32⟩
  | 6 => ⟨S4x16x128x128, .f32⟩
  | 7 => ⟨S4x16x128x128, .f32⟩
  | 8 => ⟨S4x1x16x128, .f32⟩
  | 9 => ⟨S4x64x16x128, .f32⟩
  | 10 => ⟨S4x64x16x128, .f32⟩
  | 11 => ⟨S4x64x16x128, .f32⟩
  | 12 => ⟨S4x64x16x128, .f32⟩
  | 13 => ⟨S4x16x128x128, .f32⟩
  | 14 => ⟨S4x16x128x128, .f32⟩
  | 15 => ⟨S1x4x64x16x128, .f32⟩
  | 16 => ⟨S_, .i32⟩
  | 17 => ⟨S_, .i32⟩
  | 18 => ⟨S_, .i32⟩
  | 19 => ⟨S_, .i32⟩
  | 20 => ⟨S32x4x64x16x128, .f32⟩
  | 21 => ⟨S_, .i32⟩
  | 22 => ⟨S_, .i32⟩
  | 23 => ⟨S4x32x64x16x128, .f32⟩
  | 24 => ⟨S4x2048x16x128, .f32⟩
  | 25 => ⟨S4x2048x16x128, .f32⟩
  | 26 => ⟨S_, .f32⟩
  | 27 => ⟨S4x2048x16, .f32⟩
  | 28 => ⟨S4x2048x16x1, .f32⟩
  | 29 => ⟨S_, .f32⟩
  | 30 => ⟨S4x2048x16x1, .f32⟩
  | 31 => ⟨S4x2048x16x1, .f32⟩
  | 32 => ⟨S_, .f32⟩
  | 33 => ⟨S4x2048x16x1, .f32⟩
  | 34 => ⟨S4x2048x16x1, .f32⟩
  | 35 => ⟨S4x2048x16x1, .f32⟩
  | 36 => ⟨S4x2048x16x128, .f32⟩
  | 37 => ⟨S4x2048x16x128, .f32⟩
  | 38 => ⟨S8192x2048, .bf16⟩
  | 39 => ⟨S8192x2048, .f32⟩
  | 40 => ⟨S4x2048x2048, .f32⟩
  | 41 => ⟨S4x2048x2048, .f32⟩
  | 42 => ⟨S1x1x2048, .f32⟩
  | 43 => ⟨S4x2048x2048, .f32⟩
  | 44 => ⟨S4x2048x2048, .f32⟩
  | 45 => ⟨S4x2048x2048, .f32⟩
  | 46 => ⟨S4x2048x2048, .f32⟩
  | 47 => ⟨S_, .f32⟩
  | 48 => ⟨S4x2048x2048, .f32⟩
  | 49 => ⟨S4x2048x2048, .f32⟩
  | 50 => ⟨S_, .f32⟩
  | 51 => ⟨S4x2048x2048, .f32⟩
  | 52 => ⟨S4x2048x2048, .f32⟩
  | 53 => ⟨S4x2048x2048, .f32⟩
  | 54 => ⟨S4x2048x2048, .f32⟩
  | 55 => ⟨S8192x2048, .f32⟩
  | 56 => ⟨S8192x2048, .bf16⟩
  | _ => ⟨S8704x14336, .bf16⟩

abbrev hbmTy (i : Nat) : BufTy := match i / 128 with
  | 0 => hbmTy0_0 i
  | 1 => hbmTy0_1 i
  | _ => ⟨S8704x14336, .bf16⟩

abbrev bufTy : (tb : Table) → Fin (tcTables nBuf tb) → BufTy
  | .hbm, ⟨i, _⟩ => hbmTy i
  | _, _ => ⟨S8704x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_c : Ref sig .tc := ⟨.hbm, 49, rfl⟩
abbrev main_v39 : Ref sig .tc := ⟨.hbm, 50, rfl⟩
abbrev main_call0_v0 : Ref sig .tc := ⟨.hbm, 51, rfl⟩
abbrev main_call0_c : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_c_0 : Ref sig .tc := ⟨.hbm, 57, rfl⟩
abbrev main_call0_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_c_7 : Ref sig .tc := ⟨.hbm, 70, rfl⟩
abbrev main_v50_0 : Ref sig .tc := ⟨.hbm, 71, rfl⟩
abbrev main_v50_1 : Ref sig .tc := ⟨.hbm, 72, rfl⟩
abbrev main_v50_2 : Ref sig .tc := ⟨.hbm, 73, rfl⟩
abbrev main_v50_3 : Ref sig .tc := ⟨.hbm, 74, rfl⟩
abbrev main_v50_4 : Ref sig .tc := ⟨.hbm, 75, rfl⟩
abbrev main_v50_5 : Ref sig .tc := ⟨.hbm, 76, rfl⟩
abbrev main_v50_6 : Ref sig .tc := ⟨.hbm, 77, rfl⟩
abbrev main_v50_7 : Ref sig .tc := ⟨.hbm, 78, rfl⟩
abbrev main_while0c_c_18 : Ref sig .tc := ⟨.hbm, 79, rfl⟩
abbrev main_while0c_v74 : Ref sig .tc := ⟨.hbm, 80, rfl⟩
abbrev main_while0b_call1_c : Ref sig .tc := ⟨.hbm, 81, rfl⟩
abbrev main_while0b_call1_c_0 : Ref sig .tc := ⟨.hbm, 82, rfl⟩
abbrev main_while0b_call1_c_1 : Ref sig .tc := ⟨.hbm, 83, rfl⟩
abbrev main_while0b_call1_c_2 : Ref sig .tc := ⟨.hbm, 84, rfl⟩
abbrev main_while0b_call1_v0 : Ref sig .tc := ⟨.hbm, 85, rfl⟩
abbrev main_while0b_v74 : Ref sig .tc := ⟨.hbm, 86, rfl⟩
abbrev main_while0b_call2_c : Ref sig .tc := ⟨.hbm, 87, rfl⟩
abbrev main_while0b_call2_c_0 : Ref sig .tc := ⟨.hbm, 88, rfl⟩
abbrev main_while0b_call2_c_1 : Ref sig .tc := ⟨.hbm, 89, rfl⟩
abbrev main_while0b_call2_c_2 : Ref sig .tc := ⟨.hbm, 90, rfl⟩
abbrev main_while0b_call2_v0 : Ref sig .tc := ⟨.hbm, 91, rfl⟩
abbrev main_while0b_v75 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_c_2 : Ref sig .tc := ⟨.hbm, 96, rfl⟩
abbrev main_while0b_call3_v0 : Ref sig .tc := ⟨.hbm, 97, rfl⟩
abbrev main_while0b_v76 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_c_2 : Ref sig .tc := ⟨.hbm, 102, rfl⟩
abbrev main_while0b_call4_v0 : Ref sig .tc := ⟨.hbm, 103, rfl⟩
abbrev main_while0b_v77 : Ref sig .tc := ⟨.hbm, 104, rfl⟩
abbrev main_while0b_call5_call0_cst : Ref sig .tc := ⟨.hbm, 105, rfl⟩
abbrev main_while0b_call5_call0_v0 : Ref sig .tc := ⟨.hbm, 106, rfl⟩
abbrev main_while0b_v78 : Ref sig .tc := ⟨.hbm, 107, rfl⟩
abbrev main_while0b_v79 : Ref sig .tc := ⟨.hbm, 108, rfl⟩
abbrev main_while0b_v80 : Ref sig .tc := ⟨.hbm, 109, rfl⟩
abbrev main_while0b_v81 : Ref sig .tc := ⟨.hbm, 110, rfl⟩
abbrev main_while0b_v82 : Ref sig .tc := ⟨.hbm, 111, rfl⟩
abbrev main_while0b_v83 : Ref sig .tc := ⟨.hbm, 112, rfl⟩
abbrev main_while0b_v84 : Ref sig .tc := ⟨.hbm, 113, rfl⟩
abbrev main_while0b_v85 : Ref sig .tc := ⟨.hbm, 114, rfl⟩
abbrev main_while0b_v86 : Ref sig .tc := ⟨.hbm, 115, rfl⟩
abbrev main_while0b_v87 : Ref sig .tc := ⟨.hbm, 116, rfl⟩
abbrev main_while0b_v88 : Ref sig .tc := ⟨.hbm, 117, rfl⟩
abbrev main_while0b_cst_18 : Ref sig .tc := ⟨.hbm, 118, rfl⟩
abbrev main_while0b_call6_v0 : Ref sig .tc := ⟨.hbm, 119, rfl⟩
abbrev main_while0b_call6_v1 : Ref sig .tc := ⟨.hbm, 120, rfl⟩
abbrev main_while0b_call6_v2 : Ref sig .tc := ⟨.hbm, 121, rfl⟩
abbrev main_while0b_v89 : Ref sig .tc := ⟨.hbm, 122, rfl⟩
abbrev main_while0b_v90 : Ref sig .tc := ⟨.hbm, 123, rfl⟩
abbrev main_while0b_v91 : Ref sig .tc := ⟨.hbm, 124, rfl⟩
abbrev main_while0b_v92 : Ref sig .tc := ⟨.hbm, 125, rfl⟩
abbrev main_while0b_v93 : Ref sig .tc := ⟨.hbm, 126, rfl⟩
abbrev main_while0b_v94 : Ref sig .tc := ⟨.hbm, 127, rfl⟩
abbrev main_while0b_v95 : Ref sig .tc := ⟨.hbm, 128, rfl⟩
abbrev main_while0b_v96 : Ref sig .tc := ⟨.hbm, 129, rfl⟩
abbrev main_while0b_v97 : Ref sig .tc := ⟨.hbm, 130, rfl⟩
abbrev main_while0b_v98 : Ref sig .tc := ⟨.hbm, 131, rfl⟩
abbrev main_while0b_v99 : Ref sig .tc := ⟨.hbm, 132, rfl⟩
abbrev main_while0b_v100 : Ref sig .tc := ⟨.hbm, 133, rfl⟩
abbrev main_while0b_v101 : Ref sig .tc := ⟨.hbm, 134, rfl⟩
abbrev main_while0b_v102 : Ref sig .tc := ⟨.hbm, 135, rfl⟩
abbrev main_while0b_v103 : Ref sig .tc := ⟨.hbm, 136, rfl⟩
abbrev main_while0b_v104 : Ref sig .tc := ⟨.hbm, 137, rfl⟩
abbrev main_while0b_v105 : Ref sig .tc := ⟨.hbm, 138, rfl⟩
abbrev main_while0b_v106 : Ref sig .tc := ⟨.hbm, 139, rfl⟩
abbrev main_while0b_v107 : Ref sig .tc := ⟨.hbm, 140, rfl⟩
abbrev main_while0b_v108 : Ref sig .tc := ⟨.hbm, 141, rfl⟩
abbrev main_while0b_v109 : Ref sig .tc := ⟨.hbm, 142, rfl⟩
abbrev main_while0b_call7_v0 : Ref sig .tc := ⟨.hbm, 143, rfl⟩
abbrev main_while0b_call7_c : Ref sig .tc := ⟨.hbm, 144, rfl⟩
abbrev main_while0b_call7_c_0 : Ref sig .tc := ⟨.hbm, 145, rfl⟩
abbrev main_while0b_call7_c_1 : Ref sig .tc := ⟨.hbm, 146, rfl⟩
abbrev main_while0b_call7_c_2 : Ref sig .tc := ⟨.hbm, 147, rfl⟩
abbrev main_while0b_v110 : Ref sig .tc := ⟨.hbm, 148, rfl⟩
abbrev main_while0b_c_19 : Ref sig .tc := ⟨.hbm, 149, rfl⟩
abbrev main_while0b_v111 : Ref sig .tc := ⟨.hbm, 150, rfl⟩
abbrev main_v51 : Ref sig .tc := ⟨.hbm, 151, rfl⟩
abbrev main_v52 : Ref sig .tc := ⟨.hbm, 152, rfl⟩
abbrev main_v53 : Ref sig .tc := ⟨.hbm, 153, rfl⟩
abbrev main_cst_8 : Ref sig .tc := ⟨.hbm, 154, rfl⟩
abbrev main_v54 : Ref sig .tc := ⟨.hbm, 155, rfl⟩
abbrev main_v55 : Ref sig .tc := ⟨.hbm, 156, rfl⟩
abbrev main_cst_9 : Ref sig .tc := ⟨.hbm, 157, rfl⟩
abbrev main_v56 : Ref sig .tc := ⟨.hbm, 158, rfl⟩
abbrev main_v57 : Ref sig .tc := ⟨.hbm, 159, rfl⟩
abbrev main_cst_10 : Ref sig .tc := ⟨.hbm, 160, rfl⟩
abbrev main_v58 : Ref sig .tc := ⟨.hbm, 161, rfl⟩
abbrev main_v59 : Ref sig .tc := ⟨.hbm, 162, rfl⟩
abbrev main_v60 : Ref sig .tc := ⟨.hbm, 163, rfl⟩
abbrev main_v61 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_call8_v0 : Ref sig .tc := ⟨.hbm, 173, rfl⟩
abbrev main_call8_v1 : Ref sig .tc := ⟨.hbm, 174, rfl⟩
abbrev main_call8_cst : Ref sig .tc := ⟨.hbm, 175, rfl⟩
abbrev main_call8_v2 : Ref sig .tc := ⟨.hbm, 176, rfl⟩
abbrev main_call8_v3 : Ref sig .tc := ⟨.hbm, 177, rfl⟩
abbrev main_call8_cst_0 : Ref sig .tc := ⟨.hbm, 178, rfl⟩
abbrev main_call8_v4 : Ref sig .tc := ⟨.hbm, 179, rfl⟩
abbrev main_call8_v5 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩

abbrev nD : Nat := 1
abbrev τ : Topo := Topo.v7x

variable {F : FTy → Type} [FloatOps F]

abbrev main_while0_count : Scf.Loop 32 := ⟨0#32, 32#32, 1#32⟩
-- ==== InProj.lean ====
abbrev S8704x4096 : Shape := ⟨2, ![8704, 4096]⟩
abbrev S4096x14336 : Shape := ⟨2, ![4096, 14336]⟩
abbrev S8704x14336 : Shape := ⟨2, ![8704, 14336]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S4096x14336, .f32⟩
  | .hbm, ⟨2, _⟩ => ⟨S8704x14336, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S4096x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S8704x4096 : Shape := ⟨2, ![8704, 4096]⟩
abbrev S4096x14336 : Shape := ⟨2, ![4096, 14336]⟩
abbrev S8704x14336 : Shape := ⟨2, ![8704, 14336]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x14336, .f32⟩
  | .hbm, ⟨2, _⟩ => ⟨S8704x4096, .f32⟩
  | .hbm, ⟨3, _⟩ => ⟨S8704x14336, .f32⟩
  | .hbm, ⟨4, _⟩ => ⟨S8704x14336, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S8192x2048 : Shape := ⟨2, ![8192, 2048]⟩
abbrev S8192x4096 : Shape := ⟨2, ![8192, 4096]⟩
abbrev S512x2048 : Shape := ⟨2, ![512, 2048]⟩
abbrev S512x4096 : Shape := ⟨2, ![512, 4096]⟩
abbrev S4096x4096 : Shape := ⟨2, ![4096, 4096]⟩
abbrev S8704x4096 : Shape := ⟨2, ![8704, 4096]⟩
abbrev S512x1024 : Shape := ⟨2, ![512, 1024]⟩
abbrev S2048x1024 : Shape := ⟨2, ![2048, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S512x2048, .bf16⟩
  | .hbm, ⟨4, _⟩ => ⟨S512x2048, .bf16⟩
  | .hbm, ⟨5, _⟩ => ⟨S512x4096, .f32⟩
  | .hbm, ⟨6, _⟩ => ⟨S4096x4096, .f32⟩
  | .hbm, ⟨7, _⟩ => ⟨S4096x4096, .bf16⟩
  | .hbm, ⟨8, _⟩ => ⟨S8704x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S512x1024, .f32⟩
  | .local _ .vmem, ⟨17, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c16_i32 : BitVec 32 := 16#32
  let v0 : BitVec 1 := Scalar.cmpi .slt arg1 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c16_i32_0 : BitVec 32 := 16#32
  let v3 : BitVec 1 := Scalar.cmpi .sge arg1 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutProjReferenceIdeal.lean ====
abbrev S8192x2048 : Shape := ⟨2, ![8192, 2048]⟩
abbrev S8192x4096 : Shape := ⟨2, ![8192, 4096]⟩
abbrev S512x2048 : Shape := ⟨2, ![512, 2048]⟩
abbrev S512x4096 : Shape := ⟨2, ![512, 4096]⟩
abbrev S4096x4096 : Shape := ⟨2, ![4096, 4096]⟩
abbrev S8704x4096 : Shape := ⟨2, ![8704, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S512x2048, .bf16⟩
  | .hbm, ⟨4, _⟩ => ⟨S512x2048, .bf16⟩
  | .hbm, ⟨5, _⟩ => ⟨S512x4096, .f32⟩
  | .hbm, ⟨6, _⟩ => ⟨S4096x4096, .f32⟩
  | .hbm, ⟨7, _⟩ => ⟨S8192x2048, .f32⟩
  | .hbm, ⟨8, _⟩ => ⟨S8192x2048, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S512x2048, .f32⟩
  | .hbm, ⟨13, _⟩ => ⟨S512x2048, .f32⟩
  | .hbm, ⟨14, _⟩ => ⟨S512x4096, .f32⟩
  | .hbm, ⟨15, _⟩ => ⟨S512x4096, .f32⟩
  | .hbm, ⟨16, _⟩ => ⟨S512x4096, .f32⟩
  | .hbm, ⟨17, _⟩ => ⟨S8704x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== ConvPrompt.lean ====
abbrev S8704x14336 : Shape := ⟨2, ![8704, 14336]⟩
abbrev S3x2048 : Shape := ⟨2, ![3, 2048]⟩
abbrev S8192x2048 : Shape := ⟨2, ![8192, 2048]⟩
abbrev S4x2x2048 : Shape := ⟨3, ![4, 2, 2048]⟩
abbrev S512x2048 : Shape := ⟨2, ![512, 2048]⟩
abbrev S1x2x2048 : Shape := ⟨3, ![1, 2, 2048]⟩
abbrev S8x2048 : Shape := ⟨2, ![8, 2048]⟩
abbrev S1x2048 : Shape := ⟨2, ![1, 2048]⟩
abbrev S2x2048 : Shape := ⟨2, ![2, 2048]⟩

abbrev nBuf : Space → Nat
  | .hbm => 4
  | .vmem => 12
  | .smem => 0
  | _ => 0

abbrev bufTy : (tb : Table) → Fin (tcTables nBuf tb) → BufTy
  | .hbm, ⟨0, _⟩ => ⟨S8704x14336, .bf16⟩
  | .hbm, ⟨1, _⟩ => ⟨S3x2048, .f32⟩
  | .hbm, ⟨2, _⟩ => ⟨S8192x2048, .bf16⟩
  | .hbm, ⟨3, _⟩ => ⟨S4x2x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S3x2048, .f32⟩
  | .local _ .vmem, ⟨7, _⟩ => ⟨S512x2048, .bf16⟩
  | .local _ .vmem, ⟨8, _⟩ => ⟨S512x2048, .bf16⟩
  | .local _ .vmem, ⟨9, _⟩ => ⟨S1x2x2048, .f32⟩
  | .local _ .vmem, ⟨10, _⟩ => ⟨S1x2x2048, .f32⟩
  | .local _ .vmem, ⟨11, _⟩ => ⟨S8x2048, .f32⟩
  | _, _ => ⟨S8704x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ConvPromptReferenceIdeal.lean ====
abbrev S8704x14336 : Shape := ⟨2, ![8704, 14336]⟩
abbrev S3x2048 : Shape := ⟨2, ![3, 2048]⟩
abbrev S8192x6144 : Shape := ⟨2, ![8192, 6144]⟩
abbrev S4x2048x6144 : Shape := ⟨3, ![4, 2048, 6144]⟩
abbrev S_ : Shape := ⟨0, ![]⟩
abbrev S4x2x2048 : Shape := ⟨3, ![4, 2, 2048]⟩
abbrev S4x2048x2048 : Shape := ⟨3, ![4, 2048, 2048]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8704x14336, .bf16⟩
  | .hbm, ⟨1, _⟩ => ⟨S3x2048, .f32⟩
  | .hbm, ⟨2, _⟩ => ⟨S8192x6144, .bf16⟩
  | .hbm, ⟨3, _⟩ => ⟨S8192x6144, .f32⟩
  | .hbm, ⟨4, _⟩ => ⟨S4x2048x6144, .f32⟩
  | .hbm, ⟨5, _⟩ => ⟨S_, .f32⟩
  | .hbm, ⟨6, _⟩ => ⟨S4x2x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2050x2048, .f32⟩
  | .hbm, ⟨12, _⟩ => ⟨S4x2048x2048, .f32⟩
  | .hbm, ⟨13, _⟩ => ⟨S1x2048, .f32⟩
  | .hbm, ⟨14, _⟩ => ⟨S2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2x2048, .f32⟩
  | .hbm, ⟨34, _⟩ => ⟨S4x2048x2048, .bf16⟩
  | .hbm, ⟨35, _⟩ => ⟨S8192x2048, .bf16⟩
  | _, _ => ⟨S8704x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩

abbrev nD : Nat := 1
abbrev τ : Topo := Topo.v7x

variable {F : FTy → Type} [FloatOps F]
-- ==== ConvSample.lean ====
abbrev S8704x14336 : Shape := ⟨2, ![8704, 14336]⟩
abbrev S3x2048 : Shape := ⟨2, ![3, 2048]⟩
abbrev S128x2x2048 : Shape := ⟨3, ![128, 2, 2048]⟩
abbrev S_ : Shape := ⟨0, ![]⟩
abbrev S128x3x2048 : Shape := ⟨3, ![128, 3, 2048]⟩
abbrev S128x1x2048 : Shape := ⟨3, ![128, 1, 2048]⟩
abbrev S128x4x2048 : Shape := ⟨3, ![128, 4, 2048]⟩
abbrev S512x2048 : Shape := ⟨2, ![512, 2048]⟩
abbrev S1x2048 : Shape := ⟨2, ![1, 2048]⟩

abbrev nBuf : Space → Nat
  | .hbm => 15
  | .vmem => 8
  | .smem => 0
  | _ => 0

abbrev bufTy : (tb : Table) → Fin (tcTables nBuf tb) → BufTy
  | .hbm, ⟨0, _⟩ => ⟨S8704x14336, .bf16⟩
  | .hbm, ⟨1, _⟩ => ⟨S3x2048, .f32⟩
  | .hbm, ⟨2, _⟩ => ⟨S128x2x2048, .f32⟩
  | .hbm, ⟨3, _⟩ => ⟨S_, .f32⟩
  | .hbm, ⟨4, _⟩ => ⟨S128x3x2048, .f32⟩
  | .hbm, ⟨5, _⟩ => ⟨S128x1x2048, .f32⟩
  | .hbm, ⟨6, _⟩ => ⟨S128x4x2048, .f32⟩
  | .hbm, ⟨7, _⟩ => ⟨S512x2048, .f32⟩
  | .hbm, ⟨8, _⟩ => ⟨S128x2x2048, .f32⟩
  | .hbm, ⟨9, _⟩ => ⟨S128x4x2048, .f32⟩
  | .hbm, ⟨10, _⟩ => ⟨S512x2048, .f32⟩
  | .hbm, ⟨11, _⟩ => ⟨S512x2048, .bf16⟩
  | .hbm, ⟨12, _⟩ => ⟨S512x2048, .f32⟩
  | .hbm, ⟨13, _⟩ => ⟨S128x4x2048, .f32⟩
  | .hbm, ⟨14, _⟩ => ⟨S128x2x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S3x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .f32⟩
  | _, _ => ⟨S8704x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![c16_i32.toNat, arg0.toNat]

def cc0_transform_1 (i : grid0.Coords) : Fin 2 → Nat :=
  let arg0 : BitVec 32 := BitVec.ofNat 32 (i 0).val
  let c1_i32 : BitVec 32 := 1#32
  let v0 : BitVec 32 := Scalar.addi c1_i32 arg0
  let c16_i32 : BitVec 32 := 16#32
  let c0_i32 : BitVec 32 := 0#32
  ![c16_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.addi c2_i32 arg0
  let c16_i32 : BitVec 32 := 16#32
  let c0_i32 : BitVec 32 := 0#32
  ![c16_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ConvSampleReferenceIdeal.lean ====
abbrev S8704x14336 : Shape := ⟨2, ![8704, 14336]⟩
abbrev S3x2048 : Shape := ⟨2, ![3, 2048]⟩
abbrev S128x2x2048 : Shape := ⟨3, ![128, 2, 2048]⟩
abbrev S512x6144 : Shape := ⟨2, ![512, 6144]⟩
abbrev S128x4x6144 : Shape := ⟨3, ![128, 4, 6144]⟩
abbrev S128x4x2048 : Shape := ⟨3, ![128, 4, 2048]⟩
abbrev S128x6x2048 : Shape := ⟨3, ![128, 6, 2048]⟩
abbrev S1x2048 : Shape := ⟨2, ![1, 2048]⟩
abbrev S2048 : Shape := ⟨1, ![2048]⟩
abbrev S1x1x2048 : Shape := ⟨3, ![1, 1, 2048]⟩
abbrev S512x2048 : Shape := ⟨2, ![512, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8704x14336, .bf16⟩
  | .hbm, ⟨1, _⟩ => ⟨S3x2048, .f32⟩
  | .hbm, ⟨2, _⟩ => ⟨S128x2x2048, .f32⟩
  | .hbm, ⟨3, _⟩ => ⟨S512x6144, .bf16⟩
  | .hbm, ⟨4, _⟩ => ⟨S512x6144, .f32⟩
  | .hbm, ⟨5, _⟩ => ⟨S128x4x6144, .f32⟩
  | .hbm, ⟨6, _⟩ => ⟨S128x4x2048, .f32⟩
  | .hbm, ⟨7, _⟩ => ⟨S128x4x2048, .f32⟩
  | .hbm, ⟨8, _⟩ => ⟨S128x4x2048, .f32⟩
  | .hbm, ⟨9, _⟩ => ⟨S128x4x2048, .f32⟩
  | .hbm, ⟨10, _⟩ => ⟨S128x6x2048, .f32⟩
  | .hbm, ⟨11, _⟩ => ⟨S128x4x2048, .f32⟩
  | .hbm, ⟨12, _⟩ => ⟨S1x2048, .f32⟩
  | .hbm, ⟨13, _⟩ => ⟨S2048, .f32⟩
  | .hbm, ⟨14, _⟩ => ⟨S1x1x2048, .f32⟩
  | .hbm, ⟨15, _⟩ => ⟨S128x4x2048, .f32⟩
  | .hbm, ⟨16, _⟩ => ⟨S128x4x2048, .f32⟩
  | .hbm, ⟨17, _⟩ => ⟨S128x4x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S128x4x2048, .f32⟩
  | .hbm, ⟨22, _⟩ => ⟨S128x4x2048, .f32⟩
  | .hbm, ⟨23, _⟩ => ⟨S128x4x2048, .f32⟩
  | .hbm, ⟨24, _⟩ => ⟨S128x4x2048, .f32⟩
  | .hbm, ⟨25, _⟩ => ⟨S1x2048, .f32⟩
  | .hbm, ⟨26, _⟩ => ⟨S2048, .f32⟩
  | .hbm, ⟨27, _⟩ => ⟨S1x1x2048, .f32⟩
  | .hbm, ⟨28, _⟩ => ⟨S128x4x2048, .f32⟩
  | .hbm, ⟨29, _⟩ => ⟨S128x4x2048, .f32⟩
  | .hbm, ⟨30, _⟩ => ⟨S128x4x2048, .f32⟩
  | .hbm, ⟨31, _⟩ => ⟨S128x4x2048, .f32⟩
  | .hbm, ⟨32, _⟩ => ⟨S128x2x2048, .f32⟩
  | .hbm, ⟨33, _⟩ => ⟨S128x4x2048, .bf16⟩
  | .hbm, ⟨34, _⟩ => ⟨S512x2048, .bf16⟩
  | _, _ => ⟨S8704x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== NormIn.lean ====
abbrev S8192x4096 : Shape := ⟨2, ![8192, 4096]⟩
abbrev S512x4096 : Shape := ⟨2, ![512, 4096]⟩
abbrev S1x4096 : Shape := ⟨2, ![1, 4096]⟩
abbrev S8704x4096 : Shape := ⟨2, ![8704, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S1x4096, .f32⟩
  | .hbm, ⟨3, _⟩ => ⟨S8704x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormInReferenceIdeal.lean ====
abbrev S8192x4096 : Shape := ⟨2, ![8192, 4096]⟩
abbrev S512x4096 : Shape := ⟨2, ![512, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S512 : Shape := ⟨1, ![512]⟩
abbrev S512x1 : Shape := ⟨2, ![512, 1]⟩
abbrev S8704x4096 : Shape := ⟨2, ![8704, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S1x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S512x4096, .f32⟩
  | .hbm, ⟨19, _⟩ => ⟨S_, .f32⟩
  | .hbm, ⟨20, _⟩ => ⟨S512, .f32⟩
  | .hbm, ⟨21, _⟩ => ⟨S512x1, .f32⟩
  | .hbm, ⟨22, _⟩ => ⟨S_, .f32⟩
  | .hbm, ⟨23, _⟩ => ⟨S512x1, .f32⟩
  | .hbm, ⟨24, _⟩ => ⟨S512x1, .f32⟩
  | .hbm, ⟨25, _⟩ => ⟨S_, .f32⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S512x4096, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S8704x4096, .f32⟩
  | .hbm, ⟨34, _⟩ => ⟨S8704x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Sample.lean ====
abbrev S8704x14336 : Shape := ⟨2, ![8704, 14336]⟩
abbrev S1x2048 : Shape := ⟨2, ![1, 2048]⟩
abbrev S128x16x128x128 : Shape := ⟨4, ![128, 16, 128, 128]⟩
abbrev S512x2048 : Shape := ⟨2, ![512, 2048]⟩
abbrev S16x2048 : Shape := ⟨2, ![16, 2048]⟩
abbrev S4x16x128x128 : Shape := ⟨4, ![4, 16, 128, 128]⟩
abbrev S8x128 : Shape := ⟨2, ![8, 128]⟩
abbrev S8x8 : Shape := ⟨2, ![8, 8]⟩
abbrev S8x256 : Shape := ⟨2, ![8, 256]⟩
abbrev S32x256 : Shape := ⟨2, ![32, 256]⟩
abbrev S1x1x128x128 : Shape := ⟨4, ![1, 1, 128, 128]⟩
abbrev S128x128 : Shape := ⟨2, ![128, 128]⟩
abbrev S128x256 : Shape := ⟨2, ![128, 256]⟩
abbrev S32x128 : Shape := ⟨2, ![32, 128]⟩
abbrev S16x128 : Shape := ⟨2, ![16, 128]⟩
abbrev S1x128 : Shape := ⟨2, ![1, 128]⟩
abbrev S16 : Shape := ⟨1, ![16]⟩
abbrev S16x1 : Shape := ⟨2, ![16, 1]⟩

abbrev nBuf : Space → Nat
  | .hbm => 6
  | .vmem => 16
  | .smem => 0
  | _ => 0

abbrev bufTy : (tb : Table) → Fin (tcTables nBuf tb) → BufTy
  | .hbm, ⟨0, _⟩ => ⟨S8704x14336, .bf16⟩
  | .hbm, ⟨1, _⟩ => ⟨S1x2048, .f32⟩
  | .hbm, ⟨2, _⟩ => ⟨S1x2048, .f32⟩
  | .hbm, ⟨3, _⟩ => ⟨S128x16x128x128, .f32⟩
  | .hbm, ⟨4, _⟩ => ⟨S512x2048, .bf16⟩
  | .hbm, ⟨5, _⟩ => ⟨S128x16x128x128, .f32⟩
  | .local _ .vmem, ⟨0, _⟩ => ⟨S16x2048, .bf16⟩
  | .local _ .vmem, ⟨1, _⟩ => ⟨S16x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S16x2048, .bf16⟩
  | .local _ .vmem, ⟨7, _⟩ => ⟨S16x2048, .bf16⟩
  | .local _ .vmem, ⟨8, _⟩ => ⟨S1x2048, .f32⟩
  | .local _ .vmem, ⟨9, _⟩ => ⟨S1x2048, .f32⟩
  | .local _ .vmem, ⟨10, _⟩ => ⟨S4x16x128x128, .f32⟩
  | .local _ .vmem, ⟨11, _⟩ => ⟨S4x16x128x128, .f32⟩
  | .local _ .vmem, ⟨12, _⟩ => ⟨S16x2048, .bf16⟩
  | .local _ .vmem, ⟨13, _⟩ => ⟨S16x2048, .bf16⟩
  | .local _ .vmem, ⟨14, _⟩ => ⟨S4x16x128x128, .f32⟩
  | .local _ .vmem, ⟨15, _⟩ => ⟨S4x16x128x128, .f32⟩
  | _, _ => ⟨S8704x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c512_i32 : BitVec 32 := 512#32
  let v0 : BitVec 32 := Scalar.addi c512_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c512_i32 : BitVec 32 := 512#32
  let v0 : BitVec 32 := Scalar.addi c512_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c512_i32 : BitVec 32 := 512#32
  let v0 : BitVec 32 := Scalar.addi c512_i32 arg0
  let c5_i32 : BitVec 32 := 5#32
  let c0_i32 : BitVec 32 := 0#32
  ![v0.toNat, c5_i32.toNat]

def cc0_transform_3 (i : grid0.Coords) : Fin 2 → Nat :=
  let arg0 : BitVec 32 := BitVec.ofNat 32 (i 0).val
  let c512_i32 : BitVec 32 := 512#32
  let v0 : BitVec 32 := Scalar.addi c512_i32 arg0
  let c6_i32 : BitVec 32 := 6#32
  let c0_i32 : BitVec 32 := 0#32
  ![v0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SampleReferenceIdeal.lean ====
abbrev S8704x14336 : Shape := ⟨2, ![8704, 14336]⟩
abbrev S1x2048 : Shape := ⟨2, ![1, 2048]⟩
abbrev S128x16x128x128 : Shape := ⟨4, ![128, 16, 128, 128]⟩
abbrev S512x14336 : Shape := ⟨2, ![512, 14336]⟩
abbrev S512x6144 : Shape := ⟨2, ![512, 6144]⟩
abbrev S128x4x6144 : Shape := ⟨3, ![128, 4, 6144]⟩
abbrev S128x4x2048 : Shape := ⟨3, ![128, 4, 2048]⟩
abbrev S128x4x16x128 : Shape := ⟨4, ![128, 4, 16, 128]⟩
abbrev S16x128 : Shape := ⟨2, ![16, 128]⟩
abbrev S_ : Shape := ⟨0, ![]⟩
abbrev S1x1x16x128 : Shape := ⟨4, ![1, 1, 16, 128]⟩
abbrev S4x4 : Shape := ⟨2, ![4, 4]⟩
abbrev S128x1x16x128 : Shape := ⟨4, ![128, 1, 16, 128]⟩
abbrev S128x16x4x4 : Shape := ⟨4, ![128, 16, 4, 4]⟩
abbrev S128x16x128x4 : Shape := ⟨4, ![128, 16, 128, 4]⟩
abbrev S128x16x128 : Shape := ⟨3, ![128, 16, 128]⟩
abbrev S128x16x128x1 : Shape := ⟨4, ![128, 16, 128, 1]⟩
abbrev S128x4x16 : Shape := ⟨3, ![128, 4, 16]⟩
abbrev S128x4x16x1 : Shape := ⟨4, ![128, 4, 16, 1]⟩
abbrev S512x2048 : Shape := ⟨2, ![512, 2048]⟩
abbrev S1x1x2048 : Shape := ⟨3, ![1, 1, 2048]⟩

abbrev nBuf : Space → Nat
  | .hbm => 128
  | .vmem => 0
  | .smem => 0
  | _ => 0

abbrev bufTy : (tb : Table) → Fin (tcTables nBuf tb) → BufTy
  | .hbm, ⟨0, _⟩ => ⟨S8704x14336, .bf16⟩
  | .hbm, ⟨1, _⟩ => ⟨S1x2048, .f32⟩
  | .hbm, ⟨2, _⟩ => ⟨S1x2048, .f32⟩
  | .hbm, ⟨3, _⟩ => ⟨S128x16x128x128, .f32⟩
  | .hbm, ⟨4, _⟩ => ⟨S512x14336, .bf16⟩
  | .hbm, ⟨5, _⟩ => ⟨S512x14336, .f32⟩
  | .hbm, ⟨6, _⟩ => ⟨S512x6144, .f32⟩
  | .hbm, ⟨7, _⟩ => ⟨S128x4x6144, .f32⟩
  | .hbm, ⟨8, _⟩ => ⟨S128x4x2048, .f32⟩
  | .hbm, ⟨9, _⟩ => ⟨S128x4x2048, .f32⟩
  | .hbm, ⟨10, _⟩ => ⟨S128x4x2048, .f32⟩
  | .hbm, ⟨11, _⟩ => ⟨S128x4x16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S128x4x16x128, .f32⟩
  | .hbm, ⟨17, _⟩ => ⟨S128x4x16x128, .f32⟩
  | .hbm, ⟨18, _⟩ => ⟨S_, .f32⟩
  | .hbm, ⟨19, _⟩ => ⟨S128x4x16x128, .f32⟩
  | .hbm, ⟨20, _⟩ => ⟨S128x4x16x128, .f32⟩
  | .hbm, ⟨21, _⟩ => ⟨S_, .f32⟩
  | .hbm, ⟨22, _⟩ => ⟨S128x4x16x128, .f32⟩
  | .hbm, ⟨23, _⟩ => ⟨S128x4x16x128, .f32⟩
  | .hbm, ⟨24, _⟩ => ⟨S1x1x16x128, .f32⟩
  | .hbm, ⟨25, _⟩ => ⟨S128x4x16x128, .f32⟩
  | .hbm, ⟨26, _⟩ => ⟨S128x4x16x128, .f32⟩
  | .hbm, ⟨27, _⟩ => ⟨S1x1x16x128, .f32⟩
  | .hbm, ⟨28, _⟩ => ⟨S128x4x16x128, .f32⟩
  | .hbm, ⟨29, _⟩ => ⟨S128x4x16x128, .f32⟩
  | .hbm, ⟨30, _⟩ => ⟨S128x4x16x128, .f32⟩
  | .hbm, ⟨31, _⟩ => ⟨S_, .f32⟩
  | .hbm, ⟨32, _⟩ => ⟨S16x128, .f32⟩
  | .hbm, ⟨33, _⟩ => ⟨S16x128, .f32⟩
  | .hbm, ⟨34, _⟩ => ⟨S128x4x16x128, .f32⟩
  | .hbm, ⟨35, _⟩ => ⟨S128x4x16x128, .f32⟩
  | .hbm, ⟨36, _⟩ => ⟨S128x4x16x128, .f32⟩
  | .hbm, ⟨37, _⟩ => ⟨S_, .f32⟩
  | .hbm, ⟨38, _⟩ => ⟨S128x4x16x128, .f32⟩
  | .hbm, ⟨39, _⟩ => ⟨S128x4x16x128, .f32⟩
  | .hbm, ⟨40, _⟩ => ⟨S_, .f32⟩
  | .hbm, ⟨41, _⟩ => ⟨S128x4x16x128, .f32⟩
  | .hbm, ⟨42, _⟩ => ⟨S128x4x16x128, .f32⟩
  | .hbm, ⟨43, _⟩ => ⟨S1x1x16x128, .f32⟩
  | .hbm, ⟨44, _⟩ => ⟨S128x4x16x128, .f32⟩
  | .hbm, ⟨45, _⟩ => ⟨S128x4x16x128, .f32⟩
  | .hbm, ⟨46, _⟩ => ⟨S128x4x16x128, .f32⟩
  | .hbm, ⟨47, _⟩ => ⟨S128x4x16x128, .f32⟩
  | .hbm, ⟨48, _⟩ => ⟨S_, .i1⟩
  | .hbm, ⟨49, _⟩ => ⟨S4x4, .i1⟩
  | .hbm, ⟨50, _⟩ => ⟨S4x4, .i32⟩
  | .hbm, ⟨51, _⟩ => ⟨S_, .i32⟩
  | .hbm, ⟨52, _⟩ => ⟨S4x4, .i32⟩
  | .hbm, ⟨53, _⟩ => ⟨S4x4, .i32⟩
  | .hbm, ⟨54, _⟩ => ⟨S4x4, .i32⟩
  | .hbm, ⟨55, _⟩ => ⟨S4x4, .i1⟩
  | .hbm, ⟨56, _⟩ => ⟨S_, .i1⟩
  | .hbm, ⟨57, _⟩ => ⟨S4x4, .i1⟩
  | .hbm, ⟨58, _⟩ => ⟨S4x4, .i1⟩
  | .hbm, ⟨59, _⟩ => ⟨S_, .f32⟩
  | .hbm, ⟨60, _⟩ => ⟨S_, .f32⟩
  | .hbm, ⟨61, _⟩ => ⟨S128x4x16x128, .f32⟩
  | .hbm, ⟨62, _⟩ => ⟨S128x1x16x128, .f32⟩
  | .hbm, ⟨63, _⟩ => ⟨S128x4x16x128, .f32⟩
  | .hbm, ⟨64, _⟩ => ⟨S128x4x16x128, .f32⟩
  | .hbm, ⟨65, _⟩ => ⟨S128x4x16x128, .f32⟩
  | .hbm, ⟨66, _⟩ => ⟨S128x4x16x128, .f32⟩
  | .hbm, ⟨67, _⟩ => ⟨S128x4x16x128, .f32⟩
  | .hbm, ⟨68, _⟩ => ⟨S128x4x16x128, .f32⟩
  | .hbm, ⟨69, _⟩ => ⟨S128x4x16x128, .f32⟩
  | .hbm, ⟨70, _⟩ => ⟨S128x4x16x128, .f32⟩
  | .hbm, ⟨71, _⟩ => ⟨S128x16x4x4, .f32⟩
  | .hbm, ⟨72, _⟩ => ⟨S_, .f32⟩
  | .hbm, ⟨73, _⟩ => ⟨S_, .f32⟩
  | .hbm, ⟨74, _⟩ => ⟨S128x16x4x4, .i1⟩
  | .hbm, ⟨75, _⟩ => ⟨S128x16x4x4, .f32⟩
  | .hbm, ⟨76, _⟩ => ⟨S128x16x4x4, .f32⟩
  | .hbm, ⟨77, _⟩ => ⟨S128x16x128x4, .f32⟩
  | .hbm, ⟨78, _⟩ => ⟨S128x4x16x128, .f32⟩
  | .hbm, ⟨79, _⟩ => ⟨S128x4x16x128, .f32⟩
  | .hbm, ⟨80, _⟩ => ⟨S128x4x16x128, .f32⟩
  | .hbm, ⟨81, _⟩ => ⟨S128x16x128x4, .f32⟩
  | .hbm, ⟨82, _⟩ => ⟨S128x4x16x128, .f32⟩
  | .hbm, ⟨83, _⟩ => ⟨S128x4x16x128, .f32⟩
  | .hbm, ⟨84, _⟩ => ⟨S128x1x16x128, .f32⟩
  | .hbm, ⟨85, _⟩ => ⟨S128x16x128, .f32⟩
  | .hbm, ⟨86, _⟩ => ⟨S128x16x128, .f32⟩
  | .hbm, ⟨87, _⟩ => ⟨S128x16x128x1, .f32⟩
  | .hbm, ⟨88, _⟩ => ⟨S128x16x128x128, .f32⟩
  | .hbm, ⟨89, _⟩ => ⟨S128x16x128x128, .f32⟩
  | .hbm, ⟨90, _⟩ => ⟨S128x1x16x128, .f32⟩
  | .hbm, ⟨91, _⟩ => ⟨S128x4x16x128, .f32⟩
  | .hbm, ⟨92, _⟩ => ⟨S128x4x16x128, .f32⟩
  | .hbm, ⟨93, _⟩ => ⟨S128x4x16x128, .f32⟩
  | .hbm, ⟨94, _⟩ => ⟨S128x4x16x128, .f32⟩
  | .hbm, ⟨95, _⟩ => ⟨S128x16x128x128, .f32⟩
  | .hbm, ⟨96, _⟩ => ⟨S128x16x128x128, .f32⟩
  | .hbm, ⟨97, _⟩ => ⟨S128x4x16x128, .f32⟩
  | .hbm, ⟨98, _⟩ => ⟨S_, .f32⟩
  | .hbm, ⟨99, _⟩ => ⟨S128x4x16, .f32⟩
  | .hbm, ⟨100, _⟩ => ⟨S128x4x16x1, .f32⟩
  | .hbm, ⟨101, _⟩ => ⟨S_, .f32⟩
  | .hbm, ⟨102, _⟩ => ⟨S128x4x16x1, .f32⟩
  | .hbm, ⟨103, _⟩ => ⟨S128x4x16x1, .f32⟩
  | .hbm, ⟨104, _⟩ => ⟨S_, .f32⟩
  | .hbm, ⟨105, _⟩ => ⟨S128x4x16x1, .f32⟩
  | .hbm, ⟨106, _⟩ => ⟨S128x4x16x1, .f32⟩
  | .hbm, ⟨107, _⟩ => ⟨S128x4x16x1, .f32⟩
  | .hbm, ⟨108, _⟩ => ⟨S128x4x16x128, .f32⟩
  | .hbm, ⟨109, _⟩ => ⟨S128x4x16x128, .f32⟩
  | .hbm, ⟨110, _⟩ => ⟨S512x2048, .f32⟩
  | .hbm, ⟨111, _⟩ => ⟨S128x4x2048, .f32⟩
  | .hbm, ⟨112, _⟩ => ⟨S128x4x2048, .f32⟩
  | .hbm, ⟨113, _⟩ => ⟨S1x1x2048, .f32⟩
  | .hbm, ⟨114, _⟩ => ⟨S128x4x2048, .f32⟩
  | .hbm, ⟨115, _⟩ => ⟨S128x4x2048, .f32⟩
  | .hbm, ⟨116, _⟩ => ⟨S128x4x2048, .f32⟩
  | .hbm, ⟨117, _⟩ => ⟨S128x4x2048, .f32⟩
  | .hbm, ⟨118, _⟩ => ⟨S_, .f32⟩
  | .hbm, ⟨119, _⟩ => ⟨S128x4x2048, .f32⟩
  | .hbm, ⟨120, _⟩ => ⟨S128x4x2048, .f32⟩
  | .hbm, ⟨121, _⟩ => ⟨S_, .f32⟩
  | .hbm, ⟨122, _⟩ => ⟨S128x4x2048, .f32⟩
  | .hbm, ⟨123, _⟩ => ⟨S128x4x2048, .f32⟩
  | .hbm, ⟨124, _⟩ => ⟨S128x4x2048, .f32⟩
  | .hbm, ⟨125, _⟩ => ⟨S128x4x2048, .f32⟩
  | .hbm, ⟨126, _⟩ => ⟨S512x2048, .f32⟩
  | .hbm, ⟨127, _⟩ => ⟨S512x2048, .bf16⟩
  | _, _ => ⟨S8704x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_v38 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_c_0 : Ref sig .tc := ⟨.hbm, 56, rfl⟩
abbrev main_call0_v5 : Ref sig .tc := ⟨.hbm, 57, rfl⟩
abbrev main_v39 : Ref sig .tc := ⟨.hbm, 58, rfl⟩
abbrev main_call1_call0_cst : Ref sig .tc := ⟨.hbm, 59, rfl⟩
abbrev main_call1_call0_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_6 : Ref sig .tc := ⟨.hbm, 98, rfl⟩
abbrev main_v73 : Ref sig .tc := ⟨.hbm, 99, rfl⟩
abbrev main_v74 : Ref sig .tc := ⟨.hbm, 100, rfl⟩
abbrev main_cst_7 : Ref sig .tc := ⟨.hbm, 101, rfl⟩
abbrev main_v75 : Ref sig .tc := ⟨.hbm, 102, rfl⟩
abbrev main_v76 : Ref sig .tc := ⟨.hbm, 103, rfl⟩
abbrev main_cst_8 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]
-- ==== Proof.Spec.lean ====
/-
  The recurrence of one head of one sequence, written over the extended reals.

  A row `t` of the sequence has a query `Q t`, a value `V t` and a forget logit `G t` (functions on the head's 128
  lanes); `lb` is the head's lower bound of the forget gate.  The sequence is cut into chunks of 64 rows; `st n` is the
  128 × 128 state before chunk `n`, and `out n i` is row `i` of chunk `n` of what the recurrence reads out.
-/
module

public import Idealize.ShloMosaic.Lib.Pointwise

@[expose] public section

set_option maxRecDepth 16384

noncomputable section

open Idealize.ShloMosaic

namespace Cert.Recurrence

/-- The logistic function as both programs spell it. -/
def sg (x : EReal) : EReal := Ideal.div 1 (1 + Ideal.exp (-x))

/-- The logistic function is a real number between 0 and 1, at the infinities too. -/
theorem sg_real (x : EReal) : ∃ s : ℝ, 0 ≤ s ∧ s ≤ 1 ∧ sg x = (s : EReal) ∧ sg (-x) = ((1 - s : ℝ) : EReal) := by
  have ht : (1 : EReal) + ⊤ = ⊤ := EReal.add_top_of_ne_bot (EReal.coe_ne_bot 1)
  have h0 : sg ⊥ = 0 := by simp [sg, Ideal.div, ht]
  have h1 : sg ⊤ = 1 := by simp [sg, Ideal.div]
  induction x using EReal.rec with
  | bot => exact ⟨0, le_refl _, zero_le_one, by simpa using h0, by simpa using h1⟩
  | top => exact ⟨1, zero_le_one, le_refl _, by simpa using h1, by simpa using h0⟩
  | coe r =>
    have key : ∀ r : ℝ, sg (r : EReal) = (((1 + Real.exp (-r))⁻¹ : ℝ) : EReal) := by
      intro r
      have hp : (1 + Real.exp (-r)) ≠ 0 := by positivity
      have : (1 : EReal) + Ideal.exp (-(r : EReal)) = ((1 + Real.exp (-r) : ℝ) : EReal) := by
        rw [← EReal.coe_neg, Ideal.exp_coe, ← EReal.coe_one, ← EReal.coe_add]
      rw [sg, this, Ideal.div, if_neg (by exact_mod_cast hp), one_mul, EReal.coe_inv]
    refine ⟨(1 + Real.exp (-r))⁻¹, by positivity, ?_, key r, ?_⟩
    · exact inv_le_one_of_one_le₀ (by linarith [Real.exp_pos (-r)])
    · rw [← EReal.coe_neg, key]
      congr 1
      have e1 := Real.exp_pos r
      have : Real.exp (-r) = (Real.exp r)⁻¹ := Real.exp_neg r
      rw [neg_neg, this]
      field_simp
      ring

/-- One minus the logistic function is the logistic function of the negated argument. -/
theorem one_sub_sg (x : EReal) : 1 - sg x = sg (-x) := by
  obtain ⟨s, -, -, h, h'⟩ := sg_real x
  rw [h, h', ← EReal.coe_one, ← EReal.coe_sub]

section
variable (lb : Fin 128 → EReal) (Q G V : ℕ → Fin 128 → EReal)

/-- The logarithm of the forget gate. -/
def lf (t : ℕ) (d : Fin 128) : EReal := Ideal.log (lb d + (1 - lb d) * sg (G t d))

/-- The key: one minus the forget gate. -/
def key (t : ℕ) (d : Fin 128) : EReal := (1 - lb d) * sg (-(G t d))

/-- The sum of the log gates of chunk `n` up to row `i`. -/
def cum (n i : ℕ) (d : Fin 128) : EReal := ∑ j ∈ Finset.range (i + 1), lf lb G (64 * n + j) d

/-- The state after chunk `n`, from the state before it. -/
def step (n : ℕ) (S : Fin 128 → Fin 128 → EReal) (d e : Fin 128) : EReal :=
  Ideal.exp (cum lb G n 63 d) * S d e
    + ∑ j : Fin 64, key lb G (64 * n + j) d * Ideal.exp (cum lb G n 63 d - cum lb G n j d) * V (64 * n + j) e

/-- The state before chunk `n`. -/
def st : ℕ → Fin 128 → Fin 128 → EReal
  | 0 => fun _ _ => 0
  | n + 1 => step lb G V n (st n)

/-- The weight of row `j` in row `i` of chunk `n`: zero above the diagonal. -/
def score (n : ℕ) (i j : Fin 64) : EReal :=
  if j ≤ i then ∑ d : Fin 128, Q (64 * n + i) d * Ideal.exp (cum lb G n i d - cum lb G n 31 d)
      * (key lb G (64 * n + j) d * Ideal.exp (cum lb G n 31 d - cum lb G n j d)) else 0

/-- Row `i` of chunk `n` of the recurrence's output. -/
def out (n : ℕ) (i : Fin 64) (e : Fin 128) : EReal :=
  (∑ j : Fin 64, V (64 * n + j) e * score lb Q G n i j)
    + ∑ d : Fin 128, st lb G V n d e * (Q (64 * n + i) d * Ideal.exp (cum lb G n i d))

/-- A row of the recurrence's output after its RMS norm and the gate: `ng` is the norm's weight, `g` the gate's logit. -/
def gated (o ng : Fin 128 → EReal) (g : EReal) (e : Fin 128) : EReal :=
  o e * Ideal.rsqrt (Ideal.div (∑ x : Fin 128, o x * o x) (Ideal.ofBits .f32 0x43000000#32)
      + Ideal.ofBits .f32 0x358637BD#32) * ng e * (g * sg g)

end

/-- The log gate is a real number when the lower bound is a positive one. -/
theorem lf_real {lb : Fin 128 → EReal} (G : ℕ → Fin 128 → EReal) (h : ∀ d, ∃ r : ℝ, 0 < r ∧ lb d = r) (t : ℕ) (d : Fin 128) :
    ∃ r : ℝ, lf lb G t d = r := by
  obtain ⟨l, hl, e⟩ := h d
  obtain ⟨s, h0, h1, hs, -⟩ := sg_real (G t d)
  have hp : 0 < l + (1 - l) * s := by
    rcases eq_or_lt_of_le h0 with h | h
    · rw [← h]; linarith
    · nlinarith [mul_nonneg hl.le (sub_nonneg.2 h1)]
  refine ⟨Real.log (l + (1 - l) * s), ?_⟩
  rw [lf, e, hs, ← EReal.coe_one, ← EReal.coe_sub, ← EReal.coe_mul, ← EReal.coe_add, Ideal.log_coe, if_neg (not_le.2 hp)]

/-- So are their sums. -/
theorem cum_real {lb : Fin 128 → EReal} (G : ℕ → Fin 128 → EReal) (h : ∀ d, ∃ r : ℝ, 0 < r ∧ lb d = r) (n i : ℕ) (d : Fin 128) :
    ∃ r : ℝ, cum lb G n i d = r := by
  refine Finset.sum_induction (fun j => lf lb G (64 * n + j) d) (fun x => ∃ r : ℝ, x = r) ?_ ⟨0, rfl⟩ fun j _ => lf_real G h _ d
  rintro _ _ ⟨a, rfl⟩ ⟨b, rfl⟩
  exact ⟨a + b, (EReal.coe_add a b).symm⟩

/-- Two decays in turn are one decay. -/
theorem exp_sub_mul_exp {a b c : EReal} (ha : ∃ r : ℝ, a = r) (hb : ∃ r : ℝ, b = r) (hc : ∃ r : ℝ, c = r) :
    Ideal.exp (a - b) * Ideal.exp (c - a) = Ideal.exp (c - b) := by
  obtain ⟨a, rfl⟩ := ha; obtain ⟨b, rfl⟩ := hb; obtain ⟨c, rfl⟩ := hc
  rw [← EReal.coe_sub, ← EReal.coe_sub, ← EReal.coe_sub, Ideal.exp_coe, Ideal.exp_coe, Ideal.exp_coe, ← EReal.coe_mul,
    ← Real.exp_add]
  congr 2; ring

/-- A decay relative to a row and that row's own decay are the whole decay. -/
theorem exp_sub_mul_exp' {a c : EReal} (ha : ∃ r : ℝ, a = r) (hc : ∃ r : ℝ, c = r) :
    Ideal.exp (c - a) * Ideal.exp a = Ideal.exp c := by
  obtain ⟨a, rfl⟩ := ha; obtain ⟨c, rfl⟩ := hc
  rw [← EReal.coe_sub, Ideal.exp_coe, Ideal.exp_coe, Ideal.exp_coe, ← EReal.coe_mul, ← Real.exp_add]
  congr 2; ring

section
variable {lb : Fin 128 → EReal} (Q G V : ℕ → Fin 128 → EReal)

/-- The state's update with each key decayed first to the chunk's middle row and from there to its end. -/
theorem step_mid (h : ∀ d, ∃ r : ℝ, 0 < r ∧ lb d = r) (n : ℕ) (S : Fin 128 → Fin 128 → EReal) (d e : Fin 128) :
    Ideal.exp (cum lb G n 63 d) * S d e
      + ∑ j : Fin 64, V (64 * n + j) e * (key lb G (64 * n + j) d * Ideal.exp (cum lb G n 31 d - cum lb G n j d)
          * Ideal.exp (cum lb G n 63 d - cum lb G n 31 d))
      = step lb G V n S d e := by
  rw [step]
  congr 1
  refine Finset.sum_congr rfl fun j _ => ?_
  rw [mul_comm, mul_assoc (key _ _ _ _), exp_sub_mul_exp (cum_real G h n 31 d) (cum_real G h n j d) (cum_real G h n 63 d)]

/-- A row of the output with the query decayed first relative to the chunk's middle row. -/
theorem out_mid (h : ∀ d, ∃ r : ℝ, 0 < r ∧ lb d = r) (n : ℕ) (i : Fin 64) (e : Fin 128) :
    (∑ j : Fin 64, score lb Q G n i j * V (64 * n + j) e)
      + ∑ d : Fin 128, Q (64 * n + i) d * Ideal.exp (cum lb G n i d - cum lb G n 31 d) * Ideal.exp (cum lb G n 31 d)
          * st lb G V n d e
      = out lb Q G V n i e := by
  rw [out]
  congr 1
  · exact Finset.sum_congr rfl fun j _ => mul_comm _ _
  · refine Finset.sum_congr rfl fun d _ => ?_
    rw [mul_assoc (Q _ _), exp_sub_mul_exp' (cum_real G h n 31 d) (cum_real G h n i d), mul_comm]

end

/-- Sums over the last `w` rows, doubled: a window of `w` rows and the window of `w` rows before it. -/
theorem sum_window (f : ℕ → EReal) (i w : ℕ) (hw : 0 < w) :
    (∑ j ∈ Finset.Ico (i + 1 - w) (i + 1), f j)
      + (if w ≤ i then ∑ j ∈ Finset.Ico (i - w + 1 - w) (i - w + 1), f j else 0)
      = ∑ j ∈ Finset.Ico (i + 1 - 2 * w) (i + 1), f j := by
  by_cases h : w ≤ i
  · rw [if_pos h, add_comm, show i - w + 1 = i + 1 - w by omega, show i + 1 - w - w = i + 1 - 2 * w by omega]
    exact Finset.sum_Ico_consecutive f (by omega) (by omega)
  · rw [if_neg h, add_zero, show i + 1 - w = 0 by omega, show i + 1 - 2 * w = 0 by omega]

end Cert.Recurrence

end
-- ==== Proof.Trip.lean ====
/-
  What one trip of the kernel's loop computes: 512 rows of one head, in eight chunks of 64.
-/
module

public import proofs.«01_k».proof.Proof.Gen.KernelIdeal.Value
public import proofs.«01_k».proof.Proof.Spec

@[expose] public section

set_option maxRecDepth 16384

noncomputable section

open Idealize.ShloMosaic Idealize.ShloMosaic.TcCoe Idealize.SL.Sem

namespace Cert.KernelIdeal.Value

open Cert.KernelIdeal Cert.KernelIdeal.Gen Cert.Recurrence

variable {F : FTy → Type} [FloatOps F]

/-- The output of the chunk of 64 rows from row `o` on, from the state before it. -/
def chunkOut (o : ℕ) (h : S512x128.Slices ![o, 0] S64x128) (qe ke qb v : FVec F S512x128 .bf16) (S : FVec F S128x128 .f32) :
    FVec F S64x128 .f32 :=
  addf
    (matmul dot_S64x64_S64x128_S64x128_1_0_0_1_n_n none
      (truncf .bf16 (select k0_pay1
        (matmul dot_S64x128_S64x128_S64x64_1_1_0_0_n_n none (extractStridedSlice S64x128 ![o, 0] qe h)
          (extractStridedSlice S64x128 ![o, 0] ke h) (constant S64x64 .f32 0x00000000#32))
        (broadcast S64x64 (Scalar.ofBits .f32 0x00000000#32))) bitsLt_bf16_f32)
      (extractStridedSlice S64x128 ![o, 0] v h) (constant S64x128 .f32 0x00000000#32))
    (matmul dot_S64x128_S128x128_S64x128_1_1_0_0_n_n none (extractStridedSlice S64x128 ![o, 0] qb h)
      (truncf .bf16 S bitsLt_bf16_f32) (constant S64x128 .f32 0x00000000#32))

/-- The (transposed) state after the chunk of 64 rows from row `o` on, from the state before it. -/
def chunkState (o : ℕ) (h : S512x128.Slices ![o, 0] S64x128) (h1 : S512x128.Slices ![o, 0] S1x128)
    (bend : FVec F S512x128 .f32) (kd v : FVec F S512x128 .bf16) (S : FVec F S128x128 .f32) : FVec F S128x128 .f32 :=
  addf (mulf (broadcastTo S128x128 (exp (extractStridedSlice S1x128 ![o, 0] bend h1)) broadcasts_S1x128_S128x128) S)
    (matmul dot_S64x128_S64x128_S128x128_0_0_1_1_n_n none (extractStridedSlice S64x128 ![o, 0] v h)
      (extractStridedSlice S64x128 ![o, 0] kd h) (constant S128x128 .f32 0x00000000#32))

/-- The running sums of the log gates of a trip's rows, each chunk's from its own start. -/
def tB (lb : Vec F S1x128 .f32) (xf : Vec F S512x128 .bf16) : FVec F S512x128 .f32 := k0_pay12 (k0_pay8 lb xf) k0_pay10 k0_pay11
/-- The running sum at the chunk's middle row, at each of its rows. -/
def tMid (lb : Vec F S1x128 .f32) (xf : Vec F S512x128 .bf16) : FVec F S512x128 .f32 := k0_pay16 (k0_pay8 lb xf) k0_pay10 k0_pay11
/-- The running sum at the chunk's last row, at each of its rows. -/
def tEnd (lb : Vec F S1x128 .f32) (xf : Vec F S512x128 .bf16) : FVec F S512x128 .f32 := k0_pay18 (k0_pay17 (k0_pay8 lb xf) k0_pay10 k0_pay11)
/-- The queries relative to the chunk's middle row. -/
def tQe (lb : Vec F S1x128 .f32) (xq xf : Vec F S512x128 .bf16) : FVec F S512x128 .bf16 := k0_pay21 (k0_pay5 xq) (tB lb xf) (tMid lb xf)
/-- The keys relative to the chunk's middle row. -/
def tKe (lb : Vec F S1x128 .f32) (xf : Vec F S512x128 .bf16) : FVec F S512x128 .bf16 := k0_pay22 (k0_pay9 lb xf) (tB lb xf) (tMid lb xf)
/-- The queries decayed from the chunk's start. -/
def tQb (lb : Vec F S1x128 .f32) (xq xf : Vec F S512x128 .bf16) : FVec F S512x128 .bf16 :=
  k0_pay23 (k0_pay5 xq) (tB lb xf) (k0_pay14 (k0_pay8 lb xf) k0_pay10 k0_pay11) (tMid lb xf)
/-- The keys decayed to the chunk's end. -/
def tKd (lb : Vec F S1x128 .f32) (xf : Vec F S512x128 .bf16) : FVec F S512x128 .bf16 :=
  k0_pay24 (k0_pay9 lb xf) (tB lb xf) (k0_pay14 (k0_pay8 lb xf) k0_pay10 k0_pay11) (k0_pay15 (k0_pay8 lb xf) k0_pay10 k0_pay11) (tMid lb xf)

section
variable (lb : Vec F S1x128 .f32) (xq xf xv : Vec F S512x128 .bf16) (S : FVec F S128x128 .f32)
/-- The state after the trip's first chunk; `tS2` … `tS8` after the next ones. -/
def tS1 : FVec F S128x128 .f32 := chunkState 0 slices_S512x128_o0_0_S64x128 slices_S512x128_o0_0_S1x128 (tEnd lb xf) (tKd lb xf) xv S
/-- The state after two chunks. -/
def tS2 : FVec F S128x128 .f32 := chunkState 64 slices_S512x128_o64_0_S64x128 slices_S512x128_o64_0_S1x128 (tEnd lb xf) (tKd lb xf) xv (tS1 lb xf xv S)
/-- The state after three chunks. -/
def tS3 : FVec F S128x128 .f32 := chunkState 128 slices_S512x128_o128_0_S64x128 slices_S512x128_o128_0_S1x128 (tEnd lb xf) (tKd lb xf) xv (tS2 lb xf xv S)
/-- The state after four chunks. -/
def tS4 : FVec F S128x128 .f32 := chunkState 192 slices_S512x128_o192_0_S64x128 slices_S512x128_o192_0_S1x128 (tEnd lb xf) (tKd lb xf) xv (tS3 lb xf xv S)
/-- The state after five chunks. -/
def tS5 : FVec F S128x128 .f32 := chunkState 256 slices_S512x128_o256_0_S64x128 slices_S512x128_o256_0_S1x128 (tEnd lb xf) (tKd lb xf) xv (tS4 lb xf xv S)
/-- The state after six chunks. -/
def tS6 : FVec F S128x128 .f32 := chunkState 320 slices_S512x128_o320_0_S64x128 slices_S512x128_o320_0_S1x128 (tEnd lb xf) (tKd lb xf) xv (tS5 lb xf xv S)
/-- The state after seven chunks. -/
def tS7 : FVec F S128x128 .f32 := chunkState 384 slices_S512x128_o384_0_S64x128 slices_S512x128_o384_0_S1x128 (tEnd lb xf) (tKd lb xf) xv (tS6 lb xf xv S)
/-- The state after the trip. -/
def tS8 : FVec F S128x128 .f32 := chunkState 448 slices_S512x128_o448_0_S64x128 slices_S512x128_o448_0_S1x128 (tEnd lb xf) (tKd lb xf) xv (tS7 lb xf xv S)

/-- The trip's 512 rows of the recurrence's output. -/
def tOut : FVec F S512x128 .f32 :=
  concatenate S512x128 0
    [⟨S64x128, chunkOut 0 slices_S512x128_o0_0_S64x128 (tQe lb xq xf) (tKe lb xf) (tQb lb xq xf) xv S⟩,
     ⟨S64x128, chunkOut 64 slices_S512x128_o64_0_S64x128 (tQe lb xq xf) (tKe lb xf) (tQb lb xq xf) xv (tS1 lb xf xv S)⟩,
     ⟨S64x128, chunkOut 128 slices_S512x128_o128_0_S64x128 (tQe lb xq xf) (tKe lb xf) (tQb lb xq xf) xv (tS2 lb xf xv S)⟩,
     ⟨S64x128, chunkOut 192 slices_S512x128_o192_0_S64x128 (tQe lb xq xf) (tKe lb xf) (tQb lb xq xf) xv (tS3 lb xf xv S)⟩,
     ⟨S64x128, chunkOut 256 slices_S512x128_o256_0_S64x128 (tQe lb xq xf) (tKe lb xf) (tQb lb xq xf) xv (tS4 lb xf xv S)⟩,
     ⟨S64x128, chunkOut 320 slices_S512x128_o320_0_S64x128 (tQe lb xq xf) (tKe lb xf) (tQb lb xq xf) xv (tS5 lb xf xv S)⟩,
     ⟨S64x128, chunkOut 384 slices_S512x128_o384_0_S64x128 (tQe lb xq xf) (tKe lb xf) (tQb lb xq xf) xv (tS6 lb xf xv S)⟩,
     ⟨S64x128, chunkOut 448 slices_S512x128_o448_0_S64x128 (tQe lb xq xf) (tKe lb xf) (tQb lb xq xf) xv (tS7 lb xf xv S)⟩]
    concatenates_S64x128_S64x128_S64x128_S64x128_S64x128_S64x128_S64x128_S64x128_S512x128_d0

/-- The mean square of each row, with the norm's epsilon. -/
def tVar (o : FVec F S512x128 .f32) : FVec F S512x1 .f32 :=
  addf (divf (shapeCast S512x1 (multiReduction .add [1] S512 (mulf o o) 0x00000000#32 reduces_S512x128_S512 (.inl rfl) rfl) shapeCasts_S512_S512x1)
    (broadcast S512x1 (Scalar.ofBits .f32 0x43000000#32))) (broadcast S512x1 (Scalar.ofBits .f32 0x358637BD#32))

/-- What the trip stores: its rows normalised and gated. -/
def tStore (ng : Vec F S1x128 .f32) (xg : Vec F S512x128 .bf16) : FVec F S512x128 .bf16 :=
  k0_pay3 ng (tOut lb xq xf xv S) (k0_pay44 xg) (tVar (tOut lb xq xf xv S))
end

section
variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S1x1x128x128 .f32) (harg9 : arg9.IsWhole) (v0 : Vec F S1x128 .f32) (v1 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (acc : FVec F S128x128 .f32)

/-- The rows trip `k` loads of a buffer. -/
abbrev ldRows (arg : Memref sig .tc .vmem S2048x128 .bf16) (X : BufTy.Contents (Elt F) arg.view.ty) (k : Fin k0_t1_loop.trips) : Vec F S512x128 .bf16 :=
  View.readAt (Elt F) arg.view (Rect.unit (s := S2048x128) (k0_off1 k) S512x128.size (k0_off1_inb k)).toLoadRect X

/-- The state a trip hands on. -/
theorem tripR_eq : tripR_k0_t1 𝒱 c bd i arg2 harg2 arg3 harg3 arg4 harg4 arg5 harg5 arg6 harg6 arg7 harg7 arg8 harg8 arg9 harg9 v0 v1 X_arg2 X_arg3 X_arg4 X_arg5 k acc
    = tS8 v0 (ldRows arg3 X_arg3 k) (ldRows arg4 X_arg4 k) acc := by
  unfold tripR_k0_t1 trip_k0_t1
  rfl

/-- The one piece a trip stores. -/
theorem tripL_eq : tripL_k0_t1 𝒱 c bd i arg2 harg2 arg3 harg3 arg4 harg4 arg5 harg5 arg6 harg6 arg7 harg7 arg8 harg8 arg9 harg9 v0 v1 X_arg2 X_arg3 X_arg4 X_arg5 k acc
    = [⟨Rect.unit (s := S2048x128) (k0_off1 k) S512x128.size (k0_off1_inb k),
        tStore v0 (ldRows arg2 X_arg2 k) (ldRows arg3 X_arg3 k) (ldRows arg4 X_arg4 k) acc v1 (ldRows arg5 X_arg5 k)⟩] := by
  unfold tripL_k0_t1 trip_k0_t1
  rfl
end

end Cert.KernelIdeal.Value

end
-- ==== Proof.TripValue.lean ====
/-
  One trip's rows and state, read at an index: the chunks of the recurrence.
-/
module

public import proofs.«01_k».proof.Proof.Trip

@[expose] public section

set_option maxRecDepth 16384

noncomputable section

open Idealize.ShloMosaic Idealize.ShloMosaic.TcCoe Idealize.SL.Sem

namespace Cert.KernelIdeal.Value

open Cert.KernelIdeal Cert.KernelIdeal.Gen Cert.Recurrence

/-- One doubling of the running sums: add the row `w` rows above, where it lies in the same chunk. -/
def dbl {F : FTy → Type} [FloatOps F] (w : BitVec 32) (x : FVec F S512x128 .f32) : FVec F S512x128 .f32 :=
  addf x (select (cmpi .sge k0_pay10 (broadcast S512x128 w)) (dynamicRotate 0 w none x rotates_S512x128_d0)
    (broadcast S512x128 (Scalar.ofBits .f32 0x00000000#32)))

/-- A row's place in its chunk. -/
theorem pos_at (r : Fin 512) (d : Fin 128) : k0_pay10 (ix2 r d) = BitVec.ofNat 32 (r.val % 64) := by
  pointwise [k0_pay10]
  revert r
  decide +kernel

/-- The comparison of two small words is the numbers'. -/
theorem sge_small : ∀ a b : Fin 64, IntOp.cmpi CmpIPredicate.sge (BitVec.ofNat 32 a.val) (BitVec.ofNat 32 b.val) = if b.val ≤ a.val then 1#1 else 0#1 := by
  decide +kernel

theorem sle_small : ∀ a b : Fin 64, IntOp.cmpi CmpIPredicate.sle (BitVec.ofNat 32 a.val) (BitVec.ofNat 32 b.val) = if a.val ≤ b.val then 1#1 else 0#1 := by
  decide +kernel

/-- A doubling at an index. -/
theorem dbl_at (x : FVec Ideal S512x128 .f32) (w : ℕ) (hw : w < 64) (r : Fin 512) (d : Fin 128) :
    dbl (BitVec.ofNat 32 w) x (ix2 r d) = x (ix2 r d) + if h : w ≤ r.val % 64 then x (ix2 ⟨r.val - w, by omega⟩ d) else 0 := by
  have ht : (BitVec.ofNat 32 w).toNat = w := by rw [BitVec.toNat_ofNat, Nat.mod_eq_of_lt (by omega)]
  pointwise [dbl, pos_at]
  rw [sge_small ⟨r.val % 64, Nat.mod_lt _ (by omega)⟩ ⟨w, hw⟩]
  by_cases h : w ≤ r.val % 64
  · rw [if_pos h, dif_pos h]
    congr 1
    refine (congrArg x ((ix2_inj ..).2 ⟨Fin.ext ?_, rfl⟩) : x (ix2 _ d) = x (ix2 _ d))
    simp only [ht]
    omega
  · rw [if_neg h, dif_neg h]
    rfl

/-- Running sums of `w` rows, doubled. -/
theorem dbl_window (f : ℕ → ℕ → Fin 128 → EReal) (x : FVec Ideal S512x128 .f32) (w : ℕ) (h0 : 0 < w) (hw : w < 64)
    (hx : ∀ (r : Fin 512) (d : Fin 128), x (ix2 r d) = ∑ j ∈ Finset.Ico (r.val % 64 + 1 - w) (r.val % 64 + 1), f (r.val / 64) j d)
    (r : Fin 512) (d : Fin 128) :
    dbl (BitVec.ofNat 32 w) x (ix2 r d)
      = ∑ j ∈ Finset.Ico (r.val % 64 + 1 - 2 * w) (r.val % 64 + 1), f (r.val / 64) j d := by
  rw [dbl_at x w hw, ← sum_window _ _ w h0, hx]
  congr 1
  by_cases h : w ≤ r.val % 64
  · rw [dif_pos h, if_pos h, hx]
    simp only
    rw [show (r.val - w) % 64 = r.val % 64 - w by omega, show (r.val - w) / 64 = r.val / 64 by omega]
  · rw [dif_neg h, if_neg h]

/-- Six doublings of the log gates are the running sums of whole chunks. -/
theorem run_sums (f : ℕ → ℕ → Fin 128 → EReal) (x : FVec Ideal S512x128 .f32)
    (hx : ∀ (r : Fin 512) (d : Fin 128), x (ix2 r d) = f (r.val / 64) (r.val % 64) d) (r : Fin 512) (d : Fin 128) :
    k0_pay12 x k0_pay10 k0_pay11 (ix2 r d) = ∑ j ∈ Finset.range (r.val % 64 + 1), f (r.val / 64) j d := by
  have e : k0_pay12 x k0_pay10 k0_pay11 = dbl 32#32 (dbl 16#32 (dbl 8#32 (dbl 4#32 (dbl 2#32 (dbl 1#32 x))))) := rfl
  have h1 : ∀ (r : Fin 512) (d : Fin 128), x (ix2 r d) = ∑ j ∈ Finset.Ico (r.val % 64 + 1 - 1) (r.val % 64 + 1), f (r.val / 64) j d := by
    intro r d
    rw [hx, Nat.add_sub_cancel, Nat.Ico_succ_singleton, Finset.sum_singleton]
  have h := dbl_window f _ 32 (by omega) (by omega) (dbl_window f _ 16 (by omega) (by omega) (dbl_window f _ 8 (by omega) (by omega)
    (dbl_window f _ 4 (by omega) (by omega) (dbl_window f _ 2 (by omega) (by omega) (dbl_window f x 1 (by omega) (by omega) h1))))) r d
  rw [e]
  refine h.trans ?_
  rw [show r.val % 64 + 1 - 2 * 32 = 0 by omega, Finset.range_eq_Ico]

section
variable (lb ng : FVec Ideal S1x128 .f32) (xq xf xv xg : FVec Ideal S512x128 .bf16) (k : ℕ)
variable (L N : Fin 128 → EReal) (Q G V P : ℕ → Fin 128 → EReal)

/-- The trip's vectors are rows `512 k …` of the head's columns. -/
structure Rows : Prop where
  lb : ∀ d, lb (ix2 0 d) = L d
  q : ∀ (r : Fin 512) d, xq (ix2 r d) = Q (512 * k + r.val) d
  g : ∀ (r : Fin 512) d, xf (ix2 r d) = G (512 * k + r.val) d
  v : ∀ (r : Fin 512) d, xv (ix2 r d) = V (512 * k + r.val) d
  pos : ∀ d, ∃ r : ℝ, 0 < r ∧ L d = r

variable {lb xq xf xv k L Q G V} (H : Rows lb xq xf xv k L Q G V)
include H

theorem tB_at (r : Fin 512) (d : Fin 128) : tB (F := Ideal) lb xf (ix2 r d) = cum L G (8 * k + r.val / 64) (r.val % 64) d := by
  refine run_sums (fun c j d => lf L G (64 * (8 * k + c) + j) d) _ ?_ r d
  intro r d
  pointwise [k0_pay8, k0_pay7, k0_pay6]
  rw [H.lb, H.g]
  simp only [lf, sg]
  rw [show 64 * (8 * k + r.val / 64) + r.val % 64 = 512 * k + r.val by omega, zero_sub]

/-- A running sum at row `i` of the chunk a row lies in. -/
theorem sum_at (r : Fin 512) (i : ℕ) (hi : i < 64) (h : r.val / 64 * 64 + i < 512) (d : Fin 128) :
    k0_pay12 (F := Ideal) (k0_pay8 lb xf) k0_pay10 k0_pay11 (ix2 ⟨r.val / 64 * 64 + i, h⟩ d) = cum L G (8 * k + r.val / 64) i d := by
  refine (tB_at H ⟨r.val / 64 * 64 + i, h⟩ d).trans ?_
  simp only
  rw [show (r.val / 64 * 64 + i) / 64 = r.val / 64 by omega, show (r.val / 64 * 64 + i) % 64 = i by omega]

theorem tMid_at (r : Fin 512) (d : Fin 128) : tMid (F := Ideal) lb xf (ix2 r d) = cum L G (8 * k + r.val / 64) 31 d := by
  pointwise [tMid, k0_pay16, k0_pay14, k0_pay13]
  exact sum_at H r 31 (by omega) _ d

theorem tEnd_at (r : Fin 512) (d : Fin 128) : tEnd (F := Ideal) lb xf (ix2 r d) = cum L G (8 * k + r.val / 64) 63 d := by
  pointwise [tEnd, k0_pay18, k0_pay17, k0_pay15, k0_pay13]
  exact sum_at H r 63 (by omega) _ d

theorem tQe_at (r : Fin 512) (d : Fin 128) : tQe (F := Ideal) lb xq xf (ix2 r d)
    = Q (512 * k + r.val) d * Ideal.exp (cum L G (8 * k + r.val / 64) (r.val % 64) d - cum L G (8 * k + r.val / 64) 31 d) := by
  pointwise [tQe, k0_pay21, k0_pay19, k0_pay5]
  rw [tB_at H, tMid_at H, H.q]

theorem tKe_at (r : Fin 512) (d : Fin 128) : tKe (F := Ideal) lb xf (ix2 r d)
    = key L G (512 * k + r.val) d * Ideal.exp (cum L G (8 * k + r.val / 64) 31 d - cum L G (8 * k + r.val / 64) (r.val % 64) d) := by
  pointwise [tKe, k0_pay22, k0_pay20, k0_pay9, k0_pay7, k0_pay6]
  rw [tB_at H, tMid_at H, H.g, H.lb, zero_sub]
  rw [key, ← one_sub_sg]
  rfl

theorem tQb_at (r : Fin 512) (d : Fin 128) : tQb (F := Ideal) lb xq xf (ix2 r d)
    = Q (512 * k + r.val) d * Ideal.exp (cum L G (8 * k + r.val / 64) (r.val % 64) d - cum L G (8 * k + r.val / 64) 31 d)
      * Ideal.exp (cum L G (8 * k + r.val / 64) 31 d) := by
  pointwise [tQb, k0_pay23, k0_pay19, k0_pay5, k0_pay14, k0_pay13]
  rw [tB_at H, tMid_at H, H.q, sum_at H r 31 (by omega)]

theorem tKd_at (r : Fin 512) (d : Fin 128) : tKd (F := Ideal) lb xf (ix2 r d)
    = key L G (512 * k + r.val) d * Ideal.exp (cum L G (8 * k + r.val / 64) 31 d - cum L G (8 * k + r.val / 64) (r.val % 64) d)
      * Ideal.exp (cum L G (8 * k + r.val / 64) 63 d - cum L G (8 * k + r.val / 64) 31 d) := by
  pointwise [tKd, k0_pay24, k0_pay20, k0_pay9, k0_pay7, k0_pay6, k0_pay14, k0_pay13, k0_pay15]
  rw [tB_at H, tMid_at H, H.g, H.lb, zero_sub, sum_at H r 31 (by omega), sum_at H r 63 (by omega), key, ← one_sub_sg]
  rfl

/-- A chunk's state: the recurrence's step. -/
theorem chunkState_at (j : ℕ) (hj : j < 8) (h : S512x128.Slices ![64 * j, 0] S64x128) (h1 : S512x128.Slices ![64 * j, 0] S1x128)
    (S : FVec Ideal S128x128 .f32) (hS : ∀ e d, S (ix2 e d) = st L G V (8 * k + j) d e) (e d : Fin 128) :
    chunkState (F := Ideal) (64 * j) h h1 (tEnd lb xf) (tKd lb xf) xv S (ix2 e d) = st L G V (8 * k + j + 1) d e := by
  rw [st, ← step_mid G V H.pos]
  pointwise [chunkState]
  rw [tEnd_at H, hS]
  simp only [tKd_at H, H.v]
  have e1 : ∀ x : Fin 64, (64 * j + x.val) / 64 = j := fun x => by omega
  have e2 : ∀ x : Fin 64, (64 * j + x.val) % 64 = x.val := fun x => by omega
  have e3 : ∀ x : Fin 64, 512 * k + (64 * j + x.val) = 64 * (8 * k + j) + x.val := fun x => by omega
  simp only [e1, e2, e3, show 64 * j / 64 = j by omega]

/-- A chunk's rows: the recurrence's output. -/
theorem chunkOut_at (j : ℕ) (hj : j < 8) (h : S512x128.Slices ![64 * j, 0] S64x128)
    (S : FVec Ideal S128x128 .f32) (hS : ∀ e d, S (ix2 e d) = st L G V (8 * k + j) d e) (i : Fin 64) (e : Fin 128) :
    chunkOut (F := Ideal) (64 * j) h (tQe lb xq xf) (tKe lb xf) (tQb lb xq xf) xv S (ix2 i e) = out L Q G V (8 * k + j) i e := by
  rw [← out_mid Q G V H.pos]
  pointwise [chunkOut, k0_pay1]
  simp only [hS, tQe_at H, tKe_at H, tQb_at H, H.v]
  have e1 : ∀ x : Fin 64, (64 * j + x.val) / 64 = j := fun x => by omega
  have e2 : ∀ x : Fin 64, (64 * j + x.val) % 64 = x.val := fun x => by omega
  have e3 : ∀ x : Fin 64, 512 * k + (64 * j + x.val) = 64 * (8 * k + j) + x.val := fun x => by omega
  simp only [e1, e2, e3, sle_small]
  congr 1
  refine Finset.sum_congr rfl fun x _ => ?_
  rw [score]
  by_cases hx : x ≤ i
  · rw [if_pos hx, if_pos (show x.val ≤ i.val from hx)]
    rfl
  · rw [if_neg hx, if_neg (show ¬ x.val ≤ i.val from hx), zero_mul]
    rfl

/-- The same, the row counted in the trip. -/
theorem chunkOut_row (j : ℕ) (hj : j < 8) (o : ℕ) (ho : o = 64 * j) (h : S512x128.Slices ![o, 0] S64x128)
    (S : FVec Ideal S128x128 .f32) (hS : ∀ e d, S (ix2 e d) = st L G V (8 * k + j) d e) (i : Fin 64) (e : Fin 128)
    (r : Fin 512) (hr : r.val = 64 * j + i.val) :
    chunkOut (F := Ideal) o h (tQe lb xq xf) (tKe lb xf) (tQb lb xq xf) xv S (ix2 i e)
      = out L Q G V (8 * k + r.val / 64) ⟨r.val % 64, Nat.mod_lt _ (by omega)⟩ e := by
  subst ho
  refine (chunkOut_at H j hj h S hS i e).trans ?_
  have e1 : r.val / 64 = j := by omega
  have e2 : (⟨r.val % 64, Nat.mod_lt _ (by omega)⟩ : Fin 64) = i := Fin.ext (by show r.val % 64 = i.val; omega)
  rw [e1, e2]

variable {S : FVec Ideal S128x128 .f32} (hS : ∀ e d, S (ix2 e d) = st L G V (8 * k) d e)
include hS

theorem tS1_at (e d : Fin 128) : tS1 (F := Ideal) lb xf xv S (ix2 e d) = st L G V (8 * k + 1) d e := chunkState_at H 0 (by omega) _ _ _ hS e d
theorem tS2_at (e d : Fin 128) : tS2 (F := Ideal) lb xf xv S (ix2 e d) = st L G V (8 * k + 2) d e := chunkState_at H 1 (by omega) _ _ _ (tS1_at H hS) e d
theorem tS3_at (e d : Fin 128) : tS3 (F := Ideal) lb xf xv S (ix2 e d) = st L G V (8 * k + 3) d e := chunkState_at H 2 (by omega) _ _ _ (tS2_at H hS) e d
theorem tS4_at (e d : Fin 128) : tS4 (F := Ideal) lb xf xv S (ix2 e d) = st L G V (8 * k + 4) d e := chunkState_at H 3 (by omega) _ _ _ (tS3_at H hS) e d
theorem tS5_at (e d : Fin 128) : tS5 (F := Ideal) lb xf xv S (ix2 e d) = st L G V (8 * k + 5) d e := chunkState_at H 4 (by omega) _ _ _ (tS4_at H hS) e d
theorem tS6_at (e d : Fin 128) : tS6 (F := Ideal) lb xf xv S (ix2 e d) = st L G V (8 * k + 6) d e := chunkState_at H 5 (by omega) _ _ _ (tS5_at H hS) e d
theorem tS7_at (e d : Fin 128) : tS7 (F := Ideal) lb xf xv S (ix2 e d) = st L G V (8 * k + 7) d e := chunkState_at H 6 (by omega) _ _ _ (tS6_at H hS) e d
/-- The state after the trip. -/
theorem tS8_at (e d : Fin 128) : tS8 (F := Ideal) lb xf xv S (ix2 e d) = st L G V (8 * (k + 1)) d e := chunkState_at H 7 (by omega) _ _ _ (tS7_at H hS) e d

attribute [local irreducible] chunkState chunkOut tS1 tS2 tS3 tS4 tS5 tS6 tS7 tS8 tQe tKe tQb tKd tEnd out st

/-- The trip's rows of the recurrence's output. -/
theorem tOut_at (r : Fin 512) (e : Fin 128) :
    tOut (F := Ideal) lb xq xf xv S (ix2 r e) = out L Q G V (8 * k + r.val / 64) ⟨r.val % 64, Nat.mod_lt _ (by omega)⟩ e := by
  pointwise [tOut]
  by_cases h0 : r.val < 64
  · rw [dif_pos h0]
    exact chunkOut_row H 0 (by decide) 0 (by decide) _ _ hS ⟨r.val, by clear * - h0; omega⟩ e r (by show r.val = 64 * 0 + (r.val); clear * - h0; omega)
  rw [dif_neg h0]
  by_cases h1 : r.val - 64 < 64
  · rw [dif_pos h1]
    exact chunkOut_row H 1 (by decide) 64 (by decide) _ _ (tS1_at H hS) ⟨r.val - 64, by clear * - h0 h1; omega⟩ e r (by show r.val = 64 * 1 + (r.val - 64); clear * - h0 h1; omega)
  rw [dif_neg h1]
  by_cases h2 : r.val - 64 - 64 < 64
  · rw [dif_pos h2]
    exact chunkOut_row H 2 (by decide) 128 (by decide) _ _ (tS2_at H hS) ⟨r.val - 64 - 64, by clear * - h1 h2; omega⟩ e r (by show r.val = 64 * 2 + (r.val - 64 - 64); clear * - h1 h2; omega)
  rw [dif_neg h2]
  by_cases h3 : r.val - 64 - 64 - 64 < 64
  · rw [dif_pos h3]
    exact chunkOut_row H 3 (by decide) 192 (by decide) _ _ (tS3_at H hS) ⟨r.val - 64 - 64 - 64, by clear * - h2 h3; omega⟩ e r (by show r.val = 64 * 3 + (r.val - 64 - 64 - 64); clear * - h2 h3; omega)
  rw [dif_neg h3]
  by_cases h4 : r.val - 64 - 64 - 64 - 64 < 64
  · rw [dif_pos h4]
    exact chunkOut_row H 4 (by decide) 256 (by decide) _ _ (tS4_at H hS) ⟨r.val - 64 - 64 - 64 - 64, by clear * - h3 h4; omega⟩ e r (by show r.val = 64 * 4 + (r.val - 64 - 64 - 64 - 64); clear * - h3 h4; omega)
  rw [dif_neg h4]
  by_cases h5 : r.val - 64 - 64 - 64 - 64 - 64 < 64
  · rw [dif_pos h5]
    exact chunkOut_row H 5 (by decide) 320 (by decide) _ _ (tS5_at H hS) ⟨r.val - 64 - 64 - 64 - 64 - 64, by clear * - h4 h5; omega⟩ e r (by show r.val = 64 * 5 + (r.val - 64 - 64 - 64 - 64 - 64); clear * - h4 h5; omega)
  rw [dif_neg h5]
  by_cases h6 : r.val - 64 - 64 - 64 - 64 - 64 - 64 < 64
  · rw [dif_pos h6]
    exact chunkOut_row H 6 (by decide) 384 (by decide) _ _ (tS6_at H hS) ⟨r.val - 64 - 64 - 64 - 64 - 64 - 64, by clear * - h5 h6; omega⟩ e r (by show r.val = 64 * 6 + (r.val - 64 - 64 - 64 - 64 - 64 - 64); clear * - h5 h6; omega)
  rw [dif_neg h6]
  exact chunkOut_row H 7 (by decide) 448 (by decide) _ _ (tS7_at H hS) ⟨r.val - 64 - 64 - 64 - 64 - 64 - 64 - 64, by clear * - h6; omega⟩ e r (by show r.val = 64 * 7 + (r.val - 64 - 64 - 64 - 64 - 64 - 64 - 64); clear * - h6; omega)

/-- What the trip stores. -/
theorem tStore_at (r : Fin 512) (e : Fin 128) (hng : ∀ e, ng (ix2 0 e) = N e) :
    tStore (F := Ideal) lb xq xf xv S ng xg (ix2 r e)
      = gated (out L Q G V (8 * k + r.val / 64) ⟨r.val % 64, Nat.mod_lt _ (by omega)⟩) N (xg (ix2 r e)) e := by
  pointwise [tStore, k0_pay3, k0_pay44, tVar]
  simp only [tOut_at H hS, hng, zero_sub]
  rfl

end

end Cert.KernelIdeal.Value

end
-- ==== Proof.Loop.lean ====
/-
  The kernel's four trips: the state and the rows stored after each.
-/
module

public import proofs.«01_k».proof.Proof.TripValue
public import Idealize.ShloMosaic.Lib.WritesUnit
public import Idealize.ShloMosaic.Lib.VecWindow

@[expose] public section

set_option maxRecDepth 16384

noncomputable section

open Idealize.ShloMosaic Idealize.ShloMosaic.TcCoe Idealize.SL.Sem

namespace Cert.KernelIdeal.Value

open Cert.KernelIdeal Cert.KernelIdeal.Gen Cert.Recurrence

/-- The rows of a staged block, counted from any number. -/
def rowOf (x : Vec Ideal S2048x128 .bf16) (t : ℕ) (d : Fin 128) : EReal :=
  if h : t < 2048 then x (ix2 ⟨t, h⟩ d) else 0

/-- A trip's load at an index. -/
theorem ldRows_at (arg : Memref sig .tc .vmem S2048x128 .bf16) (harg : arg.IsWhole) (x : Vec Ideal S2048x128 .bf16)
    (k : Fin k0_t1_loop.trips) (r : Fin 512) (d : Fin 128) :
    ldRows (F := Ideal) arg (harg.unread x) k (ix2 r d) = rowOf x (512 * k.val + r.val) d := by
  have hk : k.val < 4 := k.isLt
  have hr := r.isLt
  unfold ldRows
  rw [View.readAt_unit _ _ _ (k0_off1_eq k) (by rw [← k0_off1_eq k]; exact k0_off1_inb k), Memref.IsWhole.read_unread, rowOf, dif_pos (by omega)]
  refine congrArg x (funext fun a => Fin.ext ?_)
  match a with
  | ⟨0, _⟩ => show 512 * k.val + 1 * r.val = 512 * k.val + r.val; omega
  | ⟨1, _⟩ => show 0 + 1 * d.val = d.val; omega

section
variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S1x1x128x128 .f32) (harg9 : arg9.IsWhole) (v0 v1 : Vec Ideal S1x128 .f32) (x0 x1 x2 x3 : Vec Ideal S2048x128 .bf16)
  (L N : Fin 128 → EReal) (hL : ∀ d, v0 (ix2 0 d) = L d) (hN : ∀ d, v1 (ix2 0 d) = N d) (hpos : ∀ d, ∃ r : ℝ, 0 < r ∧ L d = r)
  (init : FVec Ideal S128x128 .f32) (hinit : ∀ e d, init (ix2 e d) = 0)
include hL hN hpos hinit

/-- After `n` trips: the state is the recurrence's after `8 n` chunks, and the first `512 n` rows stored are its gated output. -/
theorem trips_at (n : ℕ) (hn : n ≤ 4) :
    (∀ e d, (st_k0_t1 (F := Ideal) 𝒱 c bd i arg2 harg2 arg3 harg3 arg4 harg4 arg5 harg5 arg6 harg6 arg7 harg7 arg8 harg8 arg9 harg9 v0 v1 (harg2.unread x0) (harg3.unread x1) (harg4.unread x2) (harg5.unread x3) init n).1 (ix2 e d)
        = st L (rowOf x1) (rowOf x2) (8 * n) d e)
    ∧ ∀ (v : View sig .tc .vmem S2048x128 .bf16) (f : v.ty.Contents (Elt Ideal)) (r : Fin 2048) (e : Fin 128), r.val < 512 * n →
      v.read (Elt Ideal) (v.writes (Elt Ideal) f (st_k0_t1 (F := Ideal) 𝒱 c bd i arg2 harg2 arg3 harg3 arg4 harg4 arg5 harg5 arg6 harg6 arg7 harg7 arg8 harg8 arg9 harg9 v0 v1 (harg2.unread x0) (harg3.unread x1) (harg4.unread x2) (harg5.unread x3) init n).2) (ix2 r e)
        = gated (out L (rowOf x0) (rowOf x1) (rowOf x2) (r.val / 64) ⟨r.val % 64, Nat.mod_lt _ (by omega)⟩) N (rowOf x3 r.val e) e := by
  induction n with
  | zero => exact ⟨fun e d => (hinit e d).trans rfl, fun _ _ r _ h => absurd h (by omega)⟩
  | succ n ih =>
    obtain ⟨ihS, ihR⟩ := ih (by omega)
    have e := st_k0_t1_succ (F := Ideal) 𝒱 c bd i arg2 harg2 arg3 harg3 arg4 harg4 arg5 harg5 arg6 harg6 arg7 harg7 arg8 harg8 arg9 harg9 v0 v1 (harg2.unread x0) (harg3.unread x1) (harg4.unread x2) (harg5.unread x3) init ⟨n, hn⟩
    have H : Rows v0 (ldRows arg2 (harg2.unread x0) ⟨n, hn⟩) (ldRows arg3 (harg3.unread x1) ⟨n, hn⟩) (ldRows arg4 (harg4.unread x2) ⟨n, hn⟩) n L (rowOf x0) (rowOf x1) (rowOf x2) :=
      ⟨hL, fun r d => ldRows_at arg2 harg2 x0 ⟨n, hn⟩ r d, fun r d => ldRows_at arg3 harg3 x1 ⟨n, hn⟩ r d, fun r d => ldRows_at arg4 harg4 x2 ⟨n, hn⟩ r d, hpos⟩
    generalize hs : st_k0_t1 (F := Ideal) 𝒱 c bd i arg2 harg2 arg3 harg3 arg4 harg4 arg5 harg5 arg6 harg6 arg7 harg7 arg8 harg8 arg9 harg9 v0 v1 (harg2.unread x0) (harg3.unread x1) (harg4.unread x2) (harg5.unread x3) init (n + 1) = s' at *
    rw [tripR_eq, tripL_eq] at e
    dsimp only at e
    subst e
    refine ⟨fun e d => ?_, fun v f r e hr => ?_⟩
    · exact tS8_at H ihS e d
    · by_cases h : r.val < 512 * n
      · refine (View.read_writes_cons_rows_of_not_mem v f _ _ _ (ix2 r e) (k0_off1_eq ⟨n, hn⟩) rfl (.inl h)).trans (ihR v f r e h)
      · have hr' : r.val - 512 * n < 512 := by omega
        refine (View.read_writes_cons_rows_of_mem v f _ _ _ (ix2 r e) (ix2 (⟨r.val - 512 * n, hr'⟩ : Fin 512) e) (k0_off1_eq ⟨n, hn⟩) ?_ rfl).trans ?_
        · show r.val = 512 * n + (r.val - 512 * n); omega
        · refine (tStore_at v1 _ N H ihS ⟨r.val - 512 * n, hr'⟩ e hN).trans ?_
          rw [ldRows_at arg5 harg5]
          have e1 : 8 * n + (r.val - 512 * n) / 64 = r.val / 64 := by omega
          have e2 : (r.val - 512 * n) % 64 = r.val % 64 := by omega
          have e3 : 512 * n + (r.val - 512 * n) = r.val := by omega
          simp only [e1, e2, e3]
end

end Cert.KernelIdeal.Value

end
-- ==== Proof.Answer.lean ====
/-
  The two results as functions of the three arguments.
-/
module

public import proofs.«01_k».proof.Proof.Spec

@[expose] public section

noncomputable section

open Idealize.ShloMosaic

namespace Cert.Recurrence

/-- Position `t` of batch `b` in head `h`'s columns of the projections' segment `s`. -/
def win (proj : (⟨2, ![8704, 14336]⟩ : Shape).Idx → EReal) (s : Fin 7) (b : Fin 4) (h : Fin 16) (t : ℕ) (d : Fin 128) : EReal :=
  if ht : t < 2048 then
    proj (ix2 (⟨2048 * b.val + t, by have := b.isLt; omega⟩ : Fin 8704)
      (⟨128 * (16 * s.val + h.val) + d.val, by have := s.isLt; have := h.isLt; have := d.isLt; omega⟩ : Fin 14336))
  else 0

/-- Head `h`'s channels of a vector. -/
def lane (x : (⟨2, ![1, 2048]⟩ : Shape).Idx → EReal) (h : Fin 16) (d : Fin 128) : EReal :=
  x (ix2 (0 : Fin 1) (⟨128 * h.val + d.val, by have := h.isLt; have := d.isLt; omega⟩ : Fin 2048))

variable (proj : (⟨2, ![8704, 14336]⟩ : Shape).Idx → EReal) (lb ng : (⟨2, ![1, 2048]⟩ : Shape).Idx → EReal)

/-- The gated output at a batch, position, head and channel. -/
def rowsAt (b : Fin 4) (h : Fin 16) (t : ℕ) (e : Fin 128) : EReal :=
  gated (out (lane lb h) (win proj 3 b h) (win proj 4 b h) (win proj 5 b h) (t / 64) ⟨t % 64, Nat.mod_lt _ (by omega)⟩)
    (lane ng h) (win proj 6 b h t e) e

/-- The first result. -/
def outRows (y : (⟨2, ![8192, 2048]⟩ : Shape).Idx) : EReal :=
  rowsAt proj lb ng ⟨(y 0).val / 2048, by have : (y 0).val < 8192 := (y 0).isLt; omega⟩
    ⟨(y 1).val / 128, by have : (y 1).val < 2048 := (y 1).isLt; omega⟩ ((y 0).val % 2048) ⟨(y 1).val % 128, Nat.mod_lt _ (by omega)⟩

/-- The first result at a row and a column, by batch, position, head and channel. -/
theorem outRows_at (y : (⟨2, ![8192, 2048]⟩ : Shape).Idx) (b : Fin 4) (h : Fin 16) (t : Fin 2048) (e : Fin 128)
    (h0 : (y 0).val = 2048 * b.val + t.val) (h1 : (y 1).val = 128 * h.val + e.val) :
    outRows proj lb ng y = rowsAt proj lb ng b h t.val e := by
  have hb := b.isLt
  have ht := t.isLt
  have hh := h.isLt
  have he := e.isLt
  unfold outRows
  congr 1
  · exact Fin.ext (by show (y 0).val / 2048 = b.val; omega)
  · exact Fin.ext (by show (y 1).val / 128 = h.val; omega)
  · omega
  · exact Fin.ext (by show (y 1).val % 128 = e.val; omega)

/-- The second result: the state after all 32 chunks. -/
def final (y : (⟨4, ![4, 16, 128, 128]⟩ : Shape).Idx) : EReal :=
  st (lane lb (y 1)) (win proj 4 (y 0) (y 1)) (win proj 5 (y 0) (y 1)) 32 (y 2) (y 3)

theorem final_at (b : Fin 4) (h : Fin 16) (d e : Fin 128) :
    final proj lb (ix4 b h d e) = st (lane lb h) (win proj 4 b h) (win proj 5 b h) 32 d e := rfl

end Cert.Recurrence

end
-- ==== Proof.Arrays.lean ====
/-
  The kernel's two result arrays as functions of its arguments.
-/
module

public import proofs.«01_k».proof.Proof.Loop
public import proofs.«01_k».proof.Proof.Answer
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Recurrence

section
variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S1x1x128x128 .f32) (harg9 : arg9.IsWhole) (x0 x1 x2 x3 : Vec Ideal S2048x128 .bf16) (x4 x5 : Vec Ideal S1x128 .f32)

/-- The load of a whole one-row block is the block. -/
theorem ld_row (arg : Memref sig .tc .vmem S1x128 .f32) (harg : arg.IsWhole) (x : Vec Ideal S1x128 .f32) :
    View.readAt (Elt Ideal) arg.view (Rect.unit (s := S1x128) ![0, 0] S1x128.size inb_S1x128_S1x128_0_0).toLoadRect (harg.unread x) = x := by
  refine (View.readAt_full _ _ _).trans (Memref.IsWhole.read_unread harg x)

variable (hpos : ∀ d, ∃ r : ℝ, 0 < r ∧ x4 (ix2 0 d) = r)
include hpos

/-- The rows a grid point leaves, at an index. -/
theorem out6_at (r : Fin 2048) (e : Fin 128) :
    out0_A_6 (F := Ideal) c i arg2 harg2 arg3 harg3 arg4 harg4 arg5 harg5 arg6 harg6 arg7 harg7 arg8 harg8 arg9 harg9 x0 x1 x2 x3 x4 x5 (ix2 r e)
      = gated (out (fun d => x4 (ix2 0 d)) (rowOf x0) (rowOf x1) (rowOf x2) (r.val / 64) ⟨r.val % 64, Nat.mod_lt _ (by omega)⟩)
          (fun d => x5 (ix2 0 d)) (rowOf x3 r.val e) e := by
  unfold out0_A_6 kernelRun0_A; dsimp only
  refine ((trips_at Variants.none c none i arg2 harg2 arg3 harg3 arg4 harg4 arg5 harg5 arg6 harg6 arg7 harg7 arg8 harg8 arg9 harg9 _ _ x0 x1 x2 x3
    (fun d => x4 (ix2 0 d)) (fun d => x5 (ix2 0 d)) (fun d => congrFun (ld_row arg6 harg6 x4) _) (fun d => congrFun (ld_row arg7 harg7 x5) _) hpos k0_pay2 (fun e d => ?_) 4 (le_refl _)).2 VO0_6 VO0_6.junk r e r.isLt)
  pointwise [k0_pay2]

/-- The state a grid point leaves, at an index. -/
theorem out7_at (d e : Fin 128) :
    out0_A_7 (F := Ideal) c i arg2 harg2 arg3 harg3 arg4 harg4 arg5 harg5 arg6 harg6 arg7 harg7 arg8 harg8 arg9 harg9 x0 x1 x2 x3 x4 x5 (ix4 0 0 d e)
      = st (fun d => x4 (ix2 0 d)) (rowOf x1) (rowOf x2) 32 d e := by
  have h := (trips_at Variants.none c none i arg2 harg2 arg3 harg3 arg4 harg4 arg5 harg5 arg6 harg6 arg7 harg7 arg8 harg8 arg9 harg9 _ _ x0 x1 x2 x3
    (fun d => x4 (ix2 0 d)) (fun d => x5 (ix2 0 d)) (fun d => congrFun (ld_row arg6 harg6 x4) _) (fun d => congrFun (ld_row arg7 harg7 x5) _) hpos k0_pay2 (fun e d => by pointwise [k0_pay2]) 4 (le_refl _)).1 e d
  rw [← h]
  unfold out0_A_7 kernelRun0_A; dsimp only
  frame_out
  pointwise [k0_pay4]
  rfl
end

variable (m : (ℓ : Loc nD τ sig) → Buf (Elt Ideal) ℓ) (ρ : Dev nD → PrngReg)

/-- Where window 0's blocks lie. -/
theorem pos0 : ∀ t : Fin cfg0.N, cc0_transform_0 (grid0.coords t) = ![(grid0.coords t 0).val, 16 * 3 + (grid0.coords t 1).val] := by
  decide +kernel

/-- Input 0's block at an index. -/
theorem x0_at (c : Dev nD) (t : Fin cfg0.N) (r : Fin 2048) (d : Fin 128) :
    X0_0 (F := Ideal) m c t (ix2 r d) = m ((c.tc : Thread nD τ).loc main_arg0) (ix2 (⟨2048 * (grid0.coords t 0).val + r.val, by
      have : (grid0.coords t 0).val < 4 := (grid0.coords t 0).isLt; omega⟩ : Fin 8704) (⟨128 * (16 * 3 + (grid0.coords t 1).val) + d.val, by
      have : (grid0.coords t 1).val < 16 := (grid0.coords t 1).isLt; omega⟩ : Fin 14336)) := by
  unfold X0_0 Pipeline.Window.fill
  rw [dif_pos (moved0_0 t _)]
  unfold iblk V
  refine congrArg (m ((c.tc : Thread nD τ).loc main_arg0)) (funext fun a => Fin.ext ?_)
  match a with
  | ⟨0, _⟩ =>
    show cc0_transform_0 (grid0.coords t) 0 * 2048 + 1 * r.val = 2048 * (grid0.coords t 0).val + r.val
    rw [pos0]; show (grid0.coords t 0).val * 2048 + 1 * r.val = _; omega
  | ⟨1, _⟩ =>
    show cc0_transform_0 (grid0.coords t) 1 * 128 + 1 * d.val = 128 * (16 * 3 + (grid0.coords t 1).val) + d.val
    rw [pos0]; show (16 * 3 + (grid0.coords t 1).val) * 128 + 1 * d.val = _; omega

/-- Input 0's rows are a segment of the projections. -/
theorem row0 (c : Dev nD) (t : Fin cfg0.N) : rowOf (X0_0 (F := Ideal) m c t) = win (m ((c.tc : Thread nD τ).loc main_arg0)) 3 (grid0.coords t 0) (grid0.coords t 1) := by
  funext n d
  unfold rowOf win
  by_cases h : n < 2048
  · rw [dif_pos h, dif_pos h]; exact x0_at m c t ⟨n, h⟩ d
  · rw [dif_neg h, dif_neg h]

/-- Where window 1's blocks lie. -/
theorem pos1 : ∀ t : Fin cfg0.N, cc0_transform_1 (grid0.coords t) = ![(grid0.coords t 0).val, 16 * 4 + (grid0.coords t 1).val] := by
  decide +kernel

/-- Input 1's block at an index. -/
theorem x1_at (c : Dev nD) (t : Fin cfg0.N) (r : Fin 2048) (d : Fin 128) :
    X0_1 (F := Ideal) m c t (ix2 r d) = m ((c.tc : Thread nD τ).loc main_arg0) (ix2 (⟨2048 * (grid0.coords t 0).val + r.val, by
      have : (grid0.coords t 0).val < 4 := (grid0.coords t 0).isLt; omega⟩ : Fin 8704) (⟨128 * (16 * 4 + (grid0.coords t 1).val) + d.val, by
      have : (grid0.coords t 1).val < 16 := (grid0.coords t 1).isLt; omega⟩ : Fin 14336)) := by
  unfold X0_1 Pipeline.Window.fill
  rw [dif_pos (moved0_1 t _)]
  unfold iblk V
  refine congrArg (m ((c.tc : Thread nD τ).loc main_arg0)) (funext fun a => Fin.ext ?_)
  match a with
  | ⟨0, _⟩ =>
    show cc0_transform_1 (grid0.coords t) 0 * 2048 + 1 * r.val = 2048 * (grid0.coords t 0).val + r.val
    rw [pos1]; show (grid0.coords t 0).val * 2048 + 1 * r.val = _; omega
  | ⟨1, _⟩ =>
    show cc0_transform_1 (grid0.coords t) 1 * 128 + 1 * d.val = 128 * (16 * 4 + (grid0.coords t 1).val) + d.val
    rw [pos1]; show (16 * 4 + (grid0.coords t 1).val) * 128 + 1 * d.val = _; omega

/-- Input 1's rows are a segment of the projections. -/
theorem row1 (c : Dev nD) (t : Fin cfg0.N) : rowOf (X0_1 (F := Ideal) m c t) = win (m ((c.tc : Thread nD τ).loc main_arg0)) 4 (grid0.coords t 0) (grid0.coords t 1) := by
  funext n d
  unfold rowOf win
  by_cases h : n < 2048
  · rw [dif_pos h, dif_pos h]; exact x1_at m c t ⟨n, h⟩ d
  · rw [dif_neg h, dif_neg h]

/-- Where window 2's blocks lie. -/
theorem pos2 : ∀ t : Fin cfg0.N, cc0_transform_2 (grid0.coords t) = ![(grid0.coords t 0).val, 16 * 5 + (grid0.coords t 1).val] := by
  decide +kernel

/-- Input 2's block at an index. -/
theorem x2_at (c : Dev nD) (t : Fin cfg0.N) (r : Fin 2048) (d : Fin 128) :
    X0_2 (F := Ideal) m c t (ix2 r d) = m ((c.tc : Thread nD τ).loc main_arg0) (ix2 (⟨2048 * (grid0.coords t 0).val + r.val, by
      have : (grid0.coords t 0).val < 4 := (grid0.coords t 0).isLt; omega⟩ : Fin 8704) (⟨128 * (16 * 5 + (grid0.coords t 1).val) + d.val, by
      have : (grid0.coords t 1).val < 16 := (grid0.coords t 1).isLt; omega⟩ : Fin 14336)) := by
  unfold X0_2 Pipeline.Window.fill
  rw [dif_pos (moved0_2 t _)]
  unfold iblk V
  refine congrArg (m ((c.tc : Thread nD τ).loc main_arg0)) (funext fun a => Fin.ext ?_)
  match a with
  | ⟨0, _⟩ =>
    show cc0_transform_2 (grid0.coords t) 0 * 2048 + 1 * r.val = 2048 * (grid0.coords t 0).val + r.val
    rw [pos2]; show (grid0.coords t 0).val * 2048 + 1 * r.val = _; omega
  | ⟨1, _⟩ =>
    show cc0_transform_2 (grid0.coords t) 1 * 128 + 1 * d.val = 128 * (16 * 5 + (grid0.coords t 1).val) + d.val
    rw [pos2]; show (16 * 5 + (grid0.coords t 1).val) * 128 + 1 * d.val = _; omega

/-- Input 2's rows are a segment of the projections. -/
theorem row2 (c : Dev nD) (t : Fin cfg0.N) : rowOf (X0_2 (F := Ideal) m c t) = win (m ((c.tc : Thread nD τ).loc main_arg0)) 5 (grid0.coords t 0) (grid0.coords t 1) := by
  funext n d
  unfold rowOf win
  by_cases h : n < 2048
  · rw [dif_pos h, dif_pos h]; exact x2_at m c t ⟨n, h⟩ d
  · rw [dif_neg h, dif_neg h]

/-- Where window 3's blocks lie. -/
theorem pos3 : ∀ t : Fin cfg0.N, cc0_transform_3 (grid0.coords t) = ![(grid0.coords t 0).val, 16 * 6 + (grid0.coords t 1).val] := by
  decide +kernel

/-- Input 3's block at an index. -/
theorem x3_at (c : Dev nD) (t : Fin cfg0.N) (r : Fin 2048) (d : Fin 128) :
    X0_3 (F := Ideal) m c t (ix2 r d) = m ((c.tc : Thread nD τ).loc main_arg0) (ix2 (⟨2048 * (grid0.coords t 0).val + r.val, by
      have : (grid0.coords t 0).val < 4 := (grid0.coords t 0).isLt; omega⟩ : Fin 8704) (⟨128 * (16 * 6 + (grid0.coords t 1).val) + d.val, by
      have : (grid0.coords t 1).val < 16 := (grid0.coords t 1).isLt; omega⟩ : Fin 14336)) := by
  unfold X0_3 Pipeline.Window.fill
  rw [dif_pos (moved0_3 t _)]
  unfold iblk V
  refine congrArg (m ((c.tc : Thread nD τ).loc main_arg0)) (funext fun a => Fin.ext ?_)
  match a with
  | ⟨0, _⟩ =>
    show cc0_transform_3 (grid0.coords t) 0 * 2048 + 1 * r.val = 2048 * (grid0.coords t 0).val + r.val
    rw [pos3]; show (grid0.coords t 0).val * 2048 + 1 * r.val = _; omega
  | ⟨1, _⟩ =>
    show cc0_transform_3 (grid0.coords t) 1 * 128 + 1 * d.val = 128 * (16 * 6 + (grid0.coords t 1).val) + d.val
    rw [pos3]; show (16 * 6 + (grid0.coords t 1).val) * 128 + 1 * d.val = _; omega

/-- Input 3's rows are a segment of the projections. -/
theorem row3 (c : Dev nD) (t : Fin cfg0.N) : rowOf (X0_3 (F := Ideal) m c t) = win (m ((c.tc : Thread nD τ).loc main_arg0)) 6 (grid0.coords t 0) (grid0.coords t 1) := by
  funext n d
  unfold rowOf win
  by_cases h : n < 2048
  · rw [dif_pos h, dif_pos h]; exact x3_at m c t ⟨n, h⟩ d
  · rw [dif_neg h, dif_neg h]

theorem pos4 : ∀ t : Fin cfg0.N, cc0_transform_4 (grid0.coords t) = ![0, (grid0.coords t 1).val] := by
  decide +kernel

/-- Input 4's block at an index. -/
theorem v4_at (c : Dev nD) (t : Fin cfg0.N) (d : Fin 128) :
    iblk (F := Ideal) m c 4 t (ix2 (0 : Fin 1) d) = lane (m ((c.tc : Thread nD τ).loc main_arg1)) (grid0.coords t 1) d := by
  unfold iblk V lane
  refine congrArg (m ((c.tc : Thread nD τ).loc main_arg1)) (funext fun a => Fin.ext ?_)
  match a with
  | ⟨0, _⟩ =>
    show cc0_transform_4 (grid0.coords t) 0 * 1 + 1 * 0 = 0
    rw [pos4]; rfl
  | ⟨1, _⟩ =>
    show cc0_transform_4 (grid0.coords t) 1 * 128 + 1 * d.val = 128 * (grid0.coords t 1).val + d.val
    rw [pos4]; show (grid0.coords t 1).val * 128 + 1 * d.val = _; omega

theorem pos5 : ∀ t : Fin cfg0.N, cc0_transform_5 (grid0.coords t) = ![0, (grid0.coords t 1).val] := by
  decide +kernel

/-- Input 5's block at an index. -/
theorem v5_at (c : Dev nD) (t : Fin cfg0.N) (d : Fin 128) :
    iblk (F := Ideal) m c 5 t (ix2 (0 : Fin 1) d) = lane (m ((c.tc : Thread nD τ).loc main_arg2)) (grid0.coords t 1) d := by
  unfold iblk V lane
  refine congrArg (m ((c.tc : Thread nD τ).loc main_arg2)) (funext fun a => Fin.ext ?_)
  match a with
  | ⟨0, _⟩ =>
    show cc0_transform_5 (grid0.coords t) 0 * 1 + 1 * 0 = 0
    rw [pos5]; rfl
  | ⟨1, _⟩ =>
    show cc0_transform_5 (grid0.coords t) 1 * 128 + 1 * d.val = 128 * (grid0.coords t 1).val + d.val
    rw [pos5]; show (grid0.coords t 1).val * 128 + 1 * d.val = _; omega

/-- Where the first result's blocks lie. -/
theorem pos6 : ∀ t : Fin cfg0.N, cc0_transform_6 (grid0.coords t) = ![(grid0.coords t 0).val, (grid0.coords t 1).val] := by
  decide +kernel
/-- Where the second result's blocks lie. -/
theorem pos7 : ∀ t : Fin cfg0.N, cc0_transform_7 (grid0.coords t) = ![(grid0.coords t 0).val, (grid0.coords t 1).val, 0, 0] := by
  decide +kernel

variable (hpos : ∀ (c : Dev nD) h d, ∃ r : ℝ, 0 < r ∧ lane (m ((c.tc : Thread nD τ).loc main_arg1)) h d = r)
include hpos

/-- The first result array. -/
theorem first_eq (c : Dev nD) : (dats m 0 c).arrAt 6 cfg0.N
    = outRows (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  blk_simp
  rw [after0_6]
  obtain ⟨r, e, rfl⟩ : ∃ (r : Fin 2048) (e : Fin 128), y = ix2 r e := ⟨y 0, y 1, funext fun a => by match a with | ⟨0, _⟩ => rfl | ⟨1, _⟩ => rfl⟩
  have hb : (grid0.coords t 0).val < 4 := (grid0.coords t 0).isLt
  have hh : (grid0.coords t 1).val < 16 := (grid0.coords t 1).isLt
  rw [outRows_at _ _ _ _ (grid0.coords t 0) (grid0.coords t 1) r e ?_ ?_]
  · unfold outsAt0
    refine (out6_at c _ _ _ _ _ _ _ _ _ _ _ _ _ _ _ _ _ _ _ _ _ _ _ (fun d => ?_) r e).trans ?_
    · rw [v4_at]; exact hpos c _ _
    · unfold rowsAt
      rw [row0, row1, row2, row3, show (fun d => iblk (F := Ideal) m c 4 t (ix2 (0 : Fin 1) d)) = _ from funext (v4_at m c t), show (fun d => iblk (F := Ideal) m c 5 t (ix2 (0 : Fin 1) d)) = _ from funext (v5_at m c t)]
  · show cc0_transform_6 (grid0.coords t) 0 * 2048 + 1 * r.val = _
    rw [pos6]; show (grid0.coords t 0).val * 2048 + 1 * r.val = _; omega
  · show cc0_transform_6 (grid0.coords t) 1 * 128 + 1 * e.val = _
    rw [pos6]; show (grid0.coords t 1).val * 128 + 1 * e.val = _; omega

/-- Where an index of the second result's block lies in the array. -/
theorem emb7 (t : Fin cfg0.N) (d e : Fin 128) : (win0_7.blk t).view.emb (ix4 (0 : Fin 1) (0 : Fin 1) d e)
    = ix4 (show Fin 4 from grid0.coords t 0) (show Fin 16 from grid0.coords t 1) d e := by
  refine funext fun a => Fin.ext ?_
  match a with
  | ⟨0, _⟩ =>
    show cc0_transform_7 (grid0.coords t) 0 * 1 + 1 * 0 = (grid0.coords t 0).val
    rw [pos7]; show (grid0.coords t 0).val * 1 + 1 * 0 = _; omega
  | ⟨1, _⟩ =>
    show cc0_transform_7 (grid0.coords t) 1 * 1 + 1 * 0 = (grid0.coords t 1).val
    rw [pos7]; show (grid0.coords t 1).val * 1 + 1 * 0 = _; omega
  | ⟨2, _⟩ =>
    show cc0_transform_7 (grid0.coords t) 2 * 128 + 1 * d.val = d.val
    rw [pos7]; show 0 * 128 + 1 * d.val = _; omega
  | ⟨3, _⟩ =>
    show cc0_transform_7 (grid0.coords t) 3 * 128 + 1 * e.val = e.val
    rw [pos7]; show 0 * 128 + 1 * e.val = _; omega

/-- The state at an index of its block. -/
theorem second_at (c : Dev nD) (t : Fin cfg0.N) (d e : Fin 128) : (outsAt0 m c t).2 (ix4 (0 : Fin 1) (0 : Fin 1) d e)
    = final (m ((c.tc : Thread nD τ).loc main_arg0)) (m ((c.tc : Thread nD τ).loc main_arg1)) ((win0_7.blk t).view.emb (ix4 (0 : Fin 1) (0 : Fin 1) d e)) := by
  refine Eq.trans ?_ (congrArg (final _ _) (emb7 m hpos t d e)).symm
  rw [final_at]
  unfold outsAt0
  dsimp only
  have hp : ∀ d : Fin 128, ∃ r : ℝ, 0 < r ∧ (iblk (F := Ideal) m c 4 t (ix2 (0 : Fin 1) d) : EReal) = (r : EReal) := fun d => by rw [v4_at]; exact hpos c _ _
  rw [out7_at (x4 := iblk (F := Ideal) m c 4 t) (hpos := hp)]
  rw [row1, row2, show (fun d => iblk (F := Ideal) m c 4 t (ix2 (0 : Fin 1) d)) = _ from funext (v4_at m c t)]

/-- The second result array. -/
theorem second_eq (c : Dev nD) : (dats m 0 c).arrAt 7 cfg0.N
    = final (m ((c.tc : Thread nD τ).loc main_arg0)) (m ((c.tc : Thread nD τ).loc main_arg1)) := by
  refine (dats m 0 c).arrAt_eq_of_covers 7 _ (by decide +kernel) fun t _ y => ?_
  blk_simp
  rw [after0_7]
  obtain ⟨p, q, d, e, rfl⟩ : ∃ (p q : Fin 1) (d e : Fin 128), y = ix4 p q d e :=
    ⟨y 0, y 1, y 2, y 3, funext fun a => by match a with | ⟨0, _⟩ => rfl | ⟨1, _⟩ => rfl | ⟨2, _⟩ => rfl | ⟨3, _⟩ => rfl⟩
  obtain rfl : p = 0 := Subsingleton.elim _ _
  obtain rfl : q = 0 := Subsingleton.elim _ _
  exact second_at m hpos c t d e

end Cert.KernelIdeal.Value

end
-- ==== Proof.RefStep.lean ====
/-
  One trip of the reference's loop, read at an index.
-/
module

public import proofs.«01_k».proof.Proof.Spec
public import proofs.«01_k».proof.Proof.Gen.ReferenceIdeal.Run
public import Idealize.ShloMosaic.Lib.WordCmp

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen Cert.Recurrence

/-- A running left sum is the start plus the sum. -/
theorem foldl_sum {N : ℕ} (g : Fin N → EReal) (v : EReal) : (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, Fin.sum_univ_def]

/-- A window of 64 positions ending at `i`, those before the first left out. -/
theorem sum_tail (f : ℕ → EReal) (i : Fin 64) :
    (∑ n : Fin 64, if 63 ≤ i.val + n.val then f (i.val + n.val - 63) else 0) = ∑ j ∈ Finset.range (i.val + 1), f j := by
  have hi := i.isLt
  have e : Finset.range 64 = Finset.range ((63 - i.val) + (i.val + 1)) := congrArg Finset.range (by omega)
  rw [Fin.sum_univ_eq_sum_range (fun n => if 63 ≤ i.val + n then f (i.val + n - 63) else 0) 64, e, Finset.sum_range_add, Finset.sum_eq_zero, zero_add]
  · refine Finset.sum_congr rfl fun j hj => ?_
    rw [if_pos (by omega)]
    exact congrArg f (by omega)
  · intro j hj
    have := Finset.mem_range.1 hj
    rw [if_neg (by omega)]

/-- Position `n` of the running sum's window. -/
theorem window_at : ∀ n : Fin (⟨4, ![1, 64, 1, 1]⟩ : Shape).numel,
    ((⟨4, ![1, 64, 1, 1]⟩ : Shape).rowMajor.symm n 0).val = 0 ∧ ((⟨4, ![1, 64, 1, 1]⟩ : Shape).rowMajor.symm n 1).val = n.val
    ∧ ((⟨4, ![1, 64, 1, 1]⟩ : Shape).rowMajor.symm n 2).val = 0 ∧ ((⟨4, ![1, 64, 1, 1]⟩ : Shape).rowMajor.symm n 3).val = 0 := by
  decide +kernel

/-- The running sum down a chunk, at an index. -/
theorem cumsum_at (x : FVec Ideal S4x64x16x128 .f32) (init : FVec Ideal S_ .f32) (hinit : ∀ j, init j = 0) (h) (hu)
    (b : Fin 4) (i : Fin 64) (hd : Fin 16) (d : Fin 128) (f : ℕ → EReal) (hx : ∀ j : Fin 64, x (ix4 b j hd d) = f j.val) :
    Host.reduceWindowAdd (F := Ideal) ![1, 64, 1, 1] ![1, 1, 1, 1] ![0, 63, 0, 0] ![0, 0, 0, 0] x init h hu (ix4 b i hd d)
      = ∑ j ∈ Finset.range (i.val + 1), f j := by
  have hi := i.isLt
  refine Eq.trans ?_ (sum_tail f i)
  show Host.reduceWindow (· + ·) ![1, 64, 1, 1] ![1, 1, 1, 1] ![0, 63, 0, 0] ![0, 0, 0, 0] x _ h _ (ix4 b i hd d) = _
  unfold Host.reduceWindow
  dsimp only
  refine (foldl_sum _ _).trans ?_
  rw [hinit, zero_add]
  show (∑ n : Fin 64, _) = _
  refine Finset.sum_congr rfl fun n _ => ?_
  obtain ⟨w0, w1, w2, w3⟩ := window_at n
  have hn : n.val < 64 := n.isLt
  split
  · next hin =>
    have h1 := hin 1
    change 63 ≤ i.val * 1 + ((⟨4, ![1, 64, 1, 1]⟩ : Shape).rowMajor.symm n 1).val ∧ i.val * 1 + ((⟨4, ![1, 64, 1, 1]⟩ : Shape).rowMajor.symm n 1).val - 63 < 64 at h1
    rw [w1] at h1
    rw [if_pos (by omega)]
    refine (congrArg x (funext fun a => Fin.ext ?_)).trans (hx ⟨i.val + n.val - 63, by omega⟩)
    match a with
    | ⟨0, _⟩ => show b.val * 1 + ((⟨4, ![1, 64, 1, 1]⟩ : Shape).rowMajor.symm n 0).val - 0 = b.val; rw [w0]; omega
    | ⟨1, _⟩ => show i.val * 1 + ((⟨4, ![1, 64, 1, 1]⟩ : Shape).rowMajor.symm n 1).val - 63 = i.val + n.val - 63; rw [w1]; omega
    | ⟨2, _⟩ => show hd.val * 1 + ((⟨4, ![1, 64, 1, 1]⟩ : Shape).rowMajor.symm n 2).val - 0 = hd.val; rw [w2]; omega
    | ⟨3, _⟩ => show d.val * 1 + ((⟨4, ![1, 64, 1, 1]⟩ : Shape).rowMajor.symm n 3).val - 0 = d.val; rw [w3]; omega
  · next hin =>
    rw [if_neg fun hle => hin fun a => by
      match a with
      | ⟨0, _⟩ => show 0 ≤ b.val * 1 + ((⟨4, ![1, 64, 1, 1]⟩ : Shape).rowMajor.symm n 0).val ∧ b.val * 1 + ((⟨4, ![1, 64, 1, 1]⟩ : Shape).rowMajor.symm n 0).val - 0 < 4; rw [w0]; omega
      | ⟨1, _⟩ => show 63 ≤ i.val * 1 + ((⟨4, ![1, 64, 1, 1]⟩ : Shape).rowMajor.symm n 1).val ∧ i.val * 1 + ((⟨4, ![1, 64, 1, 1]⟩ : Shape).rowMajor.symm n 1).val - 63 < 64; rw [w1]; omega
      | ⟨2, _⟩ => show 0 ≤ hd.val * 1 + ((⟨4, ![1, 64, 1, 1]⟩ : Shape).rowMajor.symm n 2).val ∧ hd.val * 1 + ((⟨4, ![1, 64, 1, 1]⟩ : Shape).rowMajor.symm n 2).val - 0 < 16; rw [w2]; omega
      | ⟨3, _⟩ => show 0 ≤ d.val * 1 + ((⟨4, ![1, 64, 1, 1]⟩ : Shape).rowMajor.symm n 3).val ∧ d.val * 1 + ((⟨4, ![1, 64, 1, 1]⟩ : Shape).rowMajor.symm n 3).val - 0 < 128; rw [w3]; omega]

/-- A chunk's number as a word is the number. -/
theorem small_start : ∀ n : Fin 32, (min (max (BitVec.ofNat 32 n.val).toInt 0) ((32 - 1 : ℕ) : ℤ)).toNat = n.val := by decide +kernel

/-- Chunk `n` of a stacked array, at an index. -/
theorem slice_at (x : FVec Ideal S32x4x64x16x128 .f32) (k : (⟨S_, .i32⟩ : BufTy).Contents (Elt Ideal)) (n : Fin 32)
    (hk : k = fun _ => BitVec.ofNat 32 n.val) (b : Fin 4) (i : Fin 64) (h : Fin 16) (d : Fin 128) :
    shapeCast S4x64x16x128 (Host.dynamicSlice S1x4x64x16x128 x (fun j => (((![k, constantI S_ 32 0#32, constantI S_ 32 0#32, constantI S_ 32 0#32, constantI S_ 32 0#32] : Fin 5 → (⟨S_, .i32⟩ : BufTy).Contents (Elt Ideal))) j (Shape.Idx.first h_S_)).toInt) sliceFits_S32x4x64x16x128_S1x4x64x16x128) shapeCasts_S1x4x64x16x128_S4x64x16x128 (ix4 b i h d)
      = x (ix5 n b i h d) := by
  subst hk
  pointwise
  refine congrArg x (funext fun a => Fin.ext ?_)
  match a with
  | ⟨0, _⟩ => exact small_start n
  | ⟨1, _⟩ => exact Nat.zero_add _
  | ⟨2, _⟩ => exact Nat.zero_add _
  | ⟨3, _⟩ => exact Nat.zero_add _
  | ⟨4, _⟩ => exact Nat.zero_add _

/-- A chunk's number as a signed word. -/
theorem small_toInt : ∀ n : Fin 32, (BitVec.ofNat 32 n.val).toInt = (n.val : ℤ) := by decide +kernel

/-- A stacked array with chunk `n` replaced, at an index. -/
theorem update_at (x : FVec Ideal S32x4x64x16x128 .f32) (u : FVec Ideal S1x4x64x16x128 .f32) (k : (⟨S_, .i32⟩ : BufTy).Contents (Elt Ideal)) (n : Fin 32)
    (hk : k = fun _ => BitVec.ofNat 32 n.val) (c : Fin 32) (b : Fin 4) (i : Fin 64) (h : Fin 16) (d : Fin 128) :
    Host.dynamicUpdateSlice x u (fun j => (((![k, constantI S_ 32 0#32, constantI S_ 32 0#32, constantI S_ 32 0#32, constantI S_ 32 0#32] : Fin 5 → (⟨S_, .i32⟩ : BufTy).Contents (Elt Ideal))) j (Shape.Idx.first h_S_)).toInt) updateFits_S32x4x64x16x128_S1x4x64x16x128 (ix5 c b i h d)
      = if c = n then u (ix5 0 b i h d) else x (ix5 c b i h d) := by
  subst hk
  have hn : n.val < 32 := n.isLt
  refine (congrFun (WordCmp.dynamicUpdateSlice_eq_update (s := S32x4x64x16x128) (u := S1x4x64x16x128) x u _ _ ![n.val, 0, 0, 0, 0] ⟨rfl, fun a => by
      match a with
      | ⟨0, _⟩ => show n.val + 1 ≤ 32; omega
      | ⟨1, _⟩ => show 0 + 4 ≤ 4; omega
      | ⟨2, _⟩ => show 0 + 64 ≤ 64; omega
      | ⟨3, _⟩ => show 0 + 16 ≤ 16; omega
      | ⟨4, _⟩ => show 0 + 128 ≤ 128; omega⟩ fun a => by
      match a with
      | ⟨0, _⟩ => exact small_toInt n
      | ⟨1, _⟩ => rfl
      | ⟨2, _⟩ => rfl
      | ⟨3, _⟩ => rfl
      | ⟨4, _⟩ => rfl) (ix5 c b i h d)).trans ?_
  unfold updateSlice
  by_cases hc : c = n
  · rw [if_pos hc, dif_pos fun a => by
      match a with
      | ⟨0, _⟩ => show n.val ≤ c.val ∧ c.val < n.val + 1; rw [hc]; omega
      | ⟨1, _⟩ => exact ⟨Nat.zero_le _, (Nat.zero_add _).symm ▸ b.isLt⟩
      | ⟨2, _⟩ => exact ⟨Nat.zero_le _, (Nat.zero_add _).symm ▸ i.isLt⟩
      | ⟨3, _⟩ => exact ⟨Nat.zero_le _, (Nat.zero_add _).symm ▸ h.isLt⟩
      | ⟨4, _⟩ => exact ⟨Nat.zero_le _, (Nat.zero_add _).symm ▸ d.isLt⟩]
    refine congrArg u (funext fun a => Fin.ext ?_)
    match a with
    | ⟨0, _⟩ => show c.val - n.val = 0; rw [hc]; omega
    | ⟨1, _⟩ => rfl
    | ⟨2, _⟩ => rfl
    | ⟨3, _⟩ => rfl
    | ⟨4, _⟩ => rfl
  · rw [if_neg hc, dif_neg fun H => hc (Fin.ext (by
      have := H 0
      change n.val ≤ c.val ∧ c.val < n.val + 1 at this
      omega))]

/-- What the loop carries, read at an index: the counter, the four stacked inputs and the causal mask. -/
structure Carried (V0 : Valuation τ sig (Elt Ideal)) (n : Fin 32) (L : Fin 16 → Fin 128 → EReal) (Q G V : Fin 4 → Fin 16 → ℕ → Fin 128 → EReal) : Prop where
  ctr : V0 (Proc.devRef .tc main_v50_5) = fun _ => BitVec.ofNat 32 n.val
  q : ∀ (c : Fin 32) (b : Fin 4) (i : Fin 64) (h : Fin 16) (d : Fin 128), (V0 (Proc.devRef .tc main_v50_0) : FVec Ideal S32x4x64x16x128 .f32) (ix5 c b i h d) = Q b h (64 * c.val + i.val) d
  f : ∀ (c : Fin 32) (b : Fin 4) (i : Fin 64) (h : Fin 16) (d : Fin 128), (V0 (Proc.devRef .tc main_v50_1) : FVec Ideal S32x4x64x16x128 .f32) (ix5 c b i h d) = lf (L h) (G b h) (64 * c.val + i.val) d
  k : ∀ (c : Fin 32) (b : Fin 4) (i : Fin 64) (h : Fin 16) (d : Fin 128), (V0 (Proc.devRef .tc main_v50_2) : FVec Ideal S32x4x64x16x128 .f32) (ix5 c b i h d) = key (L h) (G b h) (64 * c.val + i.val) d
  v : ∀ (c : Fin 32) (b : Fin 4) (i : Fin 64) (h : Fin 16) (d : Fin 128), (V0 (Proc.devRef .tc main_v50_3) : FVec Ideal S32x4x64x16x128 .f32) (ix5 c b i h d) = V b h (64 * c.val + i.val) d
  mask : ∀ i j : Fin 64, (V0 (Proc.devRef .tc main_v50_4) : IVec S64x64 1) (ix2 i j) = if j ≤ i then 1#1 else 0#1

section
variable {V0 : Valuation τ sig (Elt Ideal)} {n : Fin 32} {L : Fin 16 → Fin 128 → EReal} {Q G V : Fin 4 → Fin 16 → ℕ → Fin 128 → EReal} (H : Carried V0 n L Q G V)
include H

theorem v74_at (b : Fin 4) (i : Fin 64) (h : Fin 16) (d : Fin 128) : (res_main_while0b_v74 V0 : FVec Ideal S4x64x16x128 .f32) (ix4 b i h d) = Q b h (64 * n.val + i.val) d := by
  unfold res_main_while0b_v74
  exact (slice_at _ _ n H.ctr b i h d).trans (H.q n b i h d)

theorem v76_at (b : Fin 4) (i : Fin 64) (h : Fin 16) (d : Fin 128) : (res_main_while0b_v76 V0 : FVec Ideal S4x64x16x128 .f32) (ix4 b i h d) = key (L h) (G b h) (64 * n.val + i.val) d := by
  unfold res_main_while0b_v76
  exact (slice_at _ _ n H.ctr b i h d).trans (H.k n b i h d)

theorem v77_at (b : Fin 4) (i : Fin 64) (h : Fin 16) (d : Fin 128) : (res_main_while0b_v77 V0 : FVec Ideal S4x64x16x128 .f32) (ix4 b i h d) = V b h (64 * n.val + i.val) d := by
  unfold res_main_while0b_v77
  exact (slice_at _ _ n H.ctr b i h d).trans (H.v n b i h d)

theorem v78_at (b : Fin 4) (i : Fin 64) (h : Fin 16) (d : Fin 128) : (res_main_while0b_v78 V0 : FVec Ideal S4x64x16x128 .f32) (ix4 b i h d) = cum (L h) (G b h) n.val i.val d := by
  unfold res_main_while0b_v78
  refine cumsum_at _ _ (fun j => by pointwise) _ _ b i h d (fun j => lf (L h) (G b h) (64 * n.val + j) d) fun j => ?_
  exact (slice_at _ _ n H.ctr b j h d).trans (H.f n b j h d)

theorem v79_at (b : Fin 4) (h : Fin 16) (d : Fin 128) : (res_main_while0b_v79 V0 : FVec Ideal S4x1x16x128 .f32) (ix4 b 0 h d) = cum (L h) (G b h) n.val 31 d := by
  unfold res_main_while0b_v79
  pointwise
  exact v78_at H b 31 h d

theorem v98_at (b : Fin 4) (h : Fin 16) (d : Fin 128) : (res_main_while0b_v98 V0 : FVec Ideal S4x16x128 .f32) (ix3 b h d) = cum (L h) (G b h) n.val 63 d := by
  unfold res_main_while0b_v98
  pointwise
  exact v78_at H b 63 h d

/-- A trip's state. -/
theorem state_at (S : Fin 4 → Fin 16 → Fin 128 → Fin 128 → EReal)
    (hS : ∀ b h d e, (V0 (Proc.devRef .tc main_v50_6) : FVec Ideal S4x16x128x128 .f32) (ix4 b h d e) = S b h d e) (b : Fin 4) (h : Fin 16) (d e : Fin 128) :
    (step_main_v50_6 V0 : FVec Ideal S4x16x128x128 .f32) (ix4 b h d e) = step (L h) (G b h) (V b h) n.val (S b h) d e := by
  unfold step_main_v50_6
  rw [id]
  pointwise
  rw [v98_at H, hS]
  unfold step
  refine congrArg₂ (· + ·) rfl (Finset.sum_congr rfl fun j _ => ?_)
  rw [v76_at H, v78_at H, v77_at H]

/-- A trip's rows. -/
theorem rows_at (S : Fin 4 → Fin 16 → Fin 128 → Fin 128 → EReal)
    (hS : ∀ b h d e, (V0 (Proc.devRef .tc main_v50_6) : FVec Ideal S4x16x128x128 .f32) (ix4 b h d e) = S b h d e)
    (c : Fin 32) (b : Fin 4) (i : Fin 64) (h : Fin 16) (e : Fin 128) :
    (step_main_v50_7 V0 : FVec Ideal S32x4x64x16x128 .f32) (ix5 c b i h e)
      = if c = n then (∑ j, V b h (64 * n.val + j.val) e * score (L h) (Q b h) (G b h) n.val i j) + ∑ d, S b h d e * (Q b h (64 * n.val + i.val) d * Ideal.exp (cum (L h) (G b h) n.val i.val d))
        else (V0 (Proc.devRef .tc main_v50_7) : FVec Ideal S32x4x64x16x128 .f32) (ix5 c b i h e) := by
  unfold step_main_v50_7
  rw [id]
  refine (update_at _ _ _ n H.ctr c b i h e).trans ?_
  refine if_congr Iff.rfl ?_ rfl
  pointwise
  refine congrArg₂ (· + ·) (Finset.sum_congr rfl fun j _ => ?_) (Finset.sum_congr rfl fun d _ => ?_)
  · rw [v77_at H, H.mask i j]
    unfold score
    refine congrArg _ ?_
    by_cases hji : j ≤ i
    · rw [if_pos hji, if_pos hji]
      refine (if_pos rfl).trans (Finset.sum_congr rfl fun d _ => ?_)
      rw [v74_at H, v78_at H, v79_at H, v76_at H, v78_at H]
    · rw [if_neg hji, if_neg hji]
      exact (if_neg (by decide)).trans Ideal.ofBits_zero_f32
  · rw [hS, v74_at H, v78_at H]
end

end Cert.ReferenceIdeal.Value

end
-- ==== Proof.RefEntry.lean ====
/-
  What the reference's loop enters with, read at an index.
-/
module

public import proofs.«01_k».proof.Proof.RefStep
public import proofs.«01_k».proof.Proof.Answer

@[expose] public section

set_option maxRecDepth 100000

namespace Cert.ReferenceIdeal.Value

open Cert.ReferenceIdeal Cert.ReferenceIdeal.Gen Cert.Recurrence
open Idealize.ShloMosaic Idealize.ShloMosaic.TcCoe Idealize.ShloMosaic.Tactic
open Idealize.ShloMosaic.StableHlo

variable (m : (ℓ : Loc nD τ sig) → Buf (Elt Ideal) ℓ) (cc : Dev nD)

/-- An entry of the projections as a head's position and channel. -/
theorem win_of (proj : (⟨2, ![8704, 14336]⟩ : Shape).Idx → EReal) (s : Fin 7) (b : Fin 4) (h : Fin 16) (t : ℕ) (d : Fin 128) (ht : t < 2048)
    (r : Fin 8704) (c : Fin 14336) (hr : r.val = 2048 * b.val + t) (hc : c.val = 128 * (16 * s.val + h.val) + d.val) :
    proj (ix2 r c) = win proj s b h t d := by
  unfold win
  rw [dif_pos ht]
  exact congrArg₂ (fun r c => proj (ix2 r c)) (Fin.ext hr) (Fin.ext hc)

/-- An entry of a vector as a head's channel. -/
theorem lane_of (x : (⟨2, ![1, 2048]⟩ : Shape).Idx → EReal) (h : Fin 16) (d : Fin 128) (c : Fin 2048) (hc : c.val = 128 * h.val + d.val) :
    x (ix2 (0 : Fin 1) c) = lane x h d := by
  unfold lane
  exact congrArg (fun c => x (ix2 (0 : Fin 1) c)) (Fin.ext hc)

/-- The log gate from entries of the projections and of the floor. -/
theorem lf_of (proj : (⟨2, ![8704, 14336]⟩ : Shape).Idx → EReal) (x : (⟨2, ![1, 2048]⟩ : Shape).Idx → EReal) (b : Fin 4) (h : Fin 16) (t : ℕ) (d : Fin 128) (ht : t < 2048)
    (r : Fin 8704) (c : Fin 14336) (l : Fin 2048) (hr : r.val = 2048 * b.val + t) (hc : c.val = 128 * (16 * 4 + h.val) + d.val) (hl : l.val = 128 * h.val + d.val) :
    Ideal.log (x (ix2 (0 : Fin 1) l) + (1 - x (ix2 (0 : Fin 1) l)) * Ideal.div 1 (1 + Ideal.exp (-proj (ix2 r c)))) = lf (lane x h) (win proj 4 b h) t d := by
  rw [win_of proj 4 b h t d ht r c hr hc, lane_of x h d l hl]; rfl

/-- The key from entries of the projections and of the floor. -/
theorem key_of (proj : (⟨2, ![8704, 14336]⟩ : Shape).Idx → EReal) (x : (⟨2, ![1, 2048]⟩ : Shape).Idx → EReal) (b : Fin 4) (h : Fin 16) (t : ℕ) (d : Fin 128) (ht : t < 2048)
    (r : Fin 8704) (c : Fin 14336) (l : Fin 2048) (hr : r.val = 2048 * b.val + t) (hc : c.val = 128 * (16 * 4 + h.val) + d.val) (hl : l.val = 128 * h.val + d.val) :
    (1 - x (ix2 (0 : Fin 1) l)) * Ideal.div 1 (1 + Ideal.exp (-(-proj (ix2 r c)))) = key (lane x h) (win proj 4 b h) t d := by
  rw [win_of proj 4 b h t d ht r c hr hc, lane_of x h d l hl]; rfl

/-- The queries the loop enters with. -/
theorem entry_q (c : Fin 32) (b : Fin 4) (i : Fin 64) (h : Fin 16) (d : Fin 128) :
    (entryContents preI m cc (Proc.devRef .tc main_v50_0) : FVec Ideal S32x4x64x16x128 .f32) (ix5 c b i h d)
      = win (m ((cc.tc : Thread nD τ).loc main_arg0)) 3 b h (64 * c.val + i.val) d := by
  simp only [entryContents, afterL_cons, afterL_nil]
  after_reads_simp
  simp only [id_eq]
  pointwise
  have hi := i.isLt
  have hc := c.isLt
  exact win_of _ 3 b h (64 * c.val + i.val) d (by omega) _ _ (by show b.val * 2048 + (c.val * 64 + i.val) = _; omega) (by show 6144 + (h.val * 128 + d.val) = _; omega)

set_option maxHeartbeats 2000000 in
/-- The log gates the loop enters with. -/
theorem entry_f (c : Fin 32) (b : Fin 4) (i : Fin 64) (h : Fin 16) (d : Fin 128) :
    (entryContents preI m cc (Proc.devRef .tc main_v50_1) : FVec Ideal S32x4x64x16x128 .f32) (ix5 c b i h d)
      = lf (lane (m ((cc.tc : Thread nD τ).loc main_arg1)) h) (win (m ((cc.tc : Thread nD τ).loc main_arg0)) 4 b h) (64 * c.val + i.val) d := by
  simp only [entryContents, afterL_cons, afterL_nil]
  after_reads_simp
  pointwise
  rw [id]
  pointwise
  have hi := i.isLt
  have hc := c.isLt
  have hb := b.isLt
  have hh := h.isLt
  have hd := d.isLt
  exact lf_of (m ((cc.tc : Thread nD τ).loc main_arg0)) (m ((cc.tc : Thread nD τ).loc main_arg1)) b h (64 * c.val + i.val) d (by omega) ⟨b.val * 2048 + (c.val * 64 + i.val), by omega⟩ ⟨6144 + (2048 + (h.val * 128 + d.val)), by omega⟩ ⟨h.val * 128 + d.val, by omega⟩
    (by show b.val * 2048 + (c.val * 64 + i.val) = _; omega) (by show 6144 + (2048 + (h.val * 128 + d.val)) = _; omega) (by show h.val * 128 + d.val = _; omega)

set_option maxHeartbeats 2000000 in
/-- The keys the loop enters with. -/
theorem entry_k (c : Fin 32) (b : Fin 4) (i : Fin 64) (h : Fin 16) (d : Fin 128) :
    (entryContents preI m cc (Proc.devRef .tc main_v50_2) : FVec Ideal S32x4x64x16x128 .f32) (ix5 c b i h d)
      = key (lane (m ((cc.tc : Thread nD τ).loc main_arg1)) h) (win (m ((cc.tc : Thread nD τ).loc main_arg0)) 4 b h) (64 * c.val + i.val) d := by
  simp only [entryContents, afterL_cons, afterL_nil]
  after_reads_simp
  pointwise
  rw [id]
  pointwise
  have hi := i.isLt
  have hc := c.isLt
  have hb := b.isLt
  have hh := h.isLt
  have hd := d.isLt
  exact key_of (m ((cc.tc : Thread nD τ).loc main_arg0)) (m ((cc.tc : Thread nD τ).loc main_arg1)) b h (64 * c.val + i.val) d (by omega) ⟨b.val * 2048 + (c.val * 64 + i.val), by omega⟩ ⟨6144 + (2048 + (h.val * 128 + d.val)), by omega⟩ ⟨h.val * 128 + d.val, by omega⟩
    (by show b.val * 2048 + (c.val * 64 + i.val) = _; omega) (by show 6144 + (2048 + (h.val * 128 + d.val)) = _; omega) (by show h.val * 128 + d.val = _; omega)

/-- The values the loop enters with. -/
theorem entry_v (c : Fin 32) (b : Fin 4) (i : Fin 64) (h : Fin 16) (d : Fin 128) :
    (entryContents preI m cc (Proc.devRef .tc main_v50_3) : FVec Ideal S32x4x64x16x128 .f32) (ix5 c b i h d)
      = win (m ((cc.tc : Thread nD τ).loc main_arg0)) 5 b h (64 * c.val + i.val) d := by
  simp only [entryContents, afterL_cons, afterL_nil]
  after_reads_simp
  simp only [id_eq]
  pointwise
  have hi := i.isLt
  have hc := c.isLt
  exact win_of _ 5 b h (64 * c.val + i.val) d (by omega) _ _ (by show b.val * 2048 + (c.val * 64 + i.val) = _; omega) (by show 6144 + (4096 + (h.val * 128 + d.val)) = _; omega)

/-- The state the loop enters with is zero. -/
theorem entry_state (b : Fin 4) (h : Fin 16) (d e : Fin 128) :
    (entryContents preI m cc (Proc.devRef .tc main_v50_6) : FVec Ideal S4x16x128x128 .f32) (ix4 b h d e) = (0 : EReal) := by
  simp only [entryContents, afterL_cons, afterL_nil]
  after_reads_simp
  simp only [id_eq]
  pointwise

/-- The causal mask. -/
theorem entry_mask (i j : Fin 64) :
    (entryContents preI m cc (Proc.devRef .tc main_v50_4) : IVec S64x64 1) (ix2 i j) = if j ≤ i then 1#1 else 0#1 := by
  simp only [entryContents, afterL_cons, afterL_nil]
  after_reads_simp
  show select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) (ix2 i j) = _
  pointwise
  revert i j
  decide +kernel

end Cert.ReferenceIdeal.Value

end
-- ==== Proof.RefValue.lean ====
/-
  The reference's two results are the recurrence's gated rows and its final state.
-/
module

public import proofs.«01_k».proof.Proof.RefEntry

@[expose] public section

set_option maxRecDepth 16384

noncomputable section

namespace Cert.ReferenceIdeal.Value

open Cert.ReferenceIdeal Cert.ReferenceIdeal.Gen Cert.Recurrence
open Idealize.ShloMosaic Idealize.ShloMosaic.TcCoe Idealize.ShloMosaic.Tactic
open Idealize.ShloMosaic.StableHlo

attribute [local irreducible] STEP

section
variable {E : Valuation τ sig (Elt Ideal)} {L : Fin 16 → Fin 128 → EReal} {Q G V : Fin 4 → Fin 16 → ℕ → Fin 128 → EReal} (H : Carried E 0 L Q G V)
include H

/-- After `k` trips the inputs are as at the loop's entry and the counter is `k`. -/
theorem carried_iter (k : ℕ) : ∀ hk : k < 32, Carried (STEP^[k] E) ⟨k, hk⟩ L Q G V := by
  induction k with
  | zero => intro hk; exact H
  | succ k ih =>
    intro hk
    have C := ih (by omega)
    rw [Function.iterate_succ_apply']
    refine ⟨?_, ?_, ?_, ?_, ?_, ?_⟩
    · rw [STEP_main_v50_5]
      unfold step_main_v50_5
      rw [C.ctr, id]
      funext _
      exact (BitVec.ofNat_add k 1).symm
    · rw [STEP_main_v50_0]; exact C.q
    · rw [STEP_main_v50_1]; exact C.f
    · rw [STEP_main_v50_2]; exact C.k
    · rw [STEP_main_v50_3]; exact C.v
    · rw [STEP_main_v50_4]; exact C.mask

/-- After `k` trips the carried state is the recurrence's state before chunk `k`. -/
theorem state_iter (h0 : ∀ b h d e, (E (Proc.devRef .tc main_v50_6) : FVec Ideal S4x16x128x128 .f32) (ix4 b h d e) = (0 : EReal)) (k : ℕ) (hk : k ≤ 32) :
    ∀ (b : Fin 4) (h : Fin 16) (d e : Fin 128), ((STEP^[k] E) (Proc.devRef .tc main_v50_6) : FVec Ideal S4x16x128x128 .f32) (ix4 b h d e) = st (L h) (G b h) (V b h) k d e := by
  induction k with
  | zero => exact h0
  | succ k ih =>
    intro b h d e
    rw [Function.iterate_succ_apply', STEP_main_v50_6]
    exact state_at (carried_iter H k (by omega)) _ (ih (by omega)) b h d e

/-- After `k` trips the rows of the chunks below `k` are the recurrence's. -/
theorem rows_iter (h0 : ∀ b h d e, (E (Proc.devRef .tc main_v50_6) : FVec Ideal S4x16x128x128 .f32) (ix4 b h d e) = (0 : EReal)) (k : ℕ) (hk : k ≤ 32) :
    ∀ (c : Fin 32) (hc : c.val < k) (b : Fin 4) (i : Fin 64) (h : Fin 16) (e : Fin 128),
      ((STEP^[k] E) (Proc.devRef .tc main_v50_7) : FVec Ideal S32x4x64x16x128 .f32) (ix5 c b i h e) = out (L h) (Q b h) (G b h) (V b h) c.val i e := by
  induction k with
  | zero => intro c hc; exact absurd hc (Nat.not_lt_zero _)
  | succ k ih =>
    intro c hc b i h e
    rw [Function.iterate_succ_apply', STEP_main_v50_7]
    refine (rows_at (carried_iter H k (by omega)) _ (state_iter H h0 k (by omega)) c b i h e).trans ?_
    by_cases hck : c = ⟨k, by omega⟩
    · rw [if_pos hck, hck]; rfl
    · rw [if_neg hck]
      refine ih (by omega) c ?_ b i h e
      have : c.val ≠ k := fun h => hck (Fin.ext h)
      omega
end

attribute [local irreducible] st out

variable (m : (ℓ : Loc nD τ sig) → Buf (Elt Ideal) ℓ) (cc : Dev nD)

/-- The loop's entry carries the windows of the projections. -/
theorem entry_carried : Carried (entryContents preI m cc) 0 (lane (m ((cc.tc : Thread nD τ).loc main_arg1)))
    (win (m ((cc.tc : Thread nD τ).loc main_arg0)) 3) (win (m ((cc.tc : Thread nD τ).loc main_arg0)) 4) (win (m ((cc.tc : Thread nD τ).loc main_arg0)) 5) where
  ctr := ctr_entry m cc
  q := entry_q m cc
  f := entry_f m cc
  k := entry_k m cc
  v := entry_v m cc
  mask := entry_mask m cc

/-- The second result is the recurrence's final state. -/
theorem second_value : ((STEP^[32] (entryContents preI m cc)) (Proc.devRef .tc main_v50_6) : FVec Ideal S4x16x128x128 .f32)
    = final (m ((cc.tc : Thread nD τ).loc main_arg0)) (m ((cc.tc : Thread nD τ).loc main_arg1)) := by
  funext y
  obtain ⟨b, h, d, e, rfl⟩ : ∃ (b : Fin 4) (h : Fin 16) (d e : Fin 128), y = ix4 b h d e :=
    ⟨y 0, y 1, y 2, y 3, funext fun a => by match a with | ⟨0, _⟩ => rfl | ⟨1, _⟩ => rfl | ⟨2, _⟩ => rfl | ⟨3, _⟩ => rfl⟩
  rw [final_at]
  exact state_iter (k := 32) (entry_carried m cc) (entry_state m cc) le_rfl b h d e

/-- The first result from the loop's last values: normed and gated rows. -/
theorem gated_at (X : Valuation τ sig (Elt Ideal)) (O : Fin 4 → Fin 2048 → Fin 16 → Fin 128 → EReal)
    (hO : ∀ (c : Fin 32) (b : Fin 4) (i : Fin 64) (h : Fin 16) (e : Fin 128),
      (X (Proc.devRef .tc main_v50_7) : FVec Ideal S32x4x64x16x128 .f32) (ix5 c b i h e) = O b ⟨64 * c.val + i.val, by have := c.isLt; have := i.isLt; omega⟩ h e)
    (y : S8192x2048.Idx) (b : Fin 4) (h : Fin 16) (t : Fin 2048) (e : Fin 128)
    (h0 : (y 0).val = 2048 * b.val + t.val) (h1 : (y 1).val = 128 * h.val + e.val) :
    (out_main_v73 X : FVec Ideal S8192x2048 .bf16) y
      = gated (O b t h) (lane (X (Proc.devRef .tc main_arg2)) h) (win (X (Proc.devRef .tc main_arg0)) 6 b h t.val e) e := by
  have hb := b.isLt
  have hh := h.isLt
  have ht := t.isLt
  have he := e.isLt
  have hrow : ∀ (c : Fin 32) (b' : Fin 4) (i : Fin 64) (h' : Fin 16) (x : Fin 128), c.val = t.val / 64 → b'.val = b.val → i.val = t.val % 64 → h'.val = h.val →
      (X (Proc.devRef .tc main_v50_7) : FVec Ideal S32x4x64x16x128 .f32) (ix5 c b' i h' x) = O b t h x := by
    intro c b' i h' x e0 e1 e2 e3
    obtain rfl := Fin.ext e1
    obtain rfl := Fin.ext e3
    exact (hO c b' i h' x).trans (congrArg (fun t => O b' t h' x) (Fin.ext (by show 64 * c.val + i.val = t.val; omega)))
  have hw := win_of (X (Proc.devRef .tc main_arg0)) 6 b h t.val e ht ⟨(y 0).val, by omega⟩ ⟨12288 + (y 1).val, by omega⟩ h0 (by show 12288 + (y 1).val = 128 * (16 * 6 + h.val) + e.val; omega)
  have hn := lane_of (X (Proc.devRef .tc main_arg2)) h e (y 1) h1
  have a0 : (y 0).val % 2048 / 64 = t.val / 64 := by omega
  have a1 : (y 0).val / 2048 = b.val := by omega
  have a2 : (y 0).val % 2048 % 64 = t.val % 64 := by omega
  have a3 : (y 1).val / 128 = h.val := by omega
  have ee : (⟨(y 1).val % 128, Nat.mod_lt _ (by omega)⟩ : Fin 128) = e := Fin.ext (by show (y 1).val % 128 = e.val; omega)
  unfold out_main_v73
  pointwise
  unfold gated
  refine congrArg₂ (· * ·) (congrArg₂ (· * ·) (congrArg₂ (· * ·) ((hrow _ _ _ _ _ a0 a1 a2 a3).trans (congrArg (O b t h) ee)) (congrArg Ideal.rsqrt (congrArg₂ (· + ·)
    (congrArg₂ Ideal.div (Finset.sum_congr rfl fun x _ => congrArg₂ (· * ·) (hrow _ _ _ _ _ a0 a1 a2 a3) (hrow _ _ _ _ _ a0 a1 a2 a3)) rfl) rfl))) hn)
    (congrArg (fun g => g * Ideal.div 1 (1 + Ideal.exp (-g))) hw)

/-- The first result is the recurrence's gated rows. -/
theorem first_value : (out_main_v73 (STEP^[32] (entryContents preI m cc)) : FVec Ideal S8192x2048 .bf16)
    = outRows (m ((cc.tc : Thread nD τ).loc main_arg0)) (m ((cc.tc : Thread nD τ).loc main_arg1)) (m ((cc.tc : Thread nD τ).loc main_arg2)) := by
  funext y
  have h0 : (y 0).val < 8192 := (y 0).isLt
  have h1 : (y 1).val < 2048 := (y 1).isLt
  have e0 : (y 0).val = 2048 * ((y 0).val / 2048) + (y 0).val % 2048 := by omega
  have e1 : (y 1).val = 128 * ((y 1).val / 128) + (y 1).val % 128 := by omega
  obtain ⟨b, hb⟩ : ∃ b : Fin 4, b.val = (y 0).val / 2048 := ⟨⟨_, by omega⟩, rfl⟩
  obtain ⟨h, hh⟩ : ∃ h : Fin 16, h.val = (y 1).val / 128 := ⟨⟨_, by omega⟩, rfl⟩
  obtain ⟨t, ht⟩ : ∃ t : Fin 2048, t.val = (y 0).val % 2048 := ⟨⟨_, by omega⟩, rfl⟩
  obtain ⟨e, he⟩ : ∃ e : Fin 128, e.val = (y 1).val % 128 := ⟨⟨_, by omega⟩, rfl⟩
  rw [← hb, ← ht] at e0
  rw [← hh, ← he] at e1
  have hO := rows_iter (k := 32) (entry_carried m cc) (entry_state m cc) le_rfl
  have a0 := iter_main_arg0 m cc 32
  have a2 := iter_main_arg2 m cc 32
  generalize STEP^[32] (entryContents preI m cc) = X at hO a0 a2 ⊢
  rw [outRows_at _ _ _ y b h t e e0 e1]
  refine (gated_at X (fun b t h e => out (lane (m ((cc.tc : Thread nD τ).loc main_arg1)) h) (win (m ((cc.tc : Thread nD τ).loc main_arg0)) 3 b h)
    (win (m ((cc.tc : Thread nD τ).loc main_arg0)) 4 b h) (win (m ((cc.tc : Thread nD τ).loc main_arg0)) 5 b h) (t.val / 64) ⟨t.val % 64, Nat.mod_lt _ (by omega)⟩ e) (fun c b i h e => ?_) y b h t e e0 e1).trans ?_
  · have hi := i.isLt
    have q : (64 * c.val + i.val) / 64 = c.val := by omega
    have r : (⟨(64 * c.val + i.val) % 64, Nat.mod_lt _ (by omega)⟩ : Fin 64) = i := Fin.ext (by show (64 * c.val + i.val) % 64 = i.val; omega)
    refine (hO c c.isLt b i h e).trans ?_
    exact congrArg₂ (fun n i => out (lane (m ((cc.tc : Thread nD τ).loc main_arg1)) h) (win (m ((cc.tc : Thread nD τ).loc main_arg0)) 3 b h)
      (win (m ((cc.tc : Thread nD τ).loc main_arg0)) 4 b h) (win (m ((cc.tc : Thread nD τ).loc main_arg0)) 5 b h) n i e) q.symm r.symm
  · rw [a0, a2]; rfl

end Cert.ReferenceIdeal.Value

end
-- ==== Proof.InProjValue.lean ====
/-
  The input projections' kernel and its plain form compute the same array.
-/
module

public import proofs.«01_k».proof.Proof.Gen.InProjIdeal.Value
public import proofs.«01_k».proof.Proof.Gen.InProjReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.InProjection

/-- The product of the tokens' features with the projection's weights. -/
def proj (x : Vec Ideal ⟨2, ![8704, 4096]⟩ .bf16) (w : Vec Ideal ⟨2, ![4096, 14336]⟩ .f32) :
    Vec Ideal ⟨2, ![8704, 14336]⟩ .bf16 :=
  fun y => ((∑ k : Fin 4096, (x (ix2 (y 0) k) : EReal) * (w (ix2 k (y 1)) : EReal) : EReal))

end Cert.InProjection

namespace Cert.InProjIdeal.Value

open Cert.InProjIdeal Cert.InProjIdeal.Gen Cert.InProjection

variable (m : (ℓ : Loc nD τ sig) → Buf (Elt Ideal) ℓ) (ρ : Dev nD → PrngReg)

/-- Where the tokens' blocks lie. -/
theorem pos0 : ∀ t : Fin cfg0.N, cc0_transform_0 (grid0.coords t) = ![t.val % 17, 0] := by
  decide +kernel

/-- Where the weights' blocks lie. -/
theorem pos1 : ∀ t : Fin cfg0.N, cc0_transform_1 (grid0.coords t) = ![0, t.val / 17] := by
  decide +kernel

/-- Where the result's blocks lie. -/
theorem pos2 : ∀ t : Fin cfg0.N, cc0_transform_2 (grid0.coords t) = ![t.val % 17, t.val / 17] := by
  decide +kernel

/-- There are 238 grid points. -/
theorem lt_points (t : Fin cfg0.N) : t.val < 238 := lt_of_lt_of_eq t.isLt N_0

/-- A block of the tokens' features at an index. -/
theorem x_at (c : Dev nD) (t : Fin cfg0.N) (r : Fin 512) (k : Fin 4096) :
    iblk (F := Ideal) m c 0 t (ix2 r k) = m ((c.tc : Thread nD τ).loc main_arg0)
      (ix2 (⟨512 * (t.val % 17) + r.val, by omega⟩ : Fin 8704) k) := by
  unfold iblk V
  refine congrArg (m ((c.tc : Thread nD τ).loc main_arg0)) (funext fun a => Fin.ext ?_)
  match a with
  | ⟨0, _⟩ =>
    show cc0_transform_0 (grid0.coords t) 0 * 512 + 1 * r.val = _
    rw [pos0]; show t.val % 17 * 512 + 1 * r.val = 512 * (t.val % 17) + r.val; omega
  | ⟨1, _⟩ =>
    show cc0_transform_0 (grid0.coords t) 1 * 4096 + 1 * k.val = k.val
    rw [pos0]; show 0 * 4096 + 1 * k.val = _; omega

/-- A block of the weights at an index. -/
theorem w_at (c : Dev nD) (t : Fin cfg0.N) (k : Fin 4096) (j : Fin 1024) :
    iblk (F := Ideal) m c 1 t (ix2 k j) = m ((c.tc : Thread nD τ).loc main_arg1)
      (ix2 k (⟨1024 * (t.val / 17) + j.val, by have := lt_points t; omega⟩ : Fin 14336)) := by
  unfold iblk V
  refine congrArg (m ((c.tc : Thread nD τ).loc main_arg1)) (funext fun a => Fin.ext ?_)
  match a with
  | ⟨0, _⟩ =>
    show cc0_transform_1 (grid0.coords t) 0 * 4096 + 1 * k.val = k.val
    rw [pos1]; show 0 * 4096 + 1 * k.val = _; omega
  | ⟨1, _⟩ =>
    show cc0_transform_1 (grid0.coords t) 1 * 1024 + 1 * j.val = 1024 * (t.val / 17) + j.val
    rw [pos1]; show t.val / 17 * 1024 + 1 * j.val = _; omega

/-- The stored product at an index. -/
theorem pay_at (x : Vec Ideal S512x4096 .bf16) (w : Vec Ideal S4096x1024 .bf16) (r : Fin 512) (j : Fin 1024) :
    k0_pay2 (F := Ideal) x w (ix2 r j) = ((∑ k : Fin 4096, (x (ix2 r k) : EReal) * (w (ix2 k j) : EReal) : EReal)) := by
  unfold k0_pay2
  pointwise

/-- At the first row block of a column block the kept weights are this block's. -/
theorem kept_first (c : Dev nD) (t : Fin cfg0.N) (h0 : t.val % 17 = 0) (k : Fin 4096) (j : Fin 1024) :
    (outsAt0 (F := Ideal) m c t.val t.isLt).2 (ix2 k j) = iblk (F := Ideal) m c 1 t (ix2 k j) := by
  rw [outsAt0_A m c t h0]
  frame_out
  unfold k0_pay1
  pointwise

/-- The weights kept after a grid point are the columns of its column block. -/
theorem kept (c : Dev nD) (n : ℕ) : ∀ (hn : n < cfg0.N) (k : Fin 4096) (j : Fin 1024),
    (outsAt0 (F := Ideal) m c n hn).2 (ix2 k j) = iblk (F := Ideal) m c 1 ⟨n, hn⟩ (ix2 k j) := by
  induction n with
  | zero => intro hn k j; exact kept_first m c ⟨0, hn⟩ rfl k j
  | succ n ih =>
    intro hn k j
    by_cases h0 : (n + 1) % 17 = 0
    · exact kept_first m c ⟨n + 1, hn⟩ h0 k j
    · refine (congrFun (congrArg Prod.snd (outsAt0_B (F := Ideal) m c ⟨n + 1, hn⟩ h0)) (ix2 k j)).trans ?_
      refine (ih (Nat.lt_of_succ_lt hn) k j).trans ?_
      rw [w_at, w_at]
      refine congrArg (m ((c.tc : Thread nD τ).loc main_arg1)) (congrArg (ix2 k) (Fin.ext ?_))
      show 1024 * (n / 17) + j.val = 1024 * ((n + 1) / 17) + j.val
      omega

/-- The block a grid point leaves, at an index. -/
theorem block_at (c : Dev nD) (t : Fin cfg0.N) (r : Fin 512) (j : Fin 1024) :
    (outsAt0 (F := Ideal) m c t.val t.isLt).1 (ix2 r j)
      = ((∑ k : Fin 4096, (show EReal from iblk (F := Ideal) m c 0 t (ix2 r k)) * (show EReal from iblk (F := Ideal) m c 1 t (ix2 k j)) : EReal)) := by
  by_cases h0 : t.val % 17 = 0
  · rw [outsAt0_A m c t h0]
    frame_out
    rw [pay_at]
    refine Finset.sum_congr rfl fun k _ => congrArg (fun z : EReal => (show EReal from iblk (F := Ideal) m c 0 t (ix2 r k)) * z) ?_
    unfold k0_pay1
    pointwise
  · have hk := kept m c (t.val - 1) (Nat.lt_of_le_of_lt (Nat.sub_le _ _) t.isLt)
    rw [outsAt0_B m c t h0]
    frame_out
    rw [pay_at]
    refine Finset.sum_congr rfl fun k _ => congrArg (fun z : EReal => (show EReal from iblk (F := Ideal) m c 0 t (ix2 r k)) * z) ?_
    refine (congrFun (read_unread_whole (Val := Elt Ideal) cc0_scratch0 _ (outsAt0 (F := Ideal) m c (t.val - 1) _).2) (ix2 k j)).trans ?_
    rw [hk k j, w_at, w_at]
    refine congrArg (m ((c.tc : Thread nD τ).loc main_arg1)) (congrArg (ix2 k) (Fin.ext ?_))
    show 1024 * ((t.val - 1) / 17) + j.val = 1024 * (t.val / 17) + j.val
    omega

/-- The kernel's result is the product. -/
theorem result_eq (c : Dev nD) : (dats m 0 c).arrAt 2 cfg0.N
    = proj (m ((c.tc : Thread nD τ).loc main_arg0)) (m ((c.tc : Thread nD τ).loc main_arg1)) := by
  refine (dats m 0 c).arrAt_eq_of_covers 2 _ (by decide +kernel) fun t _ y => ?_
  blk_simp
  rw [after0_2]
  obtain ⟨r, j, rfl⟩ : ∃ (r : Fin 512) (j : Fin 1024), y = ix2 r j := ⟨y 0, y 1, funext fun a => by match a with | ⟨0, _⟩ => rfl | ⟨1, _⟩ => rfl⟩
  refine (block_at m c t r j).trans ?_
  unfold proj
  have e0 : (win0_2.blk t).view.emb (ix2 r j) 0 = (⟨512 * (t.val % 17) + r.val, by omega⟩ : Fin 8704) := Fin.ext (by
    show cc0_transform_2 (grid0.coords t) 0 * 512 + 1 * r.val = _
    rw [pos2]; show t.val % 17 * 512 + 1 * r.val = 512 * (t.val % 17) + r.val; omega)
  have e1 : (win0_2.blk t).view.emb (ix2 r j) 1 = (⟨1024 * (t.val / 17) + j.val, by have := lt_points t; omega⟩ : Fin 14336) := Fin.ext (by
    show cc0_transform_2 (grid0.coords t) 1 * 1024 + 1 * j.val = _
    rw [pos2]; show t.val / 17 * 1024 + 1 * j.val = 1024 * (t.val / 17) + j.val; omega)
  refine Finset.sum_congr rfl fun k _ => ?_
  rw [x_at, w_at]
  exact congrArg₂ (fun a b => (show EReal from m ((c.tc : Thread nD τ).loc main_arg0) (ix2 a k)) * (show EReal from m ((c.tc : Thread nD τ).loc main_arg1) (ix2 k b))) e0.symm e1.symm

end Cert.InProjIdeal.Value

namespace Cert.InProjection

/-- The plain form's result is the product. -/
theorem plain_eq (x : Vec Ideal ⟨2, ![8704, 4096]⟩ .bf16) (w : Vec Ideal ⟨2, ![4096, 14336]⟩ .f32) :
    truncf (F := Ideal) .bf16 (Host.dotGeneral (F := Ideal) (φ₁ := .f32) (φ₂ := .f32) Cert.InProjReferenceIdeal.dot_S8704x4096_S4096x14336_S8704x14336_1_0_0_1_n_n none
      (extf (F := Ideal) .f32 x Cert.InProjReferenceIdeal.Facts₀.bitsLt_bf16_f32) w) Cert.InProjReferenceIdeal.Facts₀.bitsLt_bf16_f32 = proj x w := by
  funext y
  obtain ⟨r, j, rfl⟩ : ∃ (r : Fin 8704) (j : Fin 14336), y = ix2 r j := ⟨y 0, y 1, funext fun a => by match a with | ⟨0, _⟩ => rfl | ⟨1, _⟩ => rfl⟩
  pointwise
  rfl

end Cert.InProjection

end
-- ==== Proof.OutProjValue.lean ====
/-
  The output projection's kernel and its plain form compute the same array.
-/
module

public import proofs.«01_k».proof.Proof.Gen.OutProjIdeal.Value
public import proofs.«01_k».proof.Proof.Gen.OutProjReferenceIdeal.Run
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.OutProjection

/-- The two halves of a row of mixed features times the two halves of the weights, added to the residual. -/
def mixed (n : ℕ) (a b : Vec Ideal ⟨2, ![n, 2048]⟩ .bf16) (x : Vec Ideal ⟨2, ![n, 4096]⟩ .f32) (w : Vec Ideal ⟨2, ![4096, 4096]⟩ .f32)
    (r : Fin n) (j : Fin 4096) : EReal :=
  (show EReal from x (ix2 r j)) + ((∑ k : Fin 2048, (show EReal from a (ix2 r k)) * (show EReal from w (ix2 (⟨k.val, by omega⟩ : Fin 4096) j)))
    + ∑ k : Fin 2048, (show EReal from b (ix2 r k)) * (show EReal from w (ix2 (⟨2048 + k.val, by omega⟩ : Fin 4096) j)))

/-- The prompts' rows followed by the samples' rows. -/
def joined (a b : Vec Ideal ⟨2, ![8192, 2048]⟩ .bf16) (x : Vec Ideal ⟨2, ![8192, 4096]⟩ .f32)
    (a' b' : Vec Ideal ⟨2, ![512, 2048]⟩ .bf16) (x' : Vec Ideal ⟨2, ![512, 4096]⟩ .f32) (w : Vec Ideal ⟨2, ![4096, 4096]⟩ .f32) :
    Vec Ideal ⟨2, ![8704, 4096]⟩ .f32 :=
  fun y => if h : (y 0).val < 8192 then mixed 8192 a b x w ⟨(y 0).val, h⟩ (y 1)
    else mixed 512 a' b' x' w ⟨(y 0).val - 8192, by have : (y 0).val < 8704 := (y 0).isLt; omega⟩ (y 1)

section
variable (a b : Vec Ideal ⟨2, ![8192, 2048]⟩ .bf16) (x : Vec Ideal ⟨2, ![8192, 4096]⟩ .f32)
    (a' b' : Vec Ideal ⟨2, ![512, 2048]⟩ .bf16) (x' : Vec Ideal ⟨2, ![512, 4096]⟩ .f32) (w : Vec Ideal ⟨2, ![4096, 4096]⟩ .f32)

/-- A row of the joined rows that is a prompt's. -/
theorem joined_lo (r : Fin 8704) (j : Fin 4096) (q : Fin 8192) (h : q.val = r.val) :
    joined a b x a' b' x' w (ix2 r j) = mixed 8192 a b x w q j := by
  have hq : r.val < 8192 := h ▸ q.isLt
  refine (dif_pos (show ((ix2 r j : (⟨2, ![8704, 4096]⟩ : Shape).Idx) 0).val < 8192 from hq)).trans ?_
  exact congrArg (fun q => mixed 8192 a b x w q j) (Fin.ext h.symm)

/-- A row of the joined rows that is a sample's. -/
theorem joined_hi (r : Fin 8704) (j : Fin 4096) (q : Fin 512) (h : 8192 + q.val = r.val) :
    joined a b x a' b' x' w (ix2 r j) = mixed 512 a' b' x' w q j := by
  have hq : ¬ r.val < 8192 := by omega
  refine (dif_neg (show ¬ ((ix2 r j : (⟨2, ![8704, 4096]⟩ : Shape).Idx) 0).val < 8192 from hq)).trans ?_
  exact congrArg (fun q => mixed 512 a' b' x' w q j) (Fin.ext (show r.val - 8192 = q.val by omega))

end

end Cert.OutProjection

namespace Cert.OutProjIdeal.Value

open Cert.OutProjIdeal Cert.OutProjIdeal.Gen Cert.OutProjection

variable (m : (ℓ : Loc nD τ sig) → Buf (Elt Ideal) ℓ) (ρ : Dev nD → PrngReg)

/-- There are 68 grid points. -/
theorem lt_points (t : Fin cfg0.N) : t.val < 68 := lt_of_lt_of_eq t.isLt N_0

theorem pos0 : ∀ t : Fin cfg0.N, t.val % 17 ≤ 15 → cc0_transform_0 (grid0.coords t) = ![t.val % 17, 0] := by decide +kernel
theorem pos1 : ∀ t : Fin cfg0.N, t.val % 17 ≤ 15 → cc0_transform_1 (grid0.coords t) = ![t.val % 17, 0] := by decide +kernel
theorem pos2 : ∀ t : Fin cfg0.N, t.val % 17 ≤ 15 → cc0_transform_2 (grid0.coords t) = ![t.val % 17, t.val / 17] := by decide +kernel
theorem pos3 : ∀ t : Fin cfg0.N, cc0_transform_3 (grid0.coords t) = ![0, 0] := by decide +kernel
theorem pos4 : ∀ t : Fin cfg0.N, cc0_transform_4 (grid0.coords t) = ![0, 0] := by decide +kernel
theorem pos5 : ∀ t : Fin cfg0.N, cc0_transform_5 (grid0.coords t) = ![0, t.val / 17] := by decide +kernel
theorem pos6 : ∀ t : Fin cfg0.N, cc0_transform_6 (grid0.coords t) = ![0, t.val / 17] := by decide +kernel
theorem pos7 : ∀ t : Fin cfg0.N, cc0_transform_7 (grid0.coords t) = ![1, t.val / 17] := by decide +kernel
theorem pos8 : ∀ t : Fin cfg0.N, cc0_transform_8 (grid0.coords t) = ![t.val % 17, t.val / 17] := by decide +kernel

/-- The weights the kernel reads are the argument's. -/
theorem V_weights (c : Dev nD) : V m c main_v0 = m ((c.tc : Thread nD τ).loc main_arg6) := by
  unfold V
  after_reads_simp
  rfl

/-- A block of the prompts' convolution features at an index. -/
theorem x0_at (c : Dev nD) (t : Fin cfg0.N) (h : t.val % 17 ≤ 15) (r : Fin 512) (k : Fin 2048) :
    iblk (F := Ideal) m c 0 t (ix2 r k) = m ((c.tc : Thread nD τ).loc main_arg0) (ix2 (⟨512 * (t.val % 17) + r.val, by omega⟩ : Fin 8192) k) := by
  unfold iblk
  refine (congrFun (V_main_arg0 m c) _).trans (congrArg (m ((c.tc : Thread nD τ).loc main_arg0)) (funext fun a => Fin.ext ?_))
  match a with
  | ⟨0, _⟩ =>
    show cc0_transform_0 (grid0.coords t) 0 * 512 + 1 * r.val = _
    rw [pos0 t h]; show t.val % 17 * 512 + 1 * r.val = 512 * (t.val % 17) + r.val; omega
  | ⟨1, _⟩ =>
    show cc0_transform_0 (grid0.coords t) 1 * 2048 + 1 * k.val = k.val
    rw [pos0 t h]; show 0 * 2048 + 1 * k.val = _; omega

/-- A block of the prompts' recurrence features at an index. -/
theorem x1_at (c : Dev nD) (t : Fin cfg0.N) (h : t.val % 17 ≤ 15) (r : Fin 512) (k : Fin 2048) :
    iblk (F := Ideal) m c 1 t (ix2 r k) = m ((c.tc : Thread nD τ).loc main_arg1) (ix2 (⟨512 * (t.val % 17) + r.val, by omega⟩ : Fin 8192) k) := by
  unfold iblk
  refine (congrFun (V_main_arg1 m c) _).trans (congrArg (m ((c.tc : Thread nD τ).loc main_arg1)) (funext fun a => Fin.ext ?_))
  match a with
  | ⟨0, _⟩ =>
    show cc0_transform_1 (grid0.coords t) 0 * 512 + 1 * r.val = _
    rw [pos1 t h]; show t.val % 17 * 512 + 1 * r.val = 512 * (t.val % 17) + r.val; omega
  | ⟨1, _⟩ =>
    show cc0_transform_1 (grid0.coords t) 1 * 2048 + 1 * k.val = k.val
    rw [pos1 t h]; show 0 * 2048 + 1 * k.val = _; omega

/-- A block of the prompts' residual at an index. -/
theorem x2_at (c : Dev nD) (t : Fin cfg0.N) (h : t.val % 17 ≤ 15) (r : Fin 512) (j : Fin 1024) :
    iblk (F := Ideal) m c 2 t (ix2 r j) = m ((c.tc : Thread nD τ).loc main_arg2)
      (ix2 (⟨512 * (t.val % 17) + r.val, by omega⟩ : Fin 8192) (⟨1024 * (t.val / 17) + j.val, by have := lt_points t; omega⟩ : Fin 4096)) := by
  unfold iblk
  refine (congrFun (V_main_arg2 m c) _).trans (congrArg (m ((c.tc : Thread nD τ).loc main_arg2)) (funext fun a => Fin.ext ?_))
  match a with
  | ⟨0, _⟩ =>
    show cc0_transform_2 (grid0.coords t) 0 * 512 + 1 * r.val = _
    rw [pos2 t h]; show t.val % 17 * 512 + 1 * r.val = 512 * (t.val % 17) + r.val; omega
  | ⟨1, _⟩ =>
    show cc0_transform_2 (grid0.coords t) 1 * 1024 + 1 * j.val = _
    rw [pos2 t h]; show t.val / 17 * 1024 + 1 * j.val = 1024 * (t.val / 17) + j.val; omega

/-- The block of the samples' convolution features at an index. -/
theorem x3_at (c : Dev nD) (t : Fin cfg0.N) (r : Fin 512) (k : Fin 2048) :
    iblk (F := Ideal) m c 3 t (ix2 r k) = m ((c.tc : Thread nD τ).loc main_arg3) (ix2 r k) := by
  unfold iblk
  refine (congrFun (V_main_arg3 m c) _).trans (congrArg (m ((c.tc : Thread nD τ).loc main_arg3)) (funext fun a => Fin.ext ?_))
  match a with
  | ⟨0, _⟩ =>
    show cc0_transform_3 (grid0.coords t) 0 * 512 + 1 * r.val = _
    rw [pos3]; show 0 * 512 + 1 * r.val = r.val; omega
  | ⟨1, _⟩ =>
    show cc0_transform_3 (grid0.coords t) 1 * 2048 + 1 * k.val = k.val
    rw [pos3]; show 0 * 2048 + 1 * k.val = _; omega

/-- The block of the samples' recurrence features at an index. -/
theorem x4_at (c : Dev nD) (t : Fin cfg0.N) (r : Fin 512) (k : Fin 2048) :
    iblk (F := Ideal) m c 4 t (ix2 r k) = m ((c.tc : Thread nD τ).loc main_arg4) (ix2 r k) := by
  unfold iblk
  refine (congrFun (V_main_arg4 m c) _).trans (congrArg (m ((c.tc : Thread nD τ).loc main_arg4)) (funext fun a => Fin.ext ?_))
  match a with
  | ⟨0, _⟩ =>
    show cc0_transform_4 (grid0.coords t) 0 * 512 + 1 * r.val = _
    rw [pos4]; show 0 * 512 + 1 * r.val = r.val; omega
  | ⟨1, _⟩ =>
    show cc0_transform_4 (grid0.coords t) 1 * 2048 + 1 * k.val = k.val
    rw [pos4]; show 0 * 2048 + 1 * k.val = _; omega

/-- A block of the samples' residual at an index. -/
theorem x5_at (c : Dev nD) (t : Fin cfg0.N) (r : Fin 512) (j : Fin 1024) :
    iblk (F := Ideal) m c 5 t (ix2 r j) = m ((c.tc : Thread nD τ).loc main_arg5)
      (ix2 r (⟨1024 * (t.val / 17) + j.val, by have := lt_points t; omega⟩ : Fin 4096)) := by
  unfold iblk
  refine (congrFun (V_main_arg5 m c) _).trans (congrArg (m ((c.tc : Thread nD τ).loc main_arg5)) (funext fun a => Fin.ext ?_))
  match a with
  | ⟨0, _⟩ =>
    show cc0_transform_5 (grid0.coords t) 0 * 512 + 1 * r.val = _
    rw [pos5]; show 0 * 512 + 1 * r.val = r.val; omega
  | ⟨1, _⟩ =>
    show cc0_transform_5 (grid0.coords t) 1 * 1024 + 1 * j.val = _
    rw [pos5]; show t.val / 17 * 1024 + 1 * j.val = 1024 * (t.val / 17) + j.val; omega

/-- A block of the weights' upper half at an index. -/
theorem x6_at (c : Dev nD) (t : Fin cfg0.N) (k : Fin 2048) (j : Fin 1024) :
    iblk (F := Ideal) m c 6 t (ix2 k j) = m ((c.tc : Thread nD τ).loc main_arg6)
      (ix2 (⟨k.val, by omega⟩ : Fin 4096) (⟨1024 * (t.val / 17) + j.val, by have := lt_points t; omega⟩ : Fin 4096)) := by
  unfold iblk
  refine (congrFun (V_weights m c) _).trans (congrArg (m ((c.tc : Thread nD τ).loc main_arg6)) (funext fun a => Fin.ext ?_))
  match a with
  | ⟨0, _⟩ =>
    show cc0_transform_6 (grid0.coords t) 0 * 2048 + 1 * k.val = _
    rw [pos6]; show 0 * 2048 + 1 * k.val = k.val; omega
  | ⟨1, _⟩ =>
    show cc0_transform_6 (grid0.coords t) 1 * 1024 + 1 * j.val = _
    rw [pos6]; show t.val / 17 * 1024 + 1 * j.val = 1024 * (t.val / 17) + j.val; omega

/-- A block of the weights' lower half at an index. -/
theorem x7_at (c : Dev nD) (t : Fin cfg0.N) (k : Fin 2048) (j : Fin 1024) :
    iblk (F := Ideal) m c 7 t (ix2 k j) = m ((c.tc : Thread nD τ).loc main_arg6)
      (ix2 (⟨2048 + k.val, by omega⟩ : Fin 4096) (⟨1024 * (t.val / 17) + j.val, by have := lt_points t; omega⟩ : Fin 4096)) := by
  unfold iblk
  refine (congrFun (V_weights m c) _).trans (congrArg (m ((c.tc : Thread nD τ).loc main_arg6)) (funext fun a => Fin.ext ?_))
  match a with
  | ⟨0, _⟩ =>
    show cc0_transform_7 (grid0.coords t) 0 * 2048 + 1 * k.val = _
    rw [pos7]; show 1 * 2048 + 1 * k.val = 2048 + k.val; omega
  | ⟨1, _⟩ =>
    show cc0_transform_7 (grid0.coords t) 1 * 1024 + 1 * j.val = _
    rw [pos7]; show t.val / 17 * 1024 + 1 * j.val = 1024 * (t.val / 17) + j.val; omega

/-- The stored block at an index, for the prompts' rows. -/
theorem pay1_at (a : Vec Ideal S512x2048 .bf16) (u : Vec Ideal S2048x1024 .bf16) (b : Vec Ideal S512x2048 .bf16) (v : Vec Ideal S2048x1024 .bf16)
    (x : Vec Ideal S512x1024 .f32) (r : Fin 512) (j : Fin 1024) :
    k0_pay1 (F := Ideal) a u b v x (ix2 r j) = (show EReal from x (ix2 r j)) + ((∑ k : Fin 2048, (show EReal from a (ix2 r k)) * (show EReal from u (ix2 k j)))
      + ∑ k : Fin 2048, (show EReal from b (ix2 r k)) * (show EReal from v (ix2 k j))) := by
  unfold k0_pay1
  pointwise

/-- The stored block at an index, for the samples' rows. -/
theorem pay2_at (a : Vec Ideal S512x2048 .bf16) (u : Vec Ideal S2048x1024 .bf16) (b : Vec Ideal S512x2048 .bf16) (v : Vec Ideal S2048x1024 .bf16)
    (x : Vec Ideal S512x1024 .f32) (r : Fin 512) (j : Fin 1024) :
    k0_pay2 (F := Ideal) a u b v x (ix2 r j) = (show EReal from x (ix2 r j)) + ((∑ k : Fin 2048, (show EReal from a (ix2 r k)) * (show EReal from u (ix2 k j)))
      + ∑ k : Fin 2048, (show EReal from b (ix2 r k)) * (show EReal from v (ix2 k j))) := by
  unfold k0_pay2
  pointwise

/-- The block a grid point leaves at an index, at a row block of the prompts. -/
theorem block_A (c : Dev nD) (t : Fin cfg0.N) (h : t.val % 17 ≤ 15) (r : Fin 512) (j : Fin 1024) :
    outsAt0 (F := Ideal) m c t.val t.isLt (ix2 r j)
      = mixed 8192 (m ((c.tc : Thread nD τ).loc main_arg0)) (m ((c.tc : Thread nD τ).loc main_arg1)) (m ((c.tc : Thread nD τ).loc main_arg2)) (m ((c.tc : Thread nD τ).loc main_arg6))
          ⟨512 * (t.val % 17) + r.val, by omega⟩ ⟨1024 * (t.val / 17) + j.val, by have := lt_points t; omega⟩ := by
  rw [outsAt0_A m c t h (by omega)]
  frame_out
  refine (pay1_at _ _ _ _ _ r j).trans ?_
  unfold mixed
  simp only [x0_at m c t h, x1_at m c t h, x2_at m c t h, x6_at, x7_at]

/-- The block a grid point leaves at an index, at the samples' row block. -/
theorem block_B (c : Dev nD) (t : Fin cfg0.N) (h : t.val % 17 = 16) (r : Fin 512) (j : Fin 1024) :
    outsAt0 (F := Ideal) m c t.val t.isLt (ix2 r j)
      = mixed 512 (m ((c.tc : Thread nD τ).loc main_arg3)) (m ((c.tc : Thread nD τ).loc main_arg4)) (m ((c.tc : Thread nD τ).loc main_arg5)) (m ((c.tc : Thread nD τ).loc main_arg6))
          r ⟨1024 * (t.val / 17) + j.val, by have := lt_points t; omega⟩ := by
  rw [outsAt0_B m c t (by omega) h]
  frame_out
  refine (pay2_at _ _ _ _ _ r j).trans ?_
  unfold mixed
  simp only [x3_at, x4_at, x5_at, x6_at, x7_at]

/-- The kernel's result is the joined rows. -/
theorem result_eq (c : Dev nD) : (dats m 0 c).arrAt 8 cfg0.N
    = joined (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t _ y => ?_
  blk_simp
  rw [after0_8]
  obtain ⟨r, j, rfl⟩ : ∃ (r : Fin 512) (j : Fin 1024), y = ix2 r j := ⟨y 0, y 1, funext fun a => by match a with | ⟨0, _⟩ => rfl | ⟨1, _⟩ => rfl⟩
  have e : (win0_8.blk t).view.emb (ix2 r j) = ix2 (⟨512 * (t.val % 17) + r.val, by omega⟩ : Fin 8704) (⟨1024 * (t.val / 17) + j.val, by have := lt_points t; omega⟩ : Fin 4096) := by
    refine funext fun a => Fin.ext ?_
    match a with
    | ⟨0, _⟩ =>
      show cc0_transform_8 (grid0.coords t) 0 * 512 + 1 * r.val = _
      rw [pos8]; show t.val % 17 * 512 + 1 * r.val = 512 * (t.val % 17) + r.val; omega
    | ⟨1, _⟩ =>
      show cc0_transform_8 (grid0.coords t) 1 * 1024 + 1 * j.val = _
      rw [pos8]; show t.val / 17 * 1024 + 1 * j.val = 1024 * (t.val / 17) + j.val; omega
  refine Eq.trans ?_ (congrArg (joined _ _ _ _ _ _ _) e).symm
  by_cases h : t.val % 17 ≤ 15
  · exact (block_A m c t h r j).trans (joined_lo _ _ _ _ _ _ _ _ _ _ rfl).symm
  · have h16 : t.val % 17 = 16 := by omega
    exact (block_B m c t h16 r j).trans (joined_hi _ _ _ _ _ _ _ _ _ _ (show 8192 + r.val = 512 * (t.val % 17) + r.val by omega)).symm

end Cert.OutProjIdeal.Value

namespace Cert.OutProjection

/-- A prompt's row of the plain form. -/
theorem plain_lo (a b : Vec Ideal ⟨2, ![8192, 2048]⟩ .bf16) (x : Vec Ideal ⟨2, ![8192, 4096]⟩ .f32) (w : Vec Ideal ⟨2, ![4096, 4096]⟩ .f32)
    (r : Fin 8192) (j : Fin 4096) :
    addf (F := Ideal) (φ := .f32) x (Host.dotGeneral (F := Ideal) (φ₁ := .f32) (φ₂ := .f32) Cert.OutProjReferenceIdeal.dot_S8192x4096_S4096x4096_S8192x4096_1_0_0_1_n_n none
      (concatenate Cert.OutProjReferenceIdeal.S8192x4096 1 [⟨Cert.OutProjReferenceIdeal.S8192x2048, (extf (F := Ideal) .f32 a Cert.OutProjReferenceIdeal.Facts₀.bitsLt_bf16_f32)⟩,
        ⟨Cert.OutProjReferenceIdeal.S8192x2048, (extf (F := Ideal) .f32 b Cert.OutProjReferenceIdeal.Facts₀.bitsLt_bf16_f32)⟩]
        Cert.OutProjReferenceIdeal.Facts₀.concatenates_S8192x2048_S8192x2048_S8192x4096_d1) w) (ix2 r j)
      = mixed 8192 a b x w r j := by
  pointwise
  rfl

/-- A sample's row of the plain form. -/
theorem plain_hi (a b : Vec Ideal ⟨2, ![512, 2048]⟩ .bf16) (x : Vec Ideal ⟨2, ![512, 4096]⟩ .f32) (w : Vec Ideal ⟨2, ![4096, 4096]⟩ .f32)
    (r : Fin 512) (j : Fin 4096) :
    addf (F := Ideal) (φ := .f32) x (Host.dotGeneral (F := Ideal) (φ₁ := .f32) (φ₂ := .f32) Cert.OutProjReferenceIdeal.dot_S512x4096_S4096x4096_S512x4096_1_0_0_1_n_n none
      (concatenate Cert.OutProjReferenceIdeal.S512x4096 1 [⟨Cert.OutProjReferenceIdeal.S512x2048, (extf (F := Ideal) .f32 a Cert.OutProjReferenceIdeal.Facts₀.bitsLt_bf16_f32)⟩,
        ⟨Cert.OutProjReferenceIdeal.S512x2048, (extf (F := Ideal) .f32 b Cert.OutProjReferenceIdeal.Facts₀.bitsLt_bf16_f32)⟩]
        Cert.OutProjReferenceIdeal.Facts₀.concatenates_S512x2048_S512x2048_S512x4096_d1) w) (ix2 r j)
      = mixed 512 a b x w r j := by
  pointwise
  rfl

/-- The plain form's result is the joined rows. -/
theorem plain_eq (a b : Vec Ideal ⟨2, ![8192, 2048]⟩ .bf16) (x : Vec Ideal ⟨2, ![8192, 4096]⟩ .f32)
    (a' b' : Vec Ideal ⟨2, ![512, 2048]⟩ .bf16) (x' : Vec Ideal ⟨2, ![512, 4096]⟩ .f32) (w : Vec Ideal ⟨2, ![4096, 4096]⟩ .f32) :
    concatenate (α := Elt Ideal .f32) Cert.OutProjReferenceIdeal.S8704x4096 0 [⟨Cert.OutProjReferenceIdeal.S8192x4096, (addf (F := Ideal) (φ := .f32) x (Host.dotGeneral (F := Ideal) (φ₁ := .f32) (φ₂ := .f32) Cert.OutProjReferenceIdeal.dot_S8192x4096_S4096x4096_S8192x4096_1_0_0_1_n_n none
      (concatenate Cert.OutProjReferenceIdeal.S8192x4096 1 [⟨Cert.OutProjReferenceIdeal.S8192x2048, (extf (F := Ideal) .f32 a Cert.OutProjReferenceIdeal.Facts₀.bitsLt_bf16_f32)⟩,
        ⟨Cert.OutProjReferenceIdeal.S8192x2048, (extf (F := Ideal) .f32 b Cert.OutProjReferenceIdeal.Facts₀.bitsLt_bf16_f32)⟩]
        Cert.OutProjReferenceIdeal.Facts₀.concatenates_S8192x2048_S8192x2048_S8192x4096_d1) w))⟩, ⟨Cert.OutProjReferenceIdeal.S512x4096, (addf (F := Ideal) (φ := .f32) x' (Host.dotGeneral (F := Ideal) (φ₁ := .f32) (φ₂ := .f32) Cert.OutProjReferenceIdeal.dot_S512x4096_S4096x4096_S512x4096_1_0_0_1_n_n none
      (concatenate Cert.OutProjReferenceIdeal.S512x4096 1 [⟨Cert.OutProjReferenceIdeal.S512x2048, (extf (F := Ideal) .f32 a' Cert.OutProjReferenceIdeal.Facts₀.bitsLt_bf16_f32)⟩,
        ⟨Cert.OutProjReferenceIdeal.S512x2048, (extf (F := Ideal) .f32 b' Cert.OutProjReferenceIdeal.Facts₀.bitsLt_bf16_f32)⟩]
        Cert.OutProjReferenceIdeal.Facts₀.concatenates_S512x2048_S512x2048_S512x4096_d1) w))⟩]
      Cert.OutProjReferenceIdeal.Facts₀.concatenates_S8192x4096_S512x4096_S8704x4096_d0 = joined a b x a' b' x' w := by
  funext y
  obtain ⟨r, j, rfl⟩ : ∃ (r : Fin 8704) (j : Fin 4096), y = ix2 r j := ⟨y 0, y 1, funext fun a => by match a with | ⟨0, _⟩ => rfl | ⟨1, _⟩ => rfl⟩
  by_cases h : r.val < 8192
  · rw [joined_lo a b x a' b' x' w r j ⟨r.val, h⟩ rfl, ← plain_lo]
    generalize (addf (F := Ideal) (φ := .f32) x _ : Vec Ideal Cert.OutProjReferenceIdeal.S8192x4096 .f32) = X
    generalize (addf (F := Ideal) (φ := .f32) x' _ : Vec Ideal Cert.OutProjReferenceIdeal.S512x4096 .f32) = Y
    pointwise
    rw [dif_pos h]
  · rw [joined_hi a b x a' b' x' w r j ⟨r.val - 8192, by omega⟩ (show 8192 + (r.val - 8192) = r.val by omega), ← plain_hi]
    generalize (addf (F := Ideal) (φ := .f32) x _ : Vec Ideal Cert.OutProjReferenceIdeal.S8192x4096 .f32) = X
    generalize (addf (F := Ideal) (φ := .f32) x' _ : Vec Ideal Cert.OutProjReferenceIdeal.S512x4096 .f32) = Y
    pointwise
    rw [dif_neg h]

end Cert.OutProjection

end
-- ==== Proof.ConvSpec.lean ====
/-
  The short convolution over a prompt's gated features, and its plain form.
-/
module

public import proofs.«01_k».proof.Proof.Gen.ConvPromptReferenceIdeal.Run
public import Idealize.ShloMosaic.Lib.Pipeline.ValueKit

@[expose] public section

set_option maxRecDepth 16384

noncomputable section

open Idealize.ShloMosaic Idealize.ShloMosaic.TcCoe Idealize.SL.Sem

namespace Cert.Convolution

/-- The projections of all rows. -/
abbrev Projected := Vec Ideal ⟨2, ![8704, 14336]⟩ .bf16

/-- The three taps of every channel. -/
abbrev Taps := Vec Ideal ⟨2, ![3, 2048]⟩ .f32

/-- The gated feature of a row and a channel. -/
def gate (x : Projected) (r : Fin 8704) (j : Fin 2048) : EReal :=
  (show EReal from x (ix2 r (⟨2048 + j.val, by omega⟩ : Fin 14336))) * (show EReal from x (ix2 r (⟨4096 + j.val, by omega⟩ : Fin 14336)))

/-- A prompt's gated features with two rows of zeros before them. -/
def ahead (x : Projected) (b : Fin 4) (q : Fin 2050) (j : Fin 2048) : EReal :=
  if h : q.val < 2 then 0 else gate x ⟨b.val * 2048 + (q.val - 2), by omega⟩ j

/-- A row's feature times the sum of its own and its two earlier gated features under the taps. -/
def mixed (x : Projected) (w : Taps) (b : Fin 4) (p : Fin 2048) (j : Fin 2048) : EReal :=
  (show EReal from x (ix2 (⟨b.val * 2048 + p.val, by omega⟩ : Fin 8704) (⟨j.val, by omega⟩ : Fin 14336)))
    * ((ahead x b ⟨p.val, by omega⟩ j * (show EReal from w (ix2 0 j)) + ahead x b ⟨1 + p.val, by omega⟩ j * (show EReal from w (ix2 1 j)))
      + ahead x b ⟨2 + p.val, by omega⟩ j * (show EReal from w (ix2 2 j)))

/-- The convolved rows of all prompts. -/
def mixedRows (x : Projected) (w : Taps) : Vec Ideal ⟨2, ![8192, 2048]⟩ .bf16 := fun y =>
  mixed x w ⟨(y 0).val / 2048, by have : (y 0).val < 8192 := (y 0).isLt; omega⟩ ⟨(y 0).val % 2048, by omega⟩ (y 1)

/-- The two last gated rows of every prompt. -/
def lastRows (x : Projected) : Vec Ideal ⟨3, ![4, 2, 2048]⟩ .f32 := fun y =>
  ahead x (y 0) ⟨2048 + (y 1).val, by have : (y 1).val < 2 := (y 1).isLt; omega⟩ (y 2)

end Cert.Convolution

namespace Cert.ConvPromptReferenceIdeal.Plain

open Cert.ConvPromptReferenceIdeal Cert.ConvPromptReferenceIdeal.Facts₀ Cert.Convolution

/-- The prompts' rows of the projections, prompt by prompt. -/
abbrev rows (x : Projected) : Vec Ideal S4x2048x6144 .f32 :=
  shapeCast (α := Elt Ideal .f32) _ (extf (F := Ideal) .f32 (extractStridedSlice (α := Elt Ideal .bf16) S8192x6144 ![0, 0] x slices_S8704x14336_S8192x6144_0_0) bitsLt_bf16_f32) shapeCasts_S8192x6144_S4x2048x6144

/-- The gated features, prompt by prompt. -/
abbrev gates (x : Projected) : Vec Ideal S4x2048x2048 .f32 :=
  mulf (F := Ideal) (φ := .f32) (extractStridedSlice (α := Elt Ideal .f32) S4x2048x2048 ![0, 0, 2048] (rows x) slices_S4x2048x6144_S4x2048x2048_0_0_2048)
    (extractStridedSlice (α := Elt Ideal .f32) S4x2048x2048 ![0, 0, 4096] (rows x) slices_S4x2048x6144_S4x2048x2048_0_0_4096)

/-- The gated features after two rows of zeros. -/
abbrev padded (x : Projected) : Vec Ideal S4x2050x2048 .f32 :=
  concatenate (α := Elt Ideal .f32) S4x2050x2048 1 [⟨S4x2x2048, (broadcastInDim (α := Elt Ideal .f32) S4x2x2048 ![] bcast_S_S4x2x2048 (constant (F := Ideal) S_ .f32 0x00000000#32))⟩,
    ⟨S4x2048x2048, (gates x)⟩] concatenates_S4x2x2048_S4x2048x2048_S4x2050x2048_d1

/-- A prompt's row of the projections at an index. -/
theorem rows_at (x : Projected) (b : Fin 4) (p : Fin 2048) (k : Fin 6144) :
    rows x (ix3 b p k) = x (ix2 (⟨b.val * 2048 + p.val, by omega⟩ : Fin 8704) (⟨k.val, by omega⟩ : Fin 14336)) := by
  pointwise

/-- The gated features at an index. -/
theorem gates_at (x : Projected) (b : Fin 4) (p : Fin 2048) (j : Fin 2048) :
    gates x (ix3 b p j) = gate x ⟨b.val * 2048 + p.val, by omega⟩ j := by
  unfold gate
  rw [← rows_at x b p ⟨2048 + j.val, by omega⟩, ← rows_at x b p ⟨4096 + j.val, by omega⟩]
  generalize hR : rows x = R
  unfold gates
  rw [hR]
  pointwise

/-- The padded features at an index. -/
theorem padded_at (x : Projected) (b : Fin 4) (q : Fin 2050) (j : Fin 2048) :
    padded x (ix3 b q j) = ahead x b q j := by
  unfold ahead
  by_cases h : q.val < 2
  · rw [dif_pos h]
    unfold padded
    generalize gates x = G
    pointwise
    rw [dif_pos h]
  · rw [dif_neg h, ← gates_at x b ⟨q.val - 2, by omega⟩ j]
    unfold padded
    generalize gates x = G
    pointwise
    rw [dif_neg h]

/-- The plain form's first result is the convolved rows. -/
theorem first_eq (x : Projected) (w : Taps) : shapeCast (α := Elt Ideal .bf16) S8192x2048 (truncf (F := Ideal) .bf16 (mulf (F := Ideal) (φ := .f32) (extractStridedSlice (α := Elt Ideal .f32) S4x2048x2048 ![0, 0, 0] (rows x) slices_S4x2048x6144_S4x2048x2048_0_0_0) (addf (F := Ideal) (φ := .f32) (addf (F := Ideal) (φ := .f32) (mulf (F := Ideal) (φ := .f32) (extractStridedSlice (α := Elt Ideal .f32) S4x2048x2048 ![0, 0, 0] (padded x) slices_S4x2050x2048_S4x2048x2048_0_0_0) (broadcastInDim (α := Elt Ideal .f32) S4x2048x2048 ![0, 1, 2] bcast_S1x1x2048_S4x2048x2048_0_1_2 (broadcastInDim (α := Elt Ideal .f32) S1x1x2048 ![2] bcast_S2048_S1x1x2048_2 (shapeCast (α := Elt Ideal .f32) _ (extractStridedSlice (α := Elt Ideal .f32) S1x2048 ![0, 0] w slices_S3x2048_S1x2048_0_0) shapeCasts_S1x2048_S2048)))) (mulf (F := Ideal) (φ := .f32) (extractStridedSlice (α := Elt Ideal .f32) S4x2048x2048 ![0, 1, 0] (padded x) slices_S4x2050x2048_S4x2048x2048_0_1_0) (broadcastInDim (α := Elt Ideal .f32) S4x2048x2048 ![0, 1, 2] bcast_S1x1x2048_S4x2048x2048_0_1_2 (broadcastInDim (α := Elt Ideal .f32) S1x1x2048 ![2] bcast_S2048_S1x1x2048_2 (shapeCast (α := Elt Ideal .f32) _ (extractStridedSlice (α := Elt Ideal .f32) S1x2048 ![1, 0] w slices_S3x2048_S1x2048_1_0) shapeCasts_S1x2048_S2048))))) (mulf (F := Ideal) (φ := .f32) (extractStridedSlice (α := Elt Ideal .f32) S4x2048x2048 ![0, 2, 0] (padded x) slices_S4x2050x2048_S4x2048x2048_0_2_0) (broadcastInDim (α := Elt Ideal .f32) S4x2048x2048 ![0, 1, 2] bcast_S1x1x2048_S4x2048x2048_0_1_2 (broadcastInDim (α := Elt Ideal .f32) S1x1x2048 ![2] bcast_S2048_S1x1x2048_2 (shapeCast (α := Elt Ideal .f32) _ (extractStridedSlice (α := Elt Ideal .f32) S1x2048 ![2, 0] w slices_S3x2048_S1x2048_2_0) shapeCasts_S1x2048_S2048)))))) bitsLt_bf16_f32) shapeCasts_S4x2048x2048_S8192x2048
    = mixedRows x w := by
  funext y
  obtain ⟨r, j, rfl⟩ : ∃ (r : Fin 8192) (j : Fin 2048), y = ix2 r j := ⟨y 0, y 1, funext fun a => by match a with | ⟨0, _⟩ => rfl | ⟨1, _⟩ => rfl⟩
  show _ = mixed x w ⟨r.val / 2048, by omega⟩ ⟨r.val % 2048, by omega⟩ j
  unfold mixed
  rw [← padded_at, ← padded_at, ← padded_at]
  have hr := rows_at x ⟨r.val / 2048, by omega⟩ ⟨r.val % 2048, by omega⟩ ⟨j.val, by omega⟩
  generalize padded x = P
  generalize rows x = R at hr ⊢
  pointwise
  rw [hr]

/-- The plain form's second result is the prompts' last gated rows. -/
theorem second_eq (x : Projected) : extractStridedSlice (α := Elt Ideal .f32) S4x2x2048 ![0, 2048, 0] (padded x) slices_S4x2050x2048_S4x2x2048_0_2048_0 = lastRows x := by
  funext y
  obtain ⟨b, r, j, rfl⟩ : ∃ (b : Fin 4) (r : Fin 2) (j : Fin 2048), y = ix3 b r j := ⟨y 0, y 1, y 2, funext fun a => by match a with | ⟨0, _⟩ => rfl | ⟨1, _⟩ => rfl | ⟨2, _⟩ => rfl⟩
  show _ = ahead x b ⟨2048 + r.val, _⟩ j
  rw [← padded_at]
  generalize padded x = P
  pointwise

end Cert.ConvPromptReferenceIdeal.Plain

end
-- ==== Proof.ConvPromptValue.lean ====
/-
  The prompts' convolution kernel leaves the convolved rows and the last gated rows.
-/
module

public import proofs.«01_k».proof.Proof.Gen.ConvPromptIdeal.Value
public import proofs.«01_k».proof.Proof.ConvSpec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.ConvPromptIdeal.Value

open Cert.ConvPromptIdeal Cert.ConvPromptIdeal.Gen Cert.Convolution

variable (m : (ℓ : Loc nD τ sig) → Buf (Elt Ideal) ℓ) (ρ : Dev nD → PrngReg)

/-- Where the blocks of the features lie. -/
theorem pos0 : ∀ t : Fin cfg0.N, cc0_transform_0 (grid0.coords t) = ![t.val, 0] := by
  decide +kernel

/-- Where the blocks of the gates lie. -/
theorem pos1 : ∀ t : Fin cfg0.N, cc0_transform_1 (grid0.coords t) = ![t.val, 1] := by
  decide +kernel

/-- Where the blocks of the gated values lie. -/
theorem pos2 : ∀ t : Fin cfg0.N, cc0_transform_2 (grid0.coords t) = ![t.val, 2] := by
  decide +kernel

/-- Where the taps lie. -/
theorem pos3 : ∀ t : Fin cfg0.N, cc0_transform_3 (grid0.coords t) = ![0, 0] := by
  decide +kernel

/-- Where the result's blocks lie. -/
theorem pos4 : ∀ t : Fin cfg0.N, cc0_transform_4 (grid0.coords t) = ![t.val, 0] := by
  decide +kernel

/-- Where the last rows lie. -/
theorem pos5 : ∀ t : Fin cfg0.N, cc0_transform_5 (grid0.coords t) = ![t.val / 4, 0, 0] := by
  decide +kernel

/-- There are 16 grid points. -/
theorem lt_points (t : Fin cfg0.N) : t.val < 16 := lt_of_lt_of_eq t.isLt N_0

/-- The projections at a device. -/
abbrev inp (c : Dev nD) : Projected := m ((c.tc : Thread nD τ).loc main_arg0)

/-- The taps at a device. -/
abbrev taps (c : Dev nD) : Taps := m ((c.tc : Thread nD τ).loc main_arg1)

/-- A block of the features at an index. -/
theorem x0_at (c : Dev nD) (t : Fin cfg0.N) (r : Fin 512) (j : Fin 2048) :
    iblk (F := Ideal) m c 0 t (ix2 r j) = inp m c
      (ix2 (⟨512 * t.val + r.val, by have := lt_points t; omega⟩ : Fin 8704) (⟨j.val, by omega⟩ : Fin 14336)) := by
  unfold iblk V
  refine congrArg (m ((c.tc : Thread nD τ).loc main_arg0)) (funext fun a => Fin.ext ?_)
  match a with
  | ⟨0, _⟩ =>
    show cc0_transform_0 (grid0.coords t) 0 * 512 + 1 * r.val = _
    rw [pos0]; show t.val * 512 + 1 * r.val = 512 * t.val + r.val; omega
  | ⟨1, _⟩ =>
    show cc0_transform_0 (grid0.coords t) 1 * 2048 + 1 * j.val = j.val
    rw [pos0]; show 0 * 2048 + 1 * j.val = _; omega

/-- A block of the gates at an index. -/
theorem x1_at (c : Dev nD) (t : Fin cfg0.N) (r : Fin 512) (j : Fin 2048) :
    iblk (F := Ideal) m c 1 t (ix2 r j) = inp m c
      (ix2 (⟨512 * t.val + r.val, by have := lt_points t; omega⟩ : Fin 8704) (⟨2048 + j.val, by omega⟩ : Fin 14336)) := by
  unfold iblk V
  refine congrArg (m ((c.tc : Thread nD τ).loc main_arg0)) (funext fun a => Fin.ext ?_)
  match a with
  | ⟨0, _⟩ =>
    show cc0_transform_1 (grid0.coords t) 0 * 512 + 1 * r.val = _
    rw [pos1]; show t.val * 512 + 1 * r.val = 512 * t.val + r.val; omega
  | ⟨1, _⟩ =>
    show cc0_transform_1 (grid0.coords t) 1 * 2048 + 1 * j.val = 2048 + j.val
    rw [pos1]; show 1 * 2048 + 1 * j.val = _; omega

/-- A block of the gated values at an index. -/
theorem x2_at (c : Dev nD) (t : Fin cfg0.N) (r : Fin 512) (j : Fin 2048) :
    iblk (F := Ideal) m c 2 t (ix2 r j) = inp m c
      (ix2 (⟨512 * t.val + r.val, by have := lt_points t; omega⟩ : Fin 8704) (⟨4096 + j.val, by omega⟩ : Fin 14336)) := by
  unfold iblk V
  refine congrArg (m ((c.tc : Thread nD τ).loc main_arg0)) (funext fun a => Fin.ext ?_)
  match a with
  | ⟨0, _⟩ =>
    show cc0_transform_2 (grid0.coords t) 0 * 512 + 1 * r.val = _
    rw [pos2]; show t.val * 512 + 1 * r.val = 512 * t.val + r.val; omega
  | ⟨1, _⟩ =>
    show cc0_transform_2 (grid0.coords t) 1 * 2048 + 1 * j.val = 4096 + j.val
    rw [pos2]; show 2 * 2048 + 1 * j.val = _; omega

/-- The taps' block at an index. -/
theorem w_at (c : Dev nD) (t : Fin cfg0.N) (r : Fin 3) (j : Fin 2048) :
    iblk (F := Ideal) m c 3 t (ix2 r j) = taps m c (ix2 r j) := by
  unfold iblk V
  refine congrArg (m ((c.tc : Thread nD τ).loc main_arg1)) (funext fun a => Fin.ext ?_)
  match a with
  | ⟨0, _⟩ =>
    show cc0_transform_3 (grid0.coords t) 0 * 3 + 1 * r.val = r.val
    rw [pos3]; show 0 * 3 + 1 * r.val = _; omega
  | ⟨1, _⟩ =>
    show cc0_transform_3 (grid0.coords t) 1 * 2048 + 1 * j.val = j.val
    rw [pos3]; show 0 * 2048 + 1 * j.val = _; omega

/-- A choice by the row number. -/
theorem pick_row {α : Type} (r k : ℕ) (hr : r < 512) (hk : k < 512) (a b : α) :
    Scalar.select (IntOp.cmpi .eq (BitVec.ofNat 32 r) (BitVec.ofNat 32 k)) a b = if r = k then a else b := by
  by_cases h : r = k
  · subst h
    rw [if_pos rfl]
    simp [IntOp.cmpi, Scalar.select]
  · rw [if_neg h]
    have : BitVec.ofNat 32 r ≠ BitVec.ofNat 32 k := fun e => h (by
      have := congrArg BitVec.toNat e
      rw [BitVec.toNat_ofNat, BitVec.toNat_ofNat] at this
      omega)
    show (if BitVec.ofBool (BitVec.ofNat 32 r == BitVec.ofNat 32 k) = 1#1 then a else b) = b
    rw [beq_eq_false_iff_ne.mpr this]
    rfl

/-- The gated block at an index. -/
theorem gated_at (c : Dev nD) (t : Fin cfg0.N) (r : Fin 512) (j : Fin 2048) :
    k0_pay5 (F := Ideal) (iblk (F := Ideal) m c 1 t) (iblk (F := Ideal) m c 2 t) (ix2 r j)
      = gate (inp m c) ⟨512 * t.val + r.val, by have := lt_points t; omega⟩ j := by
  unfold k0_pay5 gate
  rw [← x1_at m c t r j, ← x2_at m c t r j]
  pointwise

/-- The stored block at an index, over the rows carried in. -/
theorem pay_at (a b d : Vec Ideal S512x2048 .bf16) (w : Vec Ideal S3x2048 .f32) (v : Vec Ideal S8x2048 .f32) (r : Fin 512) (j : Fin 2048)
    (e2 e1 : EReal)
    (h2 : e2 = if r.val = 0 then (show EReal from v (ix2 6 j)) else if r.val = 1 then (show EReal from v (ix2 7 j)) else
      (show EReal from k0_pay5 (F := Ideal) b d (ix2 (⟨(r.val + 512 - 2) % 512, by omega⟩ : Fin 512) j)))
    (h1 : e1 = if r.val = 0 then (show EReal from v (ix2 7 j)) else
      (show EReal from k0_pay5 (F := Ideal) b d (ix2 (⟨(r.val + 512 - 1) % 512, by omega⟩ : Fin 512) j))) :
    k0_pay1 (F := Ideal) (k0_pay5 (F := Ideal) b d) (k0_pay6 (F := Ideal) a) w (k0_pay7 (F := Ideal) b d v w) (ix2 r j)
      = (show EReal from a (ix2 r j)) * ((e2 * (show EReal from w (ix2 0 j)) + e1 * (show EReal from w (ix2 1 j)))
        + (show EReal from k0_pay5 (F := Ideal) b d (ix2 r j)) * (show EReal from w (ix2 2 j))) := by
  subst h2 h1
  unfold k0_pay1 k0_pay7 k0_pay6
  generalize k0_pay5 (F := Ideal) b d = U
  pointwise
  rw [pick_row r.val 0 r.isLt (by decide), pick_row r.val 1 r.isLt (by decide), pick_row r.val 0 r.isLt (by decide)]

/-- The rows carried out of a grid point are its block's last eight gated rows. -/
theorem carried (c : Dev nD) (t : Fin cfg0.N) (k : Fin 8) (j : Fin 2048) :
    (outsAt0 (F := Ideal) m c t.val t.isLt).2.2 (ix2 k j)
      = gate (inp m c) ⟨512 * t.val + (504 + k.val), by have := lt_points t; omega⟩ j := by
  rw [← gated_at m c t ⟨504 + k.val, by omega⟩ j]
  by_cases h0 : t.val % 4 = 0
  · rw [outsAt0_A m c t h0]
    frame_out
    unfold k0_pay2
    generalize k0_pay5 (F := Ideal) _ _ = U
    pointwise
  · rw [outsAt0_B m c t h0]
    frame_out
    unfold k0_pay2
    generalize k0_pay5 (F := Ideal) _ _ = U
    pointwise

/-- The last rows a grid point leaves. -/
theorem tail_at (c : Dev nD) (t : Fin cfg0.N) (k : Fin 2) (j : Fin 2048) :
    (outsAt0 (F := Ideal) m c t.val t.isLt).2.1 (ix3 0 k j)
      = gate (inp m c) ⟨512 * t.val + (510 + k.val), by have := lt_points t; omega⟩ j := by
  rw [← gated_at m c t ⟨510 + k.val, by omega⟩ j]
  by_cases h0 : t.val % 4 = 0
  · rw [outsAt0_A m c t h0]
    frame_out
    unfold k0_pay3
    generalize k0_pay5 (F := Ideal) _ _ = U
    pointwise
  · rw [outsAt0_B m c t h0]
    frame_out
    unfold k0_pay3
    generalize k0_pay5 (F := Ideal) _ _ = U
    pointwise

/-- A prompt's gated row with zeros before, at a row that lies in the prompt. -/
theorem ahead_in (x : Projected) (b : Fin 4) (q : Fin 2050) (j : Fin 2048) (R : Fin 8704) (h : 2 ≤ q.val) (e : b.val * 2048 + (q.val - 2) = R.val) :
    ahead x b q j = gate x R j := by
  unfold ahead
  rw [dif_neg (by omega)]
  exact congrArg (fun z => gate x z j) (Fin.ext e)

/-- A prompt's gated row with zeros before, at a row of zeros. -/
theorem ahead_out (x : Projected) (b : Fin 4) (q : Fin 2050) (j : Fin 2048) (h : q.val < 2) : ahead x b q j = 0 := by
  unfold ahead
  rw [dif_pos h]

/-- The gated rows two before a block's, where the rows carried in are the gated rows before the block. -/
theorem two_before (c : Dev nD) (t : Fin cfg0.N) (r : Fin 512) (j : Fin 2048) (v : Vec Ideal S8x2048 .f32)
    (hv : ∀ k : Fin 2, (show EReal from v (ix2 (⟨6 + k.val, by omega⟩ : Fin 8) j)) = ahead (inp m c) ⟨t.val / 4, by have := lt_points t; omega⟩ ⟨512 * (t.val % 4) + k.val, by omega⟩ j) :
    ahead (inp m c) ⟨t.val / 4, by have := lt_points t; omega⟩ ⟨512 * (t.val % 4) + r.val, by omega⟩ j
      = if r.val = 0 then (show EReal from v (ix2 6 j)) else if r.val = 1 then (show EReal from v (ix2 7 j)) else
      (show EReal from k0_pay5 (F := Ideal) (iblk (F := Ideal) m c 1 t) (iblk (F := Ideal) m c 2 t) (ix2 (⟨(r.val + 512 - 2) % 512, by omega⟩ : Fin 512) j)) := by
  by_cases h0 : r.val = 0
  · rw [if_pos h0]
    refine Eq.trans ?_ (hv 0).symm
    exact congrArg (fun z => ahead (inp m c) _ z j) (Fin.ext (by show 512 * (t.val % 4) + r.val = 512 * (t.val % 4) + 0; omega))
  · rw [if_neg h0]
    by_cases h1 : r.val = 1
    · rw [if_pos h1]
      refine Eq.trans ?_ (hv 1).symm
      exact congrArg (fun z => ahead (inp m c) _ z j) (Fin.ext (by show 512 * (t.val % 4) + r.val = 512 * (t.val % 4) + 1; omega))
    · rw [if_neg h1]
      refine Eq.trans (ahead_in (inp m c) _ _ j _ (show 2 ≤ 512 * (t.val % 4) + r.val by omega) ?_) (gated_at m c t _ j).symm
      show t.val / 4 * 2048 + (512 * (t.val % 4) + r.val - 2) = 512 * t.val + (r.val + 512 - 2) % 512
      omega

/-- The gated rows one before a block's, where the rows carried in are the gated rows before the block. -/
theorem one_before (c : Dev nD) (t : Fin cfg0.N) (r : Fin 512) (j : Fin 2048) (v : Vec Ideal S8x2048 .f32)
    (hv : ∀ k : Fin 2, (show EReal from v (ix2 (⟨6 + k.val, by omega⟩ : Fin 8) j)) = ahead (inp m c) ⟨t.val / 4, by have := lt_points t; omega⟩ ⟨512 * (t.val % 4) + k.val, by omega⟩ j) :
    ahead (inp m c) ⟨t.val / 4, by have := lt_points t; omega⟩ ⟨1 + (512 * (t.val % 4) + r.val), by omega⟩ j
      = if r.val = 0 then (show EReal from v (ix2 7 j)) else
      (show EReal from k0_pay5 (F := Ideal) (iblk (F := Ideal) m c 1 t) (iblk (F := Ideal) m c 2 t) (ix2 (⟨(r.val + 512 - 1) % 512, by omega⟩ : Fin 512) j)) := by
  by_cases h0 : r.val = 0
  · rw [if_pos h0]
    refine Eq.trans ?_ (hv 1).symm
    exact congrArg (fun z => ahead (inp m c) _ z j) (Fin.ext (by show 1 + (512 * (t.val % 4) + r.val) = 512 * (t.val % 4) + 1; omega))
  · rw [if_neg h0]
    refine Eq.trans (ahead_in (inp m c) _ _ j _ (show 2 ≤ 1 + (512 * (t.val % 4) + r.val) by omega) ?_) (gated_at m c t _ j).symm
    show t.val / 4 * 2048 + (1 + (512 * (t.val % 4) + r.val) - 2) = 512 * t.val + (r.val + 512 - 1) % 512
    omega

/-- At a prompt's first block the rows carried in are zeros. -/
theorem carry_zero (c : Dev nD) (t : Fin cfg0.N) (h0 : t.val % 4 = 0) (j : Fin 2048) (k : Fin 2) :
    (show EReal from k0_pay4 (F := Ideal) (ix2 (⟨6 + k.val, by omega⟩ : Fin 8) j)) = ahead (inp m c) ⟨t.val / 4, by have := lt_points t; omega⟩ ⟨512 * (t.val % 4) + k.val, by omega⟩ j := by
  rw [ahead_out _ _ _ _ (show 512 * (t.val % 4) + k.val < 2 by omega)]
  unfold k0_pay4
  pointwise

/-- At a later block the rows carried in are the gated rows before it. -/
theorem carry_rows (c : Dev nD) (t : Fin cfg0.N) (h0 : ¬ t.val % 4 = 0) (j : Fin 2048) (k : Fin 2) (X : Vec Ideal S8x2048 .f32)
    (hX : X = (outsAt0 (F := Ideal) m c (t.val - 1) (Nat.lt_of_le_of_lt (Nat.sub_le _ _) t.isLt)).2.2) :
    (show EReal from X (ix2 (⟨6 + k.val, by omega⟩ : Fin 8) j)) = ahead (inp m c) ⟨t.val / 4, by have := lt_points t; omega⟩ ⟨512 * (t.val % 4) + k.val, by omega⟩ j := by
  subst hX
  refine (carried m c ⟨t.val - 1, Nat.lt_of_le_of_lt (Nat.sub_le _ _) t.isLt⟩ _ j).trans (ahead_in (inp m c) _ _ j _ (show 2 ≤ 512 * (t.val % 4) + k.val by omega) ?_).symm
  show t.val / 4 * 2048 + (512 * (t.val % 4) + k.val - 2) = 512 * (t.val - 1) + (504 + (6 + k.val))
  omega

/-- The block a grid point leaves, at an index. -/
theorem block_at (c : Dev nD) (t : Fin cfg0.N) (r : Fin 512) (j : Fin 2048) :
    (outsAt0 (F := Ideal) m c t.val t.isLt).1 (ix2 r j)
      = mixed (inp m c) (taps m c) ⟨t.val / 4, by have := lt_points t; omega⟩ ⟨512 * (t.val % 4) + r.val, by omega⟩ j := by
  have ht := lt_points t
  unfold mixed
  have ea : inp m c (ix2 (⟨512 * t.val + r.val, by omega⟩ : Fin 8704) (⟨j.val, by omega⟩ : Fin 14336))
      = inp m c (ix2 (⟨t.val / 4 * 2048 + (512 * (t.val % 4) + r.val), by omega⟩ : Fin 8704) (⟨j.val, by omega⟩ : Fin 14336)) :=
    congrArg (fun z => inp m c (ix2 z _)) (Fin.ext (by show 512 * t.val + r.val = t.val / 4 * 2048 + (512 * (t.val % 4) + r.val); omega))
  rw [← ea, ← x0_at m c t r j]
  rw [ahead_in (inp m c) ⟨t.val / 4, by omega⟩ ⟨2 + (512 * (t.val % 4) + r.val), by omega⟩ j ⟨512 * t.val + r.val, by omega⟩ (Nat.le_add_right _ _)
    (by show t.val / 4 * 2048 + (2 + (512 * (t.val % 4) + r.val) - 2) = 512 * t.val + r.val; omega)]
  rw [← gated_at m c t r j, ← w_at m c t 0 j, ← w_at m c t 1 j, ← w_at m c t 2 j]
  by_cases h0 : t.val % 4 = 0
  · rw [outsAt0_A m c t h0]
    frame_out
    exact pay_at _ _ _ _ _ r j _ _ (two_before m c t r j _ (carry_zero m c t h0 j)) (one_before m c t r j _ (carry_zero m c t h0 j))
  · rw [outsAt0_B m c t h0]
    frame_out
    have hX := read_unread_whole (Val := Elt Ideal) cc0_scratch0 (Memref.isWhole_whole _) (outsAt0 (F := Ideal) m c (t.val - 1) (Nat.lt_of_le_of_lt (Nat.sub_le _ _) t.isLt)).2.2
    exact pay_at _ _ _ _ _ r j _ _ (two_before m c t r j _ fun k => carry_rows m c t h0 j k _ hX) (one_before m c t r j _ fun k => carry_rows m c t h0 j k _ hX)

/-- The kernel's first result is the convolved rows. -/
theorem first_eq (c : Dev nD) : (dats m 0 c).arrAt 4 cfg0.N = mixedRows (inp m c) (taps m c) := by
  refine (dats m 0 c).arrAt_eq_of_covers 4 _ (by decide +kernel) fun t _ y => ?_
  blk_simp
  rw [after0_4]
  obtain ⟨r, j, rfl⟩ : ∃ (r : Fin 512) (j : Fin 2048), y = ix2 r j := ⟨y 0, y 1, funext fun a => by match a with | ⟨0, _⟩ => rfl | ⟨1, _⟩ => rfl⟩
  have e : (win0_4.blk t).view.emb (ix2 r j) = ix2 (⟨512 * t.val + r.val, by have := lt_points t; omega⟩ : Fin 8192) j := by
    refine funext fun a => Fin.ext ?_
    match a with
    | ⟨0, _⟩ =>
      show cc0_transform_4 (grid0.coords t) 0 * 512 + 1 * r.val = _
      rw [pos4]; show t.val * 512 + 1 * r.val = 512 * t.val + r.val; omega
    | ⟨1, _⟩ =>
      show cc0_transform_4 (grid0.coords t) 1 * 2048 + 1 * j.val = j.val
      rw [pos4]; show 0 * 2048 + 1 * j.val = _; omega
  refine (block_at m c t r j).trans (Eq.trans ?_ (congrArg (mixedRows (inp m c) (taps m c)) e).symm)
  have ht := lt_points t
  show mixed _ _ _ _ j = mixed _ _ ⟨(512 * t.val + r.val) / 2048, _⟩ ⟨(512 * t.val + r.val) % 2048, _⟩ j
  exact congrArg₂ (fun a b => mixed (inp m c) (taps m c) a b j) (Fin.ext (by show t.val / 4 = (512 * t.val + r.val) / 2048; omega))
    (Fin.ext (by show 512 * (t.val % 4) + r.val = (512 * t.val + r.val) % 2048; omega))

/-- The kernel's second result is the prompts' last gated rows. -/
theorem second_eq (c : Dev nD) : (dats m 0 c).arrAt 5 cfg0.N = lastRows (inp m c) := by
  refine (dats m 0 c).arrAt_eq_of_covers 5 _ (by decide +kernel) fun t hf y => ?_
  have ht := lt_points t
  have hm : t.val % 4 = 3 := (flush0_5 t).mp hf
  blk_simp
  rw [after0_5]
  obtain ⟨k, j, rfl⟩ : ∃ (k : Fin 2) (j : Fin 2048), y = ix3 (0 : Fin 1) k j := ⟨y 1, y 2, funext fun a => by match a with | ⟨0, _⟩ => exact Fin.ext (by have : (y 0).val < 1 := (y 0).isLt; show (y 0).val = 0; omega) | ⟨1, _⟩ => rfl | ⟨2, _⟩ => rfl⟩
  have e : (win0_5.blk t).view.emb (ix3 (0 : Fin 1) k j) = ix3 (⟨t.val / 4, by omega⟩ : Fin 4) k j := by
    refine funext fun a => Fin.ext ?_
    match a with
    | ⟨0, _⟩ =>
      show cc0_transform_5 (grid0.coords t) 0 * 1 + 1 * 0 = _
      rw [pos5]; show t.val / 4 * 1 + 1 * 0 = t.val / 4; omega
    | ⟨1, _⟩ =>
      show cc0_transform_5 (grid0.coords t) 1 * 2 + 1 * k.val = k.val
      rw [pos5]; show 0 * 2 + 1 * k.val = _; omega
    | ⟨2, _⟩ =>
      show cc0_transform_5 (grid0.coords t) 2 * 2048 + 1 * j.val = j.val
      rw [pos5]; show 0 * 2048 + 1 * j.val = _; omega
  refine (tail_at m c t k j).trans (Eq.trans ?_ (congrArg (lastRows (inp m c)) e).symm)
  refine (ahead_in (inp m c) _ _ j _ (show 2 ≤ 2048 + k.val by omega) ?_).symm
  show t.val / 4 * 2048 + (2048 + k.val - 2) = 512 * t.val + (510 + k.val)
  omega

end Cert.ConvPromptIdeal.Value

end
-- ==== Proof.ConvSampleSpec.lean ====
/-
  The short convolution over a sample's gated features, after the two gated rows kept before, and its plain form.
-/
module

public import proofs.«01_k».proof.Proof.Gen.ConvSampleReferenceIdeal.Run
public import proofs.«01_k».proof.Proof.ConvSpec
public import Idealize.ShloMosaic.Lib.Pipeline.ValueKit

@[expose] public section

set_option maxRecDepth 16384

noncomputable section

open Idealize.ShloMosaic Idealize.ShloMosaic.TcCoe Idealize.SL.Sem

namespace Cert.Convolution

/-- The two gated rows kept before each sample. -/
abbrev Kept := Vec Ideal ⟨3, ![128, 2, 2048]⟩ .f32

/-- A sample's gated features with the two kept rows before them. -/
def after (x : Projected) (buf : Kept) (b : Fin 128) (q : Fin 6) (j : Fin 2048) : EReal :=
  if h : q.val < 2 then buf (ix3 b ⟨q.val, h⟩ j) else gate x ⟨8192 + (b.val * 4 + (q.val - 2)), by omega⟩ j

/-- A row's feature times the sum of its own and its two earlier gated features under the taps. -/
def sampled (x : Projected) (w : Taps) (buf : Kept) (b : Fin 128) (p : Fin 4) (j : Fin 2048) : EReal :=
  (show EReal from x (ix2 (⟨8192 + (b.val * 4 + p.val), by omega⟩ : Fin 8704) (⟨j.val, by omega⟩ : Fin 14336)))
    * ((after x buf b ⟨p.val, by omega⟩ j * (show EReal from w (ix2 0 j)) + after x buf b ⟨1 + p.val, by omega⟩ j * (show EReal from w (ix2 1 j)))
      + after x buf b ⟨2 + p.val, by omega⟩ j * (show EReal from w (ix2 2 j)))

/-- The convolved rows of all samples. -/
def sampledRows (x : Projected) (w : Taps) (buf : Kept) : Vec Ideal ⟨2, ![512, 2048]⟩ .bf16 := fun y =>
  sampled x w buf ⟨(y 0).val / 4, by have : (y 0).val < 512 := (y 0).isLt; omega⟩ ⟨(y 0).val % 4, by omega⟩ (y 1)

/-- The two last gated rows of every sample. -/
def newRows (x : Projected) (buf : Kept) : Vec Ideal ⟨3, ![128, 2, 2048]⟩ .f32 := fun y =>
  after x buf (y 0) ⟨4 + (y 1).val, by have : (y 1).val < 2 := (y 1).isLt; omega⟩ (y 2)

end Cert.Convolution

namespace Cert.ConvSampleReferenceIdeal.Plain

open Cert.ConvSampleReferenceIdeal Cert.ConvSampleReferenceIdeal.Facts₀ Cert.Convolution

/-- The samples' rows of the projections, sample by sample. -/
abbrev rows (x : Projected) : Vec Ideal S128x4x6144 .f32 :=
  shapeCast (α := Elt Ideal .f32) _ (extf (F := Ideal) .f32 (extractStridedSlice (α := Elt Ideal .bf16) S512x6144 ![8192, 0] x slices_S8704x14336_S512x6144_8192_0) bitsLt_bf16_f32) shapeCasts_S512x6144_S128x4x6144

/-- The gated features, sample by sample. -/
abbrev gates (x : Projected) : Vec Ideal S128x4x2048 .f32 :=
  mulf (F := Ideal) (φ := .f32) (extractStridedSlice (α := Elt Ideal .f32) S128x4x2048 ![0, 0, 2048] (rows x) slices_S128x4x6144_S128x4x2048_0_0_2048)
    (extractStridedSlice (α := Elt Ideal .f32) S128x4x2048 ![0, 0, 4096] (rows x) slices_S128x4x6144_S128x4x2048_0_0_4096)

/-- The gated features after the two kept rows. -/
abbrev padded (x : Projected) (buf : Kept) : Vec Ideal S128x6x2048 .f32 :=
  concatenate (α := Elt Ideal .f32) S128x6x2048 1 [⟨S128x2x2048, buf⟩, ⟨S128x4x2048, (gates x)⟩] concatenates_S128x2x2048_S128x4x2048_S128x6x2048_d1

/-- A sample's row of the projections at an index. -/
theorem rows_at (x : Projected) (b : Fin 128) (p : Fin 4) (k : Fin 6144) :
    rows x (ix3 b p k) = x (ix2 (⟨8192 + (b.val * 4 + p.val), by omega⟩ : Fin 8704) (⟨k.val, by omega⟩ : Fin 14336)) := by
  pointwise

/-- The gated features at an index. -/
theorem gates_at (x : Projected) (b : Fin 128) (p : Fin 4) (j : Fin 2048) :
    gates x (ix3 b p j) = gate x ⟨8192 + (b.val * 4 + p.val), by omega⟩ j := by
  unfold gate
  rw [← rows_at x b p ⟨2048 + j.val, by omega⟩, ← rows_at x b p ⟨4096 + j.val, by omega⟩]
  generalize hR : rows x = R
  unfold gates
  rw [hR]
  pointwise

/-- The padded features at an index. -/
theorem padded_at (x : Projected) (buf : Kept) (b : Fin 128) (q : Fin 6) (j : Fin 2048) :
    padded x buf (ix3 b q j) = after x buf b q j := by
  unfold after
  by_cases h : q.val < 2
  · rw [dif_pos h]
    unfold padded
    generalize gates x = G
    pointwise
    rw [dif_pos h]
  · rw [dif_neg h, ← gates_at x b ⟨q.val - 2, by omega⟩ j]
    unfold padded
    generalize gates x = G
    pointwise
    rw [dif_neg h]

/-- The plain form's first result is the convolved rows. -/
theorem first_eq (x : Projected) (w : Taps) (buf : Kept) : shapeCast (α := Elt Ideal .bf16) S512x2048 (truncf (F := Ideal) .bf16 (mulf (F := Ideal) (φ := .f32) (extractStridedSlice (α := Elt Ideal .f32) S128x4x2048 ![0, 0, 0] (rows x) slices_S128x4x6144_S128x4x2048_0_0_0) (addf (F := Ideal) (φ := .f32) (addf (F := Ideal) (φ := .f32) (mulf (F := Ideal) (φ := .f32) (extractStridedSlice (α := Elt Ideal .f32) S128x4x2048 ![0, 0, 0] (padded x buf) slices_S128x6x2048_S128x4x2048_0_0_0) (broadcastInDim (α := Elt Ideal .f32) S128x4x2048 ![0, 1, 2] bcast_S1x1x2048_S128x4x2048_0_1_2 (broadcastInDim (α := Elt Ideal .f32) S1x1x2048 ![2] bcast_S2048_S1x1x2048_2 (shapeCast (α := Elt Ideal .f32) _ (extractStridedSlice (α := Elt Ideal .f32) S1x2048 ![0, 0] w slices_S3x2048_S1x2048_0_0) shapeCasts_S1x2048_S2048)))) (mulf (F := Ideal) (φ := .f32) (extractStridedSlice (α := Elt Ideal .f32) S128x4x2048 ![0, 1, 0] (padded x buf) slices_S128x6x2048_S128x4x2048_0_1_0) (broadcastInDim (α := Elt Ideal .f32) S128x4x2048 ![0, 1, 2] bcast_S1x1x2048_S128x4x2048_0_1_2 (broadcastInDim (α := Elt Ideal .f32) S1x1x2048 ![2] bcast_S2048_S1x1x2048_2 (shapeCast (α := Elt Ideal .f32) _ (extractStridedSlice (α := Elt Ideal .f32) S1x2048 ![1, 0] w slices_S3x2048_S1x2048_1_0) shapeCasts_S1x2048_S2048))))) (mulf (F := Ideal) (φ := .f32) (extractStridedSlice (α := Elt Ideal .f32) S128x4x2048 ![0, 2, 0] (padded x buf) slices_S128x6x2048_S128x4x2048_0_2_0) (broadcastInDim (α := Elt Ideal .f32) S128x4x2048 ![0, 1, 2] bcast_S1x1x2048_S128x4x2048_0_1_2 (broadcastInDim (α := Elt Ideal .f32) S1x1x2048 ![2] bcast_S2048_S1x1x2048_2 (shapeCast (α := Elt Ideal .f32) _ (extractStridedSlice (α := Elt Ideal .f32) S1x2048 ![2, 0] w slices_S3x2048_S1x2048_2_0) shapeCasts_S1x2048_S2048)))))) bitsLt_bf16_f32) shapeCasts_S128x4x2048_S512x2048
    = sampledRows x w buf := by
  funext y
  obtain ⟨r, j, rfl⟩ : ∃ (r : Fin 512) (j : Fin 2048), y = ix2 r j := ⟨y 0, y 1, funext fun a => by match a with | ⟨0, _⟩ => rfl | ⟨1, _⟩ => rfl⟩
  show _ = sampled x w buf ⟨r.val / 4, by omega⟩ ⟨r.val % 4, by omega⟩ j
  unfold sampled
  rw [← padded_at, ← padded_at, ← padded_at]
  have hr := rows_at x ⟨r.val / 4, by omega⟩ ⟨r.val % 4, by omega⟩ ⟨j.val, by omega⟩
  generalize padded x buf = P
  generalize rows x = R at hr ⊢
  pointwise
  rw [hr]

/-- The plain form's second result is the samples' last gated rows. -/
theorem second_eq (x : Projected) (buf : Kept) : extractStridedSlice (α := Elt Ideal .f32) S128x2x2048 ![0, 4, 0] (padded x buf) slices_S128x6x2048_S128x2x2048_0_4_0 = newRows x buf := by
  funext y
  obtain ⟨b, r, j, rfl⟩ : ∃ (b : Fin 128) (r : Fin 2) (j : Fin 2048), y = ix3 b r j := ⟨y 0, y 1, y 2, funext fun a => by match a with | ⟨0, _⟩ => rfl | ⟨1, _⟩ => rfl | ⟨2, _⟩ => rfl⟩
  show _ = after x buf b ⟨4 + r.val, _⟩ j
  rw [← padded_at]
  generalize padded x buf = P
  pointwise

end Cert.ConvSampleReferenceIdeal.Plain

end
-- ==== Proof.ConvSampleValue.lean ====
/-
  The samples' convolution kernel leaves the convolved rows and the samples' last gated rows.
-/
module

public import proofs.«01_k».proof.Proof.Gen.ConvSampleIdeal.Frame
public import proofs.«01_k».proof.Proof.ConvSampleSpec
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.ConvSampleIdeal.Value

open Cert.ConvSampleIdeal Cert.ConvSampleIdeal.Gen Cert.Convolution

variable (m : (ℓ : Loc nD τ sig) → Buf (Elt Ideal) ℓ) (ρ : Dev nD → PrngReg)

/-- Where the features lie. -/
theorem pos0 : ∀ t : Fin cfg0.N, cc0_transform_0 (grid0.coords t) = ![16, 0] := by
  decide +kernel

/-- Where the gates lie. -/
theorem pos1 : ∀ t : Fin cfg0.N, cc0_transform_1 (grid0.coords t) = ![16, 1] := by
  decide +kernel

/-- Where the gated values lie. -/
theorem pos2 : ∀ t : Fin cfg0.N, cc0_transform_2 (grid0.coords t) = ![16, 2] := by
  decide +kernel

/-- Where the taps lie. -/
theorem pos3 : ∀ t : Fin cfg0.N, cc0_transform_3 (grid0.coords t) = ![0, 0] := by
  decide +kernel

/-- Where the rows one before lie. -/
theorem pos4 : ∀ t : Fin cfg0.N, cc0_transform_4 (grid0.coords t) = ![0, 0] := by
  decide +kernel

/-- Where the rows two before lie. -/
theorem pos5 : ∀ t : Fin cfg0.N, cc0_transform_5 (grid0.coords t) = ![0, 0] := by
  decide +kernel

/-- Where the result lies. -/
theorem pos6 : ∀ t : Fin cfg0.N, cc0_transform_6 (grid0.coords t) = ![0, 0] := by
  decide +kernel

/-- Where the gated rows lie. -/
theorem pos7 : ∀ t : Fin cfg0.N, cc0_transform_7 (grid0.coords t) = ![0, 0] := by
  decide +kernel

/-- The projections at a device. -/
abbrev inp (c : Dev nD) : Projected := m ((c.tc : Thread nD τ).loc main_arg0)

/-- The taps at a device. -/
abbrev taps (c : Dev nD) : Taps := m ((c.tc : Thread nD τ).loc main_arg1)

/-- The rows kept before the samples, at a device. -/
abbrev keptRows (c : Dev nD) : Kept := m ((c.tc : Thread nD τ).loc main_arg2)

/-- The features at an index. -/
theorem x0_at (c : Dev nD) (t : Fin cfg0.N) (r : Fin 512) (j : Fin 2048) :
    iblk (F := Ideal) m c 0 t (ix2 r j) = inp m c (ix2 (⟨8192 + r.val, by omega⟩ : Fin 8704) (⟨j.val, by omega⟩ : Fin 14336)) := by
  unfold iblk
  refine (congrFun (V_main_arg0 m c) _).trans (congrArg (m ((c.tc : Thread nD τ).loc main_arg0)) (funext fun a => Fin.ext ?_))
  match a with
  | ⟨0, _⟩ =>
    show cc0_transform_0 (grid0.coords t) 0 * 512 + 1 * r.val = _
    rw [pos0]; show 16 * 512 + 1 * r.val = 8192 + r.val; omega
  | ⟨1, _⟩ =>
    show cc0_transform_0 (grid0.coords t) 1 * 2048 + 1 * j.val = _
    rw [pos0]; show 0 * 2048 + 1 * j.val = j.val; omega

/-- The gates at an index. -/
theorem x1_at (c : Dev nD) (t : Fin cfg0.N) (r : Fin 512) (j : Fin 2048) :
    iblk (F := Ideal) m c 1 t (ix2 r j) = inp m c (ix2 (⟨8192 + r.val, by omega⟩ : Fin 8704) (⟨2048 + j.val, by omega⟩ : Fin 14336)) := by
  unfold iblk
  refine (congrFun (V_main_arg0 m c) _).trans (congrArg (m ((c.tc : Thread nD τ).loc main_arg0)) (funext fun a => Fin.ext ?_))
  match a with
  | ⟨0, _⟩ =>
    show cc0_transform_1 (grid0.coords t) 0 * 512 + 1 * r.val = _
    rw [pos1]; show 16 * 512 + 1 * r.val = 8192 + r.val; omega
  | ⟨1, _⟩ =>
    show cc0_transform_1 (grid0.coords t) 1 * 2048 + 1 * j.val = _
    rw [pos1]; show 1 * 2048 + 1 * j.val = 2048 + j.val; omega

/-- The gated values at an index. -/
theorem x2_at (c : Dev nD) (t : Fin cfg0.N) (r : Fin 512) (j : Fin 2048) :
    iblk (F := Ideal) m c 2 t (ix2 r j) = inp m c (ix2 (⟨8192 + r.val, by omega⟩ : Fin 8704) (⟨4096 + j.val, by omega⟩ : Fin 14336)) := by
  unfold iblk
  refine (congrFun (V_main_arg0 m c) _).trans (congrArg (m ((c.tc : Thread nD τ).loc main_arg0)) (funext fun a => Fin.ext ?_))
  match a with
  | ⟨0, _⟩ =>
    show cc0_transform_2 (grid0.coords t) 0 * 512 + 1 * r.val = _
    rw [pos2]; show 16 * 512 + 1 * r.val = 8192 + r.val; omega
  | ⟨1, _⟩ =>
    show cc0_transform_2 (grid0.coords t) 1 * 2048 + 1 * j.val = _
    rw [pos2]; show 2 * 2048 + 1 * j.val = 4096 + j.val; omega

/-- The taps at an index. -/
theorem w_at (c : Dev nD) (t : Fin cfg0.N) (r : Fin 3) (j : Fin 2048) :
    iblk (F := Ideal) m c 3 t (ix2 r j) = taps m c (ix2 r j) := by
  unfold iblk
  refine (congrFun (V_main_arg1 m c) _).trans (congrArg (m ((c.tc : Thread nD τ).loc main_arg1)) (funext fun a => Fin.ext ?_))
  match a with
  | ⟨0, _⟩ =>
    show cc0_transform_3 (grid0.coords t) 0 * 3 + 1 * r.val = _
    rw [pos3]; show 0 * 3 + 1 * r.val = r.val; omega
  | ⟨1, _⟩ =>
    show cc0_transform_3 (grid0.coords t) 1 * 2048 + 1 * j.val = _
    rw [pos3]; show 0 * 2048 + 1 * j.val = j.val; omega

/-- The block of the rows one before is the array the host made. -/
theorem e4_at (c : Dev nD) (t : Fin cfg0.N) (r : Fin 512) (j : Fin 2048) :
    iblk (F := Ideal) m c 4 t (ix2 r j) = (V (F := Ideal) m c main_v3 : Vec Ideal S512x2048 .f32) (ix2 r j) := by
  unfold iblk
  refine congrArg (V (F := Ideal) m c main_v3 : Vec Ideal S512x2048 .f32) (funext fun a => Fin.ext ?_)
  match a with
  | ⟨0, _⟩ =>
    show cc0_transform_4 (grid0.coords t) 0 * 512 + 1 * r.val = r.val
    rw [pos4]; show 0 * 512 + 1 * r.val = r.val; omega
  | ⟨1, _⟩ =>
    show cc0_transform_4 (grid0.coords t) 1 * 2048 + 1 * j.val = j.val
    rw [pos4]; show 0 * 2048 + 1 * j.val = j.val; omega

/-- The block of the rows two before is the array the host made. -/
theorem e5_at (c : Dev nD) (t : Fin cfg0.N) (r : Fin 512) (j : Fin 2048) :
    iblk (F := Ideal) m c 5 t (ix2 r j) = (V (F := Ideal) m c main_v6 : Vec Ideal S512x2048 .f32) (ix2 r j) := by
  unfold iblk
  refine congrArg (V (F := Ideal) m c main_v6 : Vec Ideal S512x2048 .f32) (funext fun a => Fin.ext ?_)
  match a with
  | ⟨0, _⟩ =>
    show cc0_transform_5 (grid0.coords t) 0 * 512 + 1 * r.val = r.val
    rw [pos5]; show 0 * 512 + 1 * r.val = r.val; omega
  | ⟨1, _⟩ =>
    show cc0_transform_5 (grid0.coords t) 1 * 2048 + 1 * j.val = j.val
    rw [pos5]; show 0 * 2048 + 1 * j.val = j.val; omega

/-- Three rows of zeros for every sample. -/
abbrev zeros : Vec Ideal S128x3x2048 .f32 := broadcastInDim (α := Elt Ideal .f32) S128x3x2048 ![] bcast_S_S128x3x2048 (constant (F := Ideal) S_ .f32 0x00000000#32)

/-- The rows one before, as the host makes them. -/
abbrev hostOne (buf : Kept) : Vec Ideal S512x2048 .f32 :=
  shapeCast (α := Elt Ideal .f32) S512x2048 (concatenate (α := Elt Ideal .f32) S128x4x2048 1 [⟨S128x1x2048, extractStridedSlice (α := Elt Ideal .f32) S128x1x2048 ![0, 1, 0] buf slices_S128x2x2048_S128x1x2048_0_1_0⟩,
    ⟨S128x3x2048, zeros⟩] concatenates_S128x1x2048_S128x3x2048_S128x4x2048_d1) shapeCasts_S128x4x2048_S512x2048

/-- The rows two before, as the host makes them. -/
abbrev hostTwo (buf : Kept) : Vec Ideal S512x2048 .f32 :=
  shapeCast (α := Elt Ideal .f32) S512x2048 (concatenate (α := Elt Ideal .f32) S128x4x2048 1 [⟨S128x2x2048, buf⟩,
    ⟨S128x2x2048, extractStridedSlice (α := Elt Ideal .f32) S128x2x2048 ![0, 0, 0] zeros slices_S128x3x2048_S128x2x2048_0_0_0⟩] concatenates_S128x2x2048_S128x2x2048_S128x4x2048_d1) shapeCasts_S128x4x2048_S512x2048

/-- The kernel finds the rows one before as the host makes them. -/
theorem V_one (c : Dev nD) : V (F := Ideal) m c main_v3 = hostOne (keptRows m c) := by
  unfold V
  after_reads_simp
  rfl

/-- The kernel finds the rows two before as the host makes them. -/
theorem V_two (c : Dev nD) : V (F := Ideal) m c main_v6 = hostTwo (keptRows m c) := by
  unfold V
  after_reads_simp
  rfl

/-- The row one before a sample's first row is the later kept row. -/
theorem hostOne_at (buf : Kept) (r : Fin 512) (j : Fin 2048) (h : r.val % 4 = 0) :
    hostOne buf (ix2 r j) = buf (ix3 (⟨r.val / 4, by omega⟩ : Fin 128) 1 j) := by
  unfold hostOne
  generalize zeros = Z
  pointwise
  rw [dif_pos (by omega)]
  exact congrArg (fun z => buf (ix3 _ z j)) (Fin.ext (by show 1 + r.val % 4 = 1; omega))

/-- The rows two before a sample's first two rows are the kept rows. -/
theorem hostTwo_at (buf : Kept) (r : Fin 512) (j : Fin 2048) (h : r.val % 4 < 2) :
    hostTwo buf (ix2 r j) = buf (ix3 (⟨r.val / 4, by omega⟩ : Fin 128) (⟨r.val % 4, h⟩ : Fin 2) j) := by
  unfold hostTwo
  generalize zeros = Z
  pointwise
  rw [dif_pos (by omega)]

/-- A row's place in its sample, as the kernel counts it. -/
theorem place_at (r : Fin 512) (j : Fin 2048) : k0_pay3 (ix2 r j) = BitVec.ofNat 32 (r.val % 4) := by
  unfold k0_pay3
  pointwise
  revert r
  clear j
  decide +kernel

/-- A choice by the place being the first. -/
theorem pick_first {α : Type} (p : ℕ) (hp : p < 4) (a b : α) :
    Scalar.select (IntOp.cmpi .eq (BitVec.ofNat 32 p) 0#32) a b = if p = 0 then a else b := by
  interval_cases p <;> rfl

/-- A choice by the place being one of the first two. -/
theorem pick_two {α : Type} (p : ℕ) (hp : p < 4) (a b : α) :
    Scalar.select (IntOp.cmpi .sle (BitVec.ofNat 32 p) 1#32) a b = if p < 2 then a else b := by
  interval_cases p <;> rfl

/-- The gated features at an index. -/
theorem gated_at (c : Dev nD) (t : Fin cfg0.N) (r : Fin 512) (j : Fin 2048) :
    k0_pay2 (F := Ideal) (iblk (F := Ideal) m c 1 t) (iblk (F := Ideal) m c 2 t) (ix2 r j)
      = gate (inp m c) ⟨8192 + r.val, by omega⟩ j := by
  unfold k0_pay2 gate
  rw [← x1_at m c t r j, ← x2_at m c t r j]
  pointwise

/-- A sample's gated row after the kept rows, at a row of the sample. -/
theorem after_in (x : Projected) (buf : Kept) (b : Fin 128) (q : Fin 6) (j : Fin 2048) (R : Fin 8704) (h : 2 ≤ q.val) (e : 8192 + (b.val * 4 + (q.val - 2)) = R.val) :
    after x buf b q j = gate x R j := by
  unfold after
  rw [dif_neg (by omega)]
  exact congrArg (fun z => gate x z j) (Fin.ext e)

/-- A sample's gated row after the kept rows, at a kept row. -/
theorem after_out (x : Projected) (buf : Kept) (b : Fin 128) (q : Fin 6) (j : Fin 2048) (k : Fin 2) (e : k.val = q.val) : after x buf b q j = buf (ix3 b k j) := by
  unfold after
  rw [dif_pos (by omega)]
  exact congrArg (fun z => buf (ix3 b z j)) (Fin.ext e.symm)

/-- The row one before, as the kernel chooses it. -/
theorem one_at (c : Dev nD) (t : Fin cfg0.N) (r : Fin 512) (j : Fin 2048) :
    k0_pay4 (F := Ideal) (iblk (F := Ideal) m c 1 t) (iblk (F := Ideal) m c 2 t) (iblk (F := Ideal) m c 4 t) (ix2 r j)
      = after (inp m c) (keptRows m c) ⟨r.val / 4, by omega⟩ ⟨1 + r.val % 4, by omega⟩ j := by
  unfold k0_pay4
  have hI := place_at r j
  have hU := fun q => gated_at m c t q j
  have hE := e4_at m c t r j
  generalize k0_pay3 = I at hI ⊢
  generalize k0_pay2 (F := Ideal) (iblk (F := Ideal) m c 1 t) (iblk (F := Ideal) m c 2 t) = U at hU ⊢
  generalize iblk (F := Ideal) m c 4 t = E at hE ⊢
  pointwise
  rw [hI, pick_first _ (by omega)]
  by_cases h : r.val % 4 = 0
  · rw [if_pos h, hE, V_one]
    exact (hostOne_at _ r j h).trans (after_out _ _ _ _ _ 1 (by show 1 = 1 + r.val % 4; omega)).symm
  · rw [if_neg h, hU]
    refine (after_in _ _ _ _ _ _ (by show 2 ≤ 1 + r.val % 4; omega) ?_).symm
    show 8192 + (r.val / 4 * 4 + (1 + r.val % 4 - 2)) = 8192 + (r.val + 512 - 1) % 512
    omega

/-- The row two before, as the kernel chooses it. -/
theorem two_at (c : Dev nD) (t : Fin cfg0.N) (r : Fin 512) (j : Fin 2048) :
    k0_pay5 (F := Ideal) (iblk (F := Ideal) m c 1 t) (iblk (F := Ideal) m c 2 t) (iblk (F := Ideal) m c 5 t) (ix2 r j)
      = after (inp m c) (keptRows m c) ⟨r.val / 4, by omega⟩ ⟨r.val % 4, by omega⟩ j := by
  unfold k0_pay5
  have hI := place_at r j
  have hU := fun q => gated_at m c t q j
  have hE := e5_at m c t r j
  generalize k0_pay3 = I at hI ⊢
  generalize k0_pay2 (F := Ideal) (iblk (F := Ideal) m c 1 t) (iblk (F := Ideal) m c 2 t) = U at hU ⊢
  generalize iblk (F := Ideal) m c 5 t = E at hE ⊢
  pointwise
  rw [hI, pick_two _ (by omega)]
  by_cases h : r.val % 4 < 2
  · rw [if_pos h, hE, V_two]
    exact (hostTwo_at _ r j h).trans (after_out _ _ _ _ _ ⟨r.val % 4, h⟩ rfl).symm
  · rw [if_neg h, hU]
    refine (after_in _ _ _ _ _ _ (by show 2 ≤ r.val % 4; omega) ?_).symm
    show 8192 + (r.val / 4 * 4 + (r.val % 4 - 2)) = 8192 + (r.val + 512 - 2) % 512
    omega

/-- The stored rows at an index. -/
theorem pay_at (a : Vec Ideal S512x2048 .bf16) (u p q : Vec Ideal S512x2048 .f32) (w : Vec Ideal S3x2048 .f32) (r : Fin 512) (j : Fin 2048) :
    k0_pay1 (F := Ideal) u p q (k0_pay6 (F := Ideal) a) w (ix2 r j)
      = (show EReal from a (ix2 r j)) * (((show EReal from q (ix2 r j)) * (show EReal from w (ix2 0 j)) + (show EReal from p (ix2 r j)) * (show EReal from w (ix2 1 j)))
        + (show EReal from u (ix2 r j)) * (show EReal from w (ix2 2 j))) := by
  unfold k0_pay1 k0_pay6
  pointwise

/-- The rows the kernel leaves, at an index. -/
theorem block_at (c : Dev nD) (t : Fin cfg0.N) (r : Fin 512) (j : Fin 2048) :
    out0_6 (F := Ideal) (iblk (F := Ideal) m c 0 t) (iblk (F := Ideal) m c 1 t) (iblk (F := Ideal) m c 2 t) (iblk (F := Ideal) m c 3 t) (iblk (F := Ideal) m c 4 t) (iblk (F := Ideal) m c 5 t) (ix2 r j)
      = sampled (inp m c) (taps m c) (keptRows m c) ⟨r.val / 4, by omega⟩ ⟨r.val % 4, by omega⟩ j := by
  unfold_out out0_6
  frame_out
  refine (pay_at _ _ _ _ _ r j).trans ?_
  unfold sampled
  rw [after_in (inp m c) (keptRows m c) ⟨r.val / 4, by omega⟩ ⟨2 + r.val % 4, by omega⟩ j ⟨8192 + r.val, by omega⟩ (Nat.le_add_right _ _)
    (by show 8192 + (r.val / 4 * 4 + (2 + r.val % 4 - 2)) = 8192 + r.val; omega)]
  rw [← gated_at m c t r j, ← w_at m c t 0 j, ← w_at m c t 1 j, ← w_at m c t 2 j, ← one_at m c t r j, ← two_at m c t r j]
  have ea : inp m c (ix2 (⟨8192 + r.val, by omega⟩ : Fin 8704) (⟨j.val, by omega⟩ : Fin 14336))
      = inp m c (ix2 (⟨8192 + (r.val / 4 * 4 + r.val % 4), by omega⟩ : Fin 8704) (⟨j.val, by omega⟩ : Fin 14336)) :=
    congrArg (fun z => inp m c (ix2 z _)) (Fin.ext (by show 8192 + r.val = 8192 + (r.val / 4 * 4 + r.val % 4); omega))
  rw [← ea, ← x0_at m c t r j]

/-- The gated rows of all samples. -/
def gatedRows (x : Projected) : Vec Ideal ⟨2, ![512, 2048]⟩ .f32 := fun y =>
  gate x ⟨8192 + (y 0).val, by have : (y 0).val < 512 := (y 0).isLt; omega⟩ (y 1)

/-- The kernel's first result is the convolved rows. -/
theorem first_eq (c : Dev nD) : (dats m 0 c).arrAt 6 cfg0.N = sampledRows (inp m c) (taps m c) (keptRows m c) := by
  refine (dats m 0 c).arrAt_eq_of_covers 6 _ (by decide +kernel) fun t _ y => ?_
  blk_simp
  rw [after0_6]
  obtain ⟨r, j, rfl⟩ : ∃ (r : Fin 512) (j : Fin 2048), y = ix2 r j := ⟨y 0, y 1, funext fun a => by match a with | ⟨0, _⟩ => rfl | ⟨1, _⟩ => rfl⟩
  have e : (win0_6.blk t).view.emb (ix2 r j) = ix2 r j := by
    refine funext fun a => Fin.ext ?_
    match a with
    | ⟨0, _⟩ =>
      show cc0_transform_6 (grid0.coords t) 0 * 512 + 1 * r.val = r.val
      rw [pos6]; show 0 * 512 + 1 * r.val = r.val; omega
    | ⟨1, _⟩ =>
      show cc0_transform_6 (grid0.coords t) 1 * 2048 + 1 * j.val = j.val
      rw [pos6]; show 0 * 2048 + 1 * j.val = _; omega
  exact (block_at m c t r j).trans (congrArg (sampledRows (inp m c) (taps m c) (keptRows m c)) e).symm

/-- The kernel's second array is the gated rows. -/
theorem gates_eq (c : Dev nD) : (dats m 0 c).arrAt 7 cfg0.N = gatedRows (inp m c) := by
  refine (dats m 0 c).arrAt_eq_of_covers 7 _ (by decide +kernel) fun t _ y => ?_
  blk_simp
  rw [after0_7]
  obtain ⟨r, j, rfl⟩ : ∃ (r : Fin 512) (j : Fin 2048), y = ix2 r j := ⟨y 0, y 1, funext fun a => by match a with | ⟨0, _⟩ => rfl | ⟨1, _⟩ => rfl⟩
  have e : (win0_7.blk t).view.emb (ix2 r j) = ix2 r j := by
    refine funext fun a => Fin.ext ?_
    match a with
    | ⟨0, _⟩ =>
      show cc0_transform_7 (grid0.coords t) 0 * 512 + 1 * r.val = r.val
      rw [pos7]; show 0 * 512 + 1 * r.val = r.val; omega
    | ⟨1, _⟩ =>
      show cc0_transform_7 (grid0.coords t) 1 * 2048 + 1 * j.val = j.val
      rw [pos7]; show 0 * 2048 + 1 * j.val = _; omega
  refine Eq.trans ?_ (congrArg (gatedRows (inp m c)) e).symm
  unfold_out out0_7
  frame_out
  exact gated_at m c t r j

/-- The host's slice of the gated rows holds the samples' last gated rows. -/
theorem slice_eq (x : Projected) (buf : Kept) : extractStridedSlice (α := Elt Ideal .f32) S128x2x2048 ![0, 2, 0] (shapeCast (α := Elt Ideal .f32) S128x4x2048 (gatedRows x) shapeCasts_S512x2048_S128x4x2048) slices_S128x4x2048_S128x2x2048_0_2_0
    = newRows x buf := by
  funext y
  obtain ⟨b, r, j, rfl⟩ : ∃ (b : Fin 128) (r : Fin 2) (j : Fin 2048), y = ix3 b r j := ⟨y 0, y 1, y 2, funext fun a => by match a with | ⟨0, _⟩ => rfl | ⟨1, _⟩ => rfl | ⟨2, _⟩ => rfl⟩
  refine Eq.trans ?_ (after_in x buf b ⟨4 + r.val, by omega⟩ j ⟨8192 + (b.val * 4 + (2 + r.val)), by omega⟩ (by show 2 ≤ 4 + r.val; omega) (by show 8192 + (b.val * 4 + (4 + r.val - 2)) = 8192 + (b.val * 4 + (2 + r.val)); omega)).symm
  have hG : ∀ q : Fin 512, gatedRows x (ix2 q j) = gate x ⟨8192 + q.val, by omega⟩ j := fun q => rfl
  generalize gatedRows x = G at hG ⊢
  pointwise
  rw [hG]

/-- What the host reads of the kernel's second array. -/
theorem second_eq (c : Dev nD) : Pipeline.afterTail₀ cfgs (dats (F := Ideal) m) 0 (V0 (F := Ideal) m) [hostOps1] c main_v9 = newRows (inp m c) (keptRows m c) := by
  have hw : Pipeline.withArrays spec0 c (V0 (F := Ideal) m c) (fun w => (dats (F := Ideal) m 0 c).arrAt w cfg0.N) (Proc.devRef .tc main_v7_1)
      = gatedRows (inp m c) := by
    refine (Pipeline.withArrays_arr_shared spec0 c (V0 (F := Ideal) m c) (fun w => (dats (F := Ideal) m 0 c).arrAt w cfg0.N) ?_ 7).trans (gates_eq m c)
    exact Pipeline.Dat.arrAt_sharedIn (dats (F := Ideal) m 0 c) sharedIn0 (V0 (F := Ideal) m c) (A_eq m c) cfg0.N
  refine Eq.trans ?_ (slice_eq (inp m c) (keptRows m c))
  rw [← hw]
  unfold Pipeline.afterTail₀
  generalize Pipeline.withArrays _ c (V0 (F := Ideal) m c) _ = W
  after_reads_simp
  rfl

/-- The kernel's run: both results and the arguments. -/
theorem run : θ_run defs (onTc (τ := τ) (main (F := Ideal))) ⟨m, fun _ => 0, ρ⟩ fun r => ∀ c : Dev nD,
      r.2.mem ((c.tc : Thread nD τ).loc main_v7_0) = sampledRows (inp m c) (taps m c) (keptRows m c)
      ∧ r.2.mem ((c.tc : Thread nD τ).loc main_v9) = newRows (inp m c) (keptRows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  run_from Gen.run_main m ρ
  · exact first_eq m c
  · exact second_eq m c
  · exact W_main_arg2 m (dats m) c

end Cert.ConvSampleIdeal.Value

end
-- ==== Proof.NormInValue.lean ====
/-
  The input norm's kernel and its plain form compute the same array.
-/
module

public import proofs.«01_k».proof.Proof.Gen.NormInIdeal.Value
public import proofs.«01_k».proof.Proof.Gen.NormInReferenceIdeal.Run
public import Idealize.ShloMosaic.Lib.Pipeline.ValueKit

@[expose] public section

set_option maxRecDepth 16384

noncomputable section

open Idealize.ShloMosaic Idealize.ShloMosaic.TcCoe Idealize.SL.Sem

namespace Cert.InputNorm

/-- A row's entry divided by the root of the row's mean square and scaled by its channel's gain. -/
def normed (n : ℕ) (x : Vec Ideal ⟨2, ![n, 4096]⟩ .f32) (g : Vec Ideal ⟨2, ![1, 4096]⟩ .f32) (r : Fin n) (j : Fin 4096) : EReal :=
  (show EReal from x (ix2 r j)) * Ideal.rsqrt (Ideal.div (∑ k : Fin 4096, (show EReal from x (ix2 r k)) * (show EReal from x (ix2 r k))) (Ideal.ofBits FTy.f32 0x45800000#32)
    + Ideal.ofBits FTy.f32 0x358637BD#32) * (show EReal from g (ix2 0 j))

/-- The normed rows of the prompts, then those of the samples. -/
def joined (x : Vec Ideal ⟨2, ![8192, 4096]⟩ .f32) (s : Vec Ideal ⟨2, ![512, 4096]⟩ .f32) (g : Vec Ideal ⟨2, ![1, 4096]⟩ .f32) :
    Vec Ideal ⟨2, ![8704, 4096]⟩ .bf16 := fun y =>
  if h : (y 0).val < 8192 then normed 8192 x g ⟨(y 0).val, h⟩ (y 1)
  else normed 512 s g ⟨(y 0).val - 8192, by have : (y 0).val < 8704 := (y 0).isLt; omega⟩ (y 1)

/-- A prompt's row of the joined rows. -/
theorem joined_lo (x : Vec Ideal ⟨2, ![8192, 4096]⟩ .f32) (s : Vec Ideal ⟨2, ![512, 4096]⟩ .f32) (g : Vec Ideal ⟨2, ![1, 4096]⟩ .f32)
    (r : Fin 8704) (j : Fin 4096) (q : Fin 8192) (h : q.val = r.val) : joined x s g (ix2 r j) = normed 8192 x g q j := by
  unfold joined
  refine (dif_pos (show r.val < 8192 by omega)).trans ?_
  exact congrArg (fun z => normed 8192 x g z j) (Fin.ext h.symm)

/-- A sample's row of the joined rows. -/
theorem joined_hi (x : Vec Ideal ⟨2, ![8192, 4096]⟩ .f32) (s : Vec Ideal ⟨2, ![512, 4096]⟩ .f32) (g : Vec Ideal ⟨2, ![1, 4096]⟩ .f32)
    (r : Fin 8704) (j : Fin 4096) (q : Fin 512) (h : 8192 + q.val = r.val) : joined x s g (ix2 r j) = normed 512 s g q j := by
  unfold joined
  refine (dif_neg (show ¬ r.val < 8192 by omega)).trans ?_
  exact congrArg (fun z => normed 512 s g z j) (Fin.ext (by show r.val - 8192 = q.val; omega))

end Cert.InputNorm

namespace Cert.NormInIdeal.Value

open Cert.NormInIdeal Cert.NormInIdeal.Gen Cert.InputNorm

variable (m : (ℓ : Loc nD τ sig) → Buf (Elt Ideal) ℓ) (ρ : Dev nD → PrngReg)

/-- Where the prompts' blocks lie. -/
theorem pos0 : ∀ t : Fin cfg0.N, t.val < 32 → cc0_transform_0 (grid0.coords t) = ![t.val, 0] := by
  decide +kernel

/-- Where the samples' blocks lie. -/
theorem pos1 : ∀ t : Fin cfg0.N, 32 ≤ t.val → cc0_transform_1 (grid0.coords t) = ![t.val - 32, 0] := by
  decide +kernel

/-- Where the gains lie. -/
theorem pos2 : ∀ t : Fin cfg0.N, cc0_transform_2 (grid0.coords t) = ![0, 0] := by
  decide +kernel

/-- Where the result's blocks lie. -/
theorem pos3 : ∀ t : Fin cfg0.N, cc0_transform_3 (grid0.coords t) = ![t.val, 0] := by
  decide +kernel

/-- There are 34 grid points. -/
theorem lt_points (t : Fin cfg0.N) : t.val < 34 := lt_of_lt_of_eq t.isLt N_0

/-- A block of the prompts' rows at an index. -/
theorem x0_at (c : Dev nD) (t : Fin cfg0.N) (h : t.val < 32) (r : Fin 256) (j : Fin 4096) :
    iblk (F := Ideal) m c 0 t (ix2 r j) = m ((c.tc : Thread nD τ).loc main_arg0) (ix2 (⟨256 * t.val + r.val, by omega⟩ : Fin 8192) j) := by
  unfold iblk V
  refine congrArg (m ((c.tc : Thread nD τ).loc main_arg0)) (funext fun a => Fin.ext ?_)
  match a with
  | ⟨0, _⟩ =>
    show cc0_transform_0 (grid0.coords t) 0 * 256 + 1 * r.val = _
    rw [pos0 t h]; show t.val * 256 + 1 * r.val = 256 * t.val + r.val; omega
  | ⟨1, _⟩ =>
    show cc0_transform_0 (grid0.coords t) 1 * 4096 + 1 * j.val = j.val
    rw [pos0 t h]; show 0 * 4096 + 1 * j.val = _; omega

/-- A block of the samples' rows at an index. -/
theorem x1_at (c : Dev nD) (t : Fin cfg0.N) (h : 32 ≤ t.val) (r : Fin 256) (j : Fin 4096) :
    iblk (F := Ideal) m c 1 t (ix2 r j) = m ((c.tc : Thread nD τ).loc main_arg1) (ix2 (⟨256 * (t.val - 32) + r.val, by have := lt_points t; omega⟩ : Fin 512) j) := by
  unfold iblk V
  refine congrArg (m ((c.tc : Thread nD τ).loc main_arg1)) (funext fun a => Fin.ext ?_)
  match a with
  | ⟨0, _⟩ =>
    show cc0_transform_1 (grid0.coords t) 0 * 256 + 1 * r.val = _
    rw [pos1 t h]; show (t.val - 32) * 256 + 1 * r.val = 256 * (t.val - 32) + r.val; omega
  | ⟨1, _⟩ =>
    show cc0_transform_1 (grid0.coords t) 1 * 4096 + 1 * j.val = j.val
    rw [pos1 t h]; show 0 * 4096 + 1 * j.val = _; omega

/-- The gains' block at an index. -/
theorem g_at (c : Dev nD) (t : Fin cfg0.N) (j : Fin 4096) :
    iblk (F := Ideal) m c 2 t (ix2 0 j) = m ((c.tc : Thread nD τ).loc main_arg2) (ix2 0 j) := by
  unfold iblk V
  refine congrArg (m ((c.tc : Thread nD τ).loc main_arg2)) (funext fun a => Fin.ext ?_)
  match a with
  | ⟨0, _⟩ =>
    show cc0_transform_2 (grid0.coords t) 0 * 1 + 1 * 0 = 0
    rw [pos2]; show 0 * 1 + 1 * 0 = 0; omega
  | ⟨1, _⟩ =>
    show cc0_transform_2 (grid0.coords t) 1 * 4096 + 1 * j.val = j.val
    rw [pos2]; show 0 * 4096 + 1 * j.val = _; omega

/-- The stored block at an index, for the prompts' rows. -/
theorem pay1_at (x : Vec Ideal S256x4096 .f32) (g : Vec Ideal S1x4096 .f32) (r : Fin 256) (j : Fin 4096) :
    k0_pay1 (F := Ideal) x g (ix2 r j) = normed 256 x g r j := by
  unfold k0_pay1 normed
  pointwise

/-- The stored block at an index, for the samples' rows. -/
theorem pay2_at (x : Vec Ideal S256x4096 .f32) (g : Vec Ideal S1x4096 .f32) (r : Fin 256) (j : Fin 4096) :
    k0_pay2 (F := Ideal) x g (ix2 r j) = normed 256 x g r j := by
  unfold k0_pay2 normed
  pointwise

/-- A block's normed entry is the whole array's, where the rows agree. -/
theorem normed_row (n : ℕ) (X : Vec Ideal ⟨2, ![n, 4096]⟩ .f32) (G G' : Vec Ideal ⟨2, ![1, 4096]⟩ .f32) (B : Vec Ideal ⟨2, ![256, 4096]⟩ .f32) (r : Fin 256) (q : Fin n) (j : Fin 4096)
    (h : ∀ k : Fin 4096, B (ix2 r k) = X (ix2 q k)) (hg : G' (ix2 0 j) = G (ix2 0 j)) : normed 256 B G' r j = normed n X G q j := by
  unfold normed
  rw [h j, hg]
  simp only [h]

/-- The block a grid point leaves at an index, at a block of the prompts. -/
theorem block_A (c : Dev nD) (t : Fin cfg0.N) (h : t.val < 32) (r : Fin 256) (j : Fin 4096) :
    outsAt0 (F := Ideal) m c t.val t.isLt (ix2 r j) = normed 8192 (m ((c.tc : Thread nD τ).loc main_arg0)) (m ((c.tc : Thread nD τ).loc main_arg2)) ⟨256 * t.val + r.val, by omega⟩ j := by
  rw [outsAt0_A m c t h (by omega)]
  frame_out
  exact (pay1_at _ _ r j).trans (normed_row _ _ _ _ _ _ _ _ (fun k => x0_at m c t h r k) (g_at m c t j))

/-- The block a grid point leaves at an index, at a block of the samples. -/
theorem block_B (c : Dev nD) (t : Fin cfg0.N) (h : 32 ≤ t.val) (r : Fin 256) (j : Fin 4096) :
    outsAt0 (F := Ideal) m c t.val t.isLt (ix2 r j) = normed 512 (m ((c.tc : Thread nD τ).loc main_arg1)) (m ((c.tc : Thread nD τ).loc main_arg2)) ⟨256 * (t.val - 32) + r.val, by have := lt_points t; omega⟩ j := by
  rw [outsAt0_B m c t (by omega) h]
  frame_out
  exact (pay2_at _ _ r j).trans (normed_row _ _ _ _ _ _ _ _ (fun k => x1_at m c t h r k) (g_at m c t j))

/-- The kernel's result is the normed rows. -/
theorem result_eq (c : Dev nD) : (dats m 0 c).arrAt 3 cfg0.N = joined (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht := lt_points t
  blk_simp
  rw [after0_3]
  obtain ⟨r, j, rfl⟩ : ∃ (r : Fin 256) (j : Fin 4096), y = ix2 r j := ⟨y 0, y 1, funext fun a => by match a with | ⟨0, _⟩ => rfl | ⟨1, _⟩ => rfl⟩
  have e : (win0_3.blk t).view.emb (ix2 r j) = ix2 (⟨256 * t.val + r.val, by omega⟩ : Fin 8704) j := by
    refine funext fun a => Fin.ext ?_
    match a with
    | ⟨0, _⟩ =>
      show cc0_transform_3 (grid0.coords t) 0 * 256 + 1 * r.val = _
      rw [pos3]; show t.val * 256 + 1 * r.val = 256 * t.val + r.val; omega
    | ⟨1, _⟩ =>
      show cc0_transform_3 (grid0.coords t) 1 * 4096 + 1 * j.val = j.val
      rw [pos3]; show 0 * 4096 + 1 * j.val = _; omega
  refine Eq.trans ?_ (congrArg (joined (m ((c.tc : Thread nD τ).loc main_arg0)) (m ((c.tc : Thread nD τ).loc main_arg1)) (m ((c.tc : Thread nD τ).loc main_arg2))) e).symm
  by_cases h : t.val < 32
  · exact (block_A m c t h r j).trans (joined_lo _ _ _ _ _ _ rfl).symm
  · exact (block_B m c t (by omega) r j).trans (joined_hi _ _ _ _ _ _ (by show 8192 + (256 * (t.val - 32) + r.val) = 256 * t.val + r.val; omega)).symm

end Cert.NormInIdeal.Value

namespace Cert.NormInReferenceIdeal.Plain

open Cert.NormInReferenceIdeal Cert.NormInReferenceIdeal.Facts₀ Cert.InputNorm

/-- A prompt's row of the plain form. -/
theorem plain_8192 (x : Vec Ideal S8192x4096 .f32) (g : Vec Ideal S1x4096 .f32) (r : Fin 8192) (j : Fin 4096) :
    (mulf (F := Ideal) (φ := .f32) (mulf (F := Ideal) (φ := .f32) x (broadcastInDim (α := Elt Ideal .f32) S8192x4096 ![0, 1] bcast_S8192x1_S8192x4096_0_1 (Host.rsqrt (F := Ideal) (φ := .f32) (addf (F := Ideal) (φ := .f32) (Host.divf (F := Ideal) (φ := .f32) (broadcastInDim (α := Elt Ideal .f32) S8192x1 ![0] bcast_S8192_S8192x1_0 (Host.reduceAdd (F := Ideal) (φ := .f32) (mulf (F := Ideal) (φ := .f32) x x) (constant (F := Ideal) S_ .f32 0x00000000#32) reducesTo_S8192x4096_S8192_d1 h_S_)) (broadcastInDim (α := Elt Ideal .f32) S8192x1 ![] bcast_S_S8192x1 (constant (F := Ideal) S_ .f32 0x45800000#32))) (broadcastInDim (α := Elt Ideal .f32) S8192x1 ![] bcast_S_S8192x1 (constant (F := Ideal) S_ .f32 0x358637BD#32)))))) (broadcastInDim (α := Elt Ideal .f32) S8192x4096 ![0, 1] bcast_S1x4096_S8192x4096_0_1 g)) (ix2 r j) = normed 8192 x g r j := by
  unfold normed
  pointwise

/-- A sample's row of the plain form. -/
theorem plain_512 (x : Vec Ideal S512x4096 .f32) (g : Vec Ideal S1x4096 .f32) (r : Fin 512) (j : Fin 4096) :
    (mulf (F := Ideal) (φ := .f32) (mulf (F := Ideal) (φ := .f32) x (broadcastInDim (α := Elt Ideal .f32) S512x4096 ![0, 1] bcast_S512x1_S512x4096_0_1 (Host.rsqrt (F := Ideal) (φ := .f32) (addf (F := Ideal) (φ := .f32) (Host.divf (F := Ideal) (φ := .f32) (broadcastInDim (α := Elt Ideal .f32) S512x1 ![0] bcast_S512_S512x1_0 (Host.reduceAdd (F := Ideal) (φ := .f32) (mulf (F := Ideal) (φ := .f32) x x) (constant (F := Ideal) S_ .f32 0x00000000#32) reducesTo_S512x4096_S512_d1 h_S_)) (broadcastInDim (α := Elt Ideal .f32) S512x1 ![] bcast_S_S512x1 (constant (F := Ideal) S_ .f32 0x45800000#32))) (broadcastInDim (α := Elt Ideal .f32) S512x1 ![] bcast_S_S512x1 (constant (F := Ideal) S_ .f32 0x358637BD#32)))))) (broadcastInDim (α := Elt Ideal .f32) S512x4096 ![0, 1] bcast_S1x4096_S512x4096_0_1 g)) (ix2 r j) = normed 512 x g r j := by
  unfold normed
  pointwise

/-- The plain form's result is the normed rows. -/
theorem plain_eq (x : Vec Ideal S8192x4096 .f32) (s : Vec Ideal S512x4096 .f32) (g : Vec Ideal S1x4096 .f32) :
    truncf (F := Ideal) .bf16 (concatenate (α := Elt Ideal .f32) S8704x4096 0 [⟨S8192x4096, (mulf (F := Ideal) (φ := .f32) (mulf (F := Ideal) (φ := .f32) x (broadcastInDim (α := Elt Ideal .f32) S8192x4096 ![0, 1] bcast_S8192x1_S8192x4096_0_1 (Host.rsqrt (F := Ideal) (φ := .f32) (addf (F := Ideal) (φ := .f32) (Host.divf (F := Ideal) (φ := .f32) (broadcastInDim (α := Elt Ideal .f32) S8192x1 ![0] bcast_S8192_S8192x1_0 (Host.reduceAdd (F := Ideal) (φ := .f32) (mulf (F := Ideal) (φ := .f32) x x) (constant (F := Ideal) S_ .f32 0x00000000#32) reducesTo_S8192x4096_S8192_d1 h_S_)) (broadcastInDim (α := Elt Ideal .f32) S8192x1 ![] bcast_S_S8192x1 (constant (F := Ideal) S_ .f32 0x45800000#32))) (broadcastInDim (α := Elt Ideal .f32) S8192x1 ![] bcast_S_S8192x1 (constant (F := Ideal) S_ .f32 0x358637BD#32)))))) (broadcastInDim (α := Elt Ideal .f32) S8192x4096 ![0, 1] bcast_S1x4096_S8192x4096_0_1 g))⟩,
      ⟨S512x4096, (mulf (F := Ideal) (φ := .f32) (mulf (F := Ideal) (φ := .f32) s (broadcastInDim (α := Elt Ideal .f32) S512x4096 ![0, 1] bcast_S512x1_S512x4096_0_1 (Host.rsqrt (F := Ideal) (φ := .f32) (addf (F := Ideal) (φ := .f32) (Host.divf (F := Ideal) (φ := .f32) (broadcastInDim (α := Elt Ideal .f32) S512x1 ![0] bcast_S512_S512x1_0 (Host.reduceAdd (F := Ideal) (φ := .f32) (mulf (F := Ideal) (φ := .f32) s s) (constant (F := Ideal) S_ .f32 0x00000000#32) reducesTo_S512x4096_S512_d1 h_S_)) (broadcastInDim (α := Elt Ideal .f32) S512x1 ![] bcast_S_S512x1 (constant (F := Ideal) S_ .f32 0x45800000#32))) (broadcastInDim (α := Elt Ideal .f32) S512x1 ![] bcast_S_S512x1 (constant (F := Ideal) S_ .f32 0x358637BD#32)))))) (broadcastInDim (α := Elt Ideal .f32) S512x4096 ![0, 1] bcast_S1x4096_S512x4096_0_1 g))⟩] concatenates_S8192x4096_S512x4096_S8704x4096_d0) bitsLt_bf16_f32 = joined x s g := by
  funext y
  obtain ⟨r, j, rfl⟩ : ∃ (r : Fin 8704) (j : Fin 4096), y = ix2 r j := ⟨y 0, y 1, funext fun a => by match a with | ⟨0, _⟩ => rfl | ⟨1, _⟩ => rfl⟩
  by_cases h : r.val < 8192
  · rw [joined_lo x s g r j ⟨r.val, h⟩ rfl, ← plain_8192]
    generalize (mulf (F := Ideal) (φ := .f32) (mulf (F := Ideal) (φ := .f32) x _) _ : Vec Ideal S8192x4096 .f32) = X
    generalize (mulf (F := Ideal) (φ := .f32) (mulf (F := Ideal) (φ := .f32) s _) _ : Vec Ideal S512x4096 .f32) = Y
    pointwise
    rw [dif_pos h]
  · rw [joined_hi x s g r j ⟨r.val - 8192, by omega⟩ (show 8192 + (r.val - 8192) = r.val by omega), ← plain_512]
    generalize (mulf (F := Ideal) (φ := .f32) (mulf (F := Ideal) (φ := .f32) x _) _ : Vec Ideal S8192x4096 .f32) = X
    generalize (mulf (F := Ideal) (φ := .f32) (mulf (F := Ideal) (φ := .f32) s _) _ : Vec Ideal S512x4096 .f32) = Y
    pointwise
    rw [dif_neg h]

end Cert.NormInReferenceIdeal.Plain

end
-- ==== Proof.SampleTile.lean ====
/-
  One head of one pair of samples in the kernel of the samples' recurrence: eight rows, four of each sample.
-/
module

public import proofs.«01_k».proof.Proof.Gen.SampleIdeal.Skeleton

@[expose] public section

set_option maxRecDepth 16384

noncomputable section

open Idealize.ShloMosaic Idealize.ShloMosaic.TcCoe Idealize.SL.Sem

namespace Cert.SampleIdeal.Value

open Cert.SampleIdeal Cert.SampleIdeal.Gen

variable {F : FTy → Type} [FloatOps F]

/-- Eight rows of a head's columns lie in a block. -/
theorem slice8 (o : ℕ) (h : Fin 16) (ho : o ≤ 8) : S16x2048.Slices ![o, 128 * h.val] S8x128 := by
  refine ⟨rfl, fun a => ?_⟩
  match a with
  | ⟨0, _⟩ => show o + 8 ≤ 16; omega
  | ⟨1, _⟩ => show 128 * h.val + 128 ≤ 2048; omega

/-- Sixteen rows of a head's columns lie in a block. -/
theorem slice16 (h : Fin 16) : S16x2048.Slices ![0, 128 * h.val] S16x128 := by
  refine ⟨rfl, fun a => ?_⟩
  match a with
  | ⟨0, _⟩ => show 0 + 16 ≤ 16; omega
  | ⟨1, _⟩ => show 128 * h.val + 128 ≤ 2048; omega

/-- A head's columns lie in a row vector. -/
theorem slice1 (h : Fin 16) : S1x2048.Slices ![0, 128 * h.val] S1x128 := by
  refine ⟨rfl, fun a => ?_⟩
  match a with
  | ⟨0, _⟩ => show 0 + 1 ≤ 1; omega
  | ⟨1, _⟩ => show 128 * h.val + 128 ≤ 2048; omega

/-- Two states side by side. -/
def pair (sa sb : Vec F S1x1x128x128 .f32) : FVec F S128x256 .f32 :=
  concatenate S128x256 1 [⟨S128x128, shapeCast S128x128 sa shapeCasts_S1x1x128x128_S128x128⟩,
    ⟨S128x128, shapeCast S128x128 sb shapeCasts_S1x1x128x128_S128x128⟩] concatenates_S128x128_S128x128_S128x256_d1

/-- The rows a pair of samples reads out, before the norm. -/
def tileOut (o c : ℕ) (hs : S16x2048.Slices ![o, c] S8x128) (qe ke qb v : FVec F S16x2048 .f32) (mask : IVec S8x8 1) (inA : IVec S8x128 1)
    (sa sb : Vec F S1x1x128x128 .f32) : FVec F S8x128 .f32 :=
  have read : FVec F S8x256 .f32 := matmul dot_S8x128_S128x256_S8x256_1_0_0_1_n_n none
    (truncf .bf16 (extractStridedSlice S8x128 ![o, c] qb hs) bitsLt_bf16_f32) (truncf .bf16 (pair sa sb) bitsLt_bf16_f32)
    (constant S8x256 .f32 0x00000000#32)
  addf
    (matmul dot_S8x8_S8x128_S8x128_1_0_0_1_n_n none
      (truncf .bf16 (select mask
        (matmul dot_S8x128_S8x128_S8x8_1_1_0_0_n_n none (truncf .bf16 (extractStridedSlice S8x128 ![o, c] qe hs) bitsLt_bf16_f32)
          (truncf .bf16 (extractStridedSlice S8x128 ![o, c] ke hs) bitsLt_bf16_f32) (constant S8x8 .f32 0x00000000#32))
        (broadcast S8x8 (Scalar.ofBits .f32 0x00000000#32))) bitsLt_bf16_f32)
      (truncf .bf16 (extractStridedSlice S8x128 ![o, c] v hs) bitsLt_bf16_f32) (constant S8x128 .f32 0x00000000#32))
    (select inA (extractStridedSlice S8x128 ![0, 0] read slices_S8x256_o0_0_S8x128)
      (extractStridedSlice S8x128 ![0, 128] read slices_S8x256_o0_128_S8x128))

/-- The two states after a pair's rows. -/
def tileState (o c : ℕ) (hs : S16x2048.Slices ![o, c] S8x128) (kd p0 p1 p2 v : FVec F S16x2048 .f32) (inA : IVec S8x128 1)
    (zero : FVec F S8x128 .f32) (sel : FVec F S32x256 .bf16) (sa sb : Vec F S1x1x128x128 .f32) : FVec F S128x256 .f32 :=
  addf
    (mulf (exp (matmul dot_S32x128_S32x256_S128x256_0_0_1_1_n_n none
        (truncf .bf16 (concatenate S32x128 0 [⟨S8x128, extractStridedSlice S8x128 ![o, c] p0 hs⟩, ⟨S8x128, extractStridedSlice S8x128 ![o, c] p1 hs⟩,
          ⟨S8x128, extractStridedSlice S8x128 ![o, c] p2 hs⟩, ⟨S8x128, zero⟩] concatenates_S8x128_S8x128_S8x128_S8x128_S32x128_d0) bitsLt_bf16_f32)
        sel (constant S128x256 .f32 0x00000000#32))) (pair sa sb))
    (matmul dot_S8x128_S8x256_S128x256_0_0_1_1_n_n none (truncf .bf16 (extractStridedSlice S8x128 ![o, c] kd hs) bitsLt_bf16_f32)
      (truncf .bf16 (concatenate S8x256 1
        [⟨S8x128, select inA (extractStridedSlice S8x128 ![o, c] v hs) (broadcast S8x128 (Scalar.ofBits .f32 0x00000000#32))⟩,
         ⟨S8x128, select inA (broadcast S8x128 (Scalar.ofBits .f32 0x00000000#32)) (extractStridedSlice S8x128 ![o, c] v hs)⟩]
        concatenates_S8x128_S8x128_S8x256_d1) bitsLt_bf16_f32) (constant S128x256 .f32 0x00000000#32))

/-- The state of the pair's first sample, as it is stored. -/
def left (x : FVec F S128x256 .f32) : FVec F S1x1x128x128 .f32 :=
  shapeCast S1x1x128x128 (extractStridedSlice S128x128 ![0, 0] x slices_S128x256_o0_0_S128x128) shapeCasts_S128x128_S1x1x128x128

/-- The state of the pair's second sample, as it is stored. -/
def right (x : FVec F S128x256 .f32) : FVec F S1x1x128x128 .f32 :=
  shapeCast S1x1x128x128 (extractStridedSlice S128x128 ![0, 128] x slices_S128x256_o0_128_S128x128) shapeCasts_S128x128_S1x1x128x128

/-- A head's rows of the two pairs, normed and gated. -/
def tileGate (c : ℕ) (hs : S16x2048.Slices ![0, c] S16x128) (hn : S1x2048.Slices ![0, c] S1x128) (g : FVec F S16x2048 .f32) (ng : Vec F S1x2048 .f32)
    (a b : FVec F S8x128 .f32) : FVec F S16x128 .bf16 :=
  have o : FVec F S16x128 .f32 := concatenate S16x128 0 [⟨S8x128, a⟩, ⟨S8x128, b⟩] concatenates_S8x128_S8x128_S16x128_d0
  have gh : FVec F S16x128 .f32 := extractStridedSlice S16x128 ![0, c] g hs
  truncf .bf16 (mulf
    (mulf (mulf o (broadcastTo S16x128 (rsqrt (addf
        (divf (shapeCast S16x1 (multiReduction .add [1] S16 (mulf o o) 0x00000000#32 reduces_S16x128_S16 (.inl rfl) rfl) shapeCasts_S16_S16x1)
          (broadcast S16x1 (Scalar.ofBits .f32 0x43000000#32)))
        (broadcast S16x1 (Scalar.ofBits .f32 0x358637BD#32)))) broadcasts_S16x1_S16x128))
      (broadcastTo S16x128 (extractStridedSlice S1x128 ![0, c] ng hn) broadcasts_S1x128_S16x128))
    (mulf gh (divf (broadcast S16x128 (Scalar.ofBits .f32 0x3F800000#32)) (addf (broadcast S16x128 (Scalar.ofBits .f32 0x3F800000#32))
      (exp (subf (broadcast S16x128 (Scalar.ofBits .f32 0x00000000#32)) gh)))))) bitsLt_bf16_f32

end Cert.SampleIdeal.Value

end
-- ==== Proof.SamplePieces.lean ====
/-
  The stores of the kernel of the samples' recurrence, head by head.
-/
module

public import proofs.«01_k».proof.Proof.SampleTile
public import proofs.«01_k».proof.Proof.Gen.SampleIdeal.Value

@[expose] public section

set_option maxRecDepth 100000

noncomputable section

open Idealize.ShloMosaic Idealize.ShloMosaic.TcCoe Idealize.SL.Sem

namespace Cert.SampleIdeal.Value

open Cert.SampleIdeal Cert.SampleIdeal.Gen

variable {F : FTy → Type} [FloatOps F]

/-- A head's columns of the block of rows. -/
def rowRect (h : Fin 16) : Rect S16x2048 := Rect.unit (s := S16x2048) ![0, 128 * h.val] S16x128.size fun a => by
  match a with
  | ⟨0, _⟩ => show 0 + 16 ≤ 16; omega
  | ⟨1, _⟩ => show 128 * h.val + 128 ≤ 2048; omega

/-- One sample's state of one head in the block of states. -/
def stRect (s : Fin 4) (h : Fin 16) : Rect S4x16x128x128 := Rect.unit (s := S4x16x128x128) ![s.val, h.val, 0, 0] S1x1x128x128.size fun a => by
  match a with
  | ⟨0, _⟩ => show s.val + 1 ≤ 4; omega
  | ⟨1, _⟩ => show h.val + 1 ≤ 16; omega
  | ⟨2, _⟩ => show 0 + 128 ≤ 128; omega
  | ⟨3, _⟩ => show 0 + 128 ≤ 128; omega

section
variable (x0 x1 x2 x3 : Vec F S16x2048 .bf16) (x4 x5 : Vec F S1x2048 .f32) (x6 : Vec F S4x16x128x128 .f32)

/-- The state a sample of the block enters with. -/
def entering (s : Fin 4) (h : Fin 16) : Vec F S1x1x128x128 .f32 := View.ld x6 (stRect s h)

/-- The rows of the pair `p` of samples of head `h`. -/
def rowsOf (p : Fin 2) (h : Fin 16) : FVec F S8x128 .f32 :=
  tileOut (8 * p.val) (128 * h.val) (slice8 _ h (by omega)) (k0_pay324 x0 x1 x2 x3 x4 x5 x6) (k0_pay325 x0 x1 x2 x3 x4 x5 x6) (k0_pay326 x0 x1 x2 x3 x4 x5 x6)
    (k0_pay331 x0 x1 x2 x3 x4 x5 x6) (k0_pay339 x0 x1 x2 x3 x4 x5 x6) (k0_pay334 x0 x1 x2 x3 x4 x5 x6)
    (entering x6 ⟨2 * p.val, by omega⟩ h) (entering x6 ⟨2 * p.val + 1, by omega⟩ h)

/-- The states of the pair `p` of samples of head `h` after their rows. -/
def statesOf (p : Fin 2) (h : Fin 16) : FVec F S128x256 .f32 :=
  tileState (8 * p.val) (128 * h.val) (slice8 _ h (by omega)) (k0_pay327 x0 x1 x2 x3 x4 x5 x6) (k0_pay328 x0 x1 x2 x3 x4 x5 x6) (k0_pay329 x0 x1 x2 x3 x4 x5 x6)
    (k0_pay330 x0 x1 x2 x3 x4 x5 x6) (k0_pay331 x0 x1 x2 x3 x4 x5 x6) (k0_pay334 x0 x1 x2 x3 x4 x5 x6) (k0_pay340 x0 x1 x2 x3 x4 x5 x6) (k0_pay341 x0 x1 x2 x3 x4 x5 x6)
    (entering x6 ⟨2 * p.val, by omega⟩ h) (entering x6 ⟨2 * p.val + 1, by omega⟩ h)

/-- What is stored of head `h`'s rows. -/
def storedRows (h : Fin 16) : FVec F S16x128 .bf16 :=
  tileGate (128 * h.val) (slice16 h) (slice1 h) (k0_pay333 x0 x1 x2 x3 x4 x5 x6) (View.ld x5 r0_1)
    (rowsOf x0 x1 x2 x3 x4 x5 x6 0 h) (rowsOf x0 x1 x2 x3 x4 x5 x6 1 h)

/-- What is stored of sample `s`'s state of head `h`. -/
def storedState (s : Fin 4) (h : Fin 16) : FVec F S1x1x128x128 .f32 :=
  if s.val % 2 = 0 then left (statesOf x0 x1 x2 x3 x4 x5 x6 ⟨s.val / 2, by omega⟩ h) else right (statesOf x0 x1 x2 x3 x4 x5 x6 ⟨s.val / 2, by omega⟩ h)

/-- The block of rows is made of the heads' rows. -/
theorem out7_eq : out0_7 x0 x1 x2 x3 x4 x5 x6
    = View.canon (List.ofFn fun k : Fin 16 => (⟨rowRect ⟨15 - k.val, by omega⟩, storedRows x0 x1 x2 x3 x4 x5 x6 ⟨15 - k.val, by omega⟩⟩ : View.Piece (Elt F) S16x2048 .bf16)) := rfl

/-- The block of states is made of the samples' heads' states. -/
theorem out8_eq : out0_8 x0 x1 x2 x3 x4 x5 x6
    = View.canon (List.ofFn fun k : Fin 64 => (⟨stRect ⟨(63 - k.val) % 4, by omega⟩ ⟨(63 - k.val) / 4, by omega⟩,
        storedState x0 x1 x2 x3 x4 x5 x6 ⟨(63 - k.val) % 4, by omega⟩ ⟨(63 - k.val) / 4, by omega⟩⟩ : View.Piece (Elt F) S4x16x128x128 .f32)) := rfl

end

end Cert.SampleIdeal.Value

end
-- ==== Proof.SampleSpec.lean ====
/-
  The recurrence of one head of one sample: four rows that start from a given state, written over the extended reals.
-/
module

public import proofs.«01_k».proof.Proof.Spec

@[expose] public section

set_option maxRecDepth 16384

noncomputable section

open Idealize.ShloMosaic

namespace Cert.Recurrence

section
variable (lb : Fin 128 → EReal) (Q G V : ℕ → Fin 128 → EReal) (S : Fin 128 → Fin 128 → EReal)

/-- The sum of the log gates of a sample's rows up to row `i`. -/
def scum (i : ℕ) (d : Fin 128) : EReal := ∑ j ∈ Finset.range (i + 1), lf lb G j d

/-- A sample's state after its four rows. -/
def snew (d e : Fin 128) : EReal :=
  Ideal.exp (scum lb G 3 d) * S d e + ∑ j : Fin 4, key lb G j d * Ideal.exp (scum lb G 3 d - scum lb G j d) * V j e

/-- The weight of row `j` in row `i` of a sample. -/
def sscore (i j : Fin 4) : EReal :=
  if j ≤ i then ∑ d : Fin 128, Q i d * Ideal.exp (scum lb G i d - scum lb G 1 d) * (key lb G j d * Ideal.exp (scum lb G 1 d - scum lb G j d)) else 0

/-- Row `i` of what a sample reads out. -/
def sout (i : Fin 4) (e : Fin 128) : EReal :=
  (∑ j : Fin 4, V j e * sscore lb Q G i j) + ∑ d : Fin 128, S d e * (Q i d * Ideal.exp (scum lb G i d))

end

/-- The sums of log gates are real numbers. -/
theorem scum_real {lb : Fin 128 → EReal} (G : ℕ → Fin 128 → EReal) (h : ∀ d, ∃ r : ℝ, 0 < r ∧ lb d = r) (i : ℕ) (d : Fin 128) :
    ∃ r : ℝ, scum lb G i d = r := by
  refine Finset.sum_induction (fun j => lf lb G j d) (fun x => ∃ r : ℝ, x = r) ?_ ⟨0, rfl⟩ fun j _ => lf_real G h _ d
  rintro _ _ ⟨a, rfl⟩ ⟨b, rfl⟩
  exact ⟨a + b, (EReal.coe_add a b).symm⟩

section
variable {lb : Fin 128 → EReal} (Q G V : ℕ → Fin 128 → EReal) (S : Fin 128 → Fin 128 → EReal)

/-- The state's update with each key decayed first to the second row and from there to the last. -/
theorem snew_mid (h : ∀ d, ∃ r : ℝ, 0 < r ∧ lb d = r) (d e : Fin 128) :
    Ideal.exp (scum lb G 3 d) * S d e
      + ∑ j : Fin 4, key lb G j d * Ideal.exp (scum lb G 1 d - scum lb G j d) * Ideal.exp (scum lb G 3 d - scum lb G 1 d) * V j e
      = snew lb G V S d e := by
  rw [snew]
  congr 1
  refine Finset.sum_congr rfl fun j _ => ?_
  rw [mul_assoc (key _ _ _ _), exp_sub_mul_exp (scum_real G h 1 d) (scum_real G h j d) (scum_real G h 3 d)]

/-- A row of the output with the query decayed first relative to the second row. -/
theorem sout_mid (h : ∀ d, ∃ r : ℝ, 0 < r ∧ lb d = r) (i : Fin 4) (e : Fin 128) :
    (∑ j : Fin 4, sscore lb Q G i j * V j e)
      + ∑ d : Fin 128, Q i d * Ideal.exp (scum lb G i d - scum lb G 1 d) * Ideal.exp (scum lb G 1 d) * S d e
      = sout lb Q G V S i e := by
  rw [sout]
  congr 1
  · exact Finset.sum_congr rfl fun j _ => mul_comm _ _
  · refine Finset.sum_congr rfl fun d _ => ?_
    rw [mul_assoc (Q _ _), exp_sub_mul_exp' (scum_real G h 1 d) (scum_real G h i d), mul_comm]

end

/-- Row `t` of sample `b` in head `h`'s columns of the projections' segment `s`. -/
def swin (proj : (⟨2, ![8704, 14336]⟩ : Shape).Idx → EReal) (s : Fin 7) (b : Fin 128) (h : Fin 16) (t : ℕ) (d : Fin 128) : EReal :=
  if ht : t < 4 then
    proj (ix2 (⟨8192 + (4 * b.val + t), by have := b.isLt; omega⟩ : Fin 8704)
      (⟨128 * (16 * s.val + h.val) + d.val, by have := s.isLt; have := h.isLt; have := d.isLt; omega⟩ : Fin 14336))
  else 0

/-- Head `h`'s channels of a row vector. -/
def slane (x : (⟨2, ![1, 2048]⟩ : Shape).Idx → EReal) (h : Fin 16) (d : Fin 128) : EReal :=
  x (ix2 (0 : Fin 1) (⟨128 * h.val + d.val, by have := h.isLt; have := d.isLt; omega⟩ : Fin 2048))

/-- One sample's state of one head. -/
def sstate (st : (⟨4, ![128, 16, 128, 128]⟩ : Shape).Idx → EReal) (b : Fin 128) (h : Fin 16) (d e : Fin 128) : EReal := st (ix4 b h d e)

/-- An entry of the projections as a head's row and channel. -/
theorem swin_of (proj : (⟨2, ![8704, 14336]⟩ : Shape).Idx → EReal) (s : Fin 7) (b : Fin 128) (h : Fin 16) (t : ℕ) (d : Fin 128) (ht : t < 4)
    (r : Fin 8704) (c : Fin 14336) (hr : r.val = 8192 + (4 * b.val + t)) (hc : c.val = 128 * (16 * s.val + h.val) + d.val) :
    proj (ix2 r c) = swin proj s b h t d := by
  unfold swin
  rw [dif_pos ht]
  exact congrArg₂ (fun r c => proj (ix2 r c)) (Fin.ext hr) (Fin.ext hc)

/-- An entry of a row vector as a head's channel. -/
theorem slane_of (x : (⟨2, ![1, 2048]⟩ : Shape).Idx → EReal) (h : Fin 16) (d : Fin 128) (c : Fin 2048) (hc : c.val = 128 * h.val + d.val) :
    x (ix2 (0 : Fin 1) c) = slane x h d := by
  unfold slane
  exact congrArg (fun c => x (ix2 (0 : Fin 1) c)) (Fin.ext hc)

variable (proj : (⟨2, ![8704, 14336]⟩ : Shape).Idx → EReal) (lb ng : (⟨2, ![1, 2048]⟩ : Shape).Idx → EReal) (st : (⟨4, ![128, 16, 128, 128]⟩ : Shape).Idx → EReal)

/-- The gated output at a sample, row, head and channel. -/
def srowsAt (b : Fin 128) (h : Fin 16) (t : Fin 4) (e : Fin 128) : EReal :=
  gated (sout (slane lb h) (swin proj 3 b h) (swin proj 4 b h) (swin proj 5 b h) (sstate st b h) t) (slane ng h) (swin proj 6 b h t e) e

/-- The first result. -/
def soutRows (y : (⟨2, ![512, 2048]⟩ : Shape).Idx) : EReal :=
  srowsAt proj lb ng st ⟨(y 0).val / 4, by have : (y 0).val < 512 := (y 0).isLt; omega⟩
    ⟨(y 1).val / 128, by have : (y 1).val < 2048 := (y 1).isLt; omega⟩ ⟨(y 0).val % 4, Nat.mod_lt _ (by omega)⟩ ⟨(y 1).val % 128, Nat.mod_lt _ (by omega)⟩

/-- The first result at a row and a column, by sample, row, head and channel. -/
theorem soutRows_at (y : (⟨2, ![512, 2048]⟩ : Shape).Idx) (b : Fin 128) (h : Fin 16) (t : Fin 4) (e : Fin 128)
    (h0 : (y 0).val = 4 * b.val + t.val) (h1 : (y 1).val = 128 * h.val + e.val) :
    soutRows proj lb ng st y = srowsAt proj lb ng st b h t e := by
  have ht := t.isLt
  have he := e.isLt
  unfold soutRows
  congr 1
  · exact Fin.ext (by show (y 0).val / 4 = b.val; omega)
  · exact Fin.ext (by show (y 1).val / 128 = h.val; omega)
  · exact Fin.ext (by show (y 0).val % 4 = t.val; omega)
  · exact Fin.ext (by show (y 1).val % 128 = e.val; omega)

/-- The second result: every sample's state after its rows. -/
def sfinal (y : (⟨4, ![128, 16, 128, 128]⟩ : Shape).Idx) : EReal :=
  snew (slane lb (y 1)) (swin proj 4 (y 0) (y 1)) (swin proj 5 (y 0) (y 1)) (sstate st (y 0) (y 1)) (y 2) (y 3)

theorem sfinal_at (b : Fin 128) (h : Fin 16) (d e : Fin 128) :
    sfinal proj lb st (ix4 b h d e) = snew (slane lb h) (swin proj 4 b h) (swin proj 5 b h) (sstate st b h) d e := rfl

end Cert.Recurrence

end
-- ==== Proof.SampleValue.lean ====
/-
  The kernel's block of four samples, read at an index: the gates, their sums and the decayed queries and keys.
-/
module

public import proofs.«01_k».proof.Proof.SamplePieces
public import proofs.«01_k».proof.Proof.SampleSpec

@[expose] public section

set_option maxRecDepth 16384

noncomputable section

open Idealize.ShloMosaic Idealize.ShloMosaic.TcCoe Idealize.SL.Sem

namespace Cert.SampleIdeal.Value

open Cert.SampleIdeal Cert.SampleIdeal.Gen Cert.Recurrence

/-- One doubling of the running sums: add the row `w` rows above, where it lies in the same sample. -/
def dbl {F : FTy → Type} [FloatOps F] (w : BitVec 32) (x : FVec F S16x2048 .f32) : FVec F S16x2048 .f32 :=
  addf x (select (cmpi .sge k0_pay7 (broadcast S16x2048 w)) (dynamicRotate 0 w none x rotates_S16x2048_d0)
    (broadcast S16x2048 (Scalar.ofBits .f32 0x00000000#32)))

/-- A row's place in its sample. -/
theorem pos_at (r : Fin 16) (c : Fin 2048) : k0_pay7 (ix2 r c) = BitVec.ofNat 32 (r.val % 4) := by
  pointwise [k0_pay7]
  clear c
  revert r
  decide +kernel

/-- A row's sample in its block. -/
theorem samp_at (r : Fin 16) (c : Fin 2048) : k0_pay10 (iota .tc S16x2048 32 [0] iota_S16x2048_d0_w32) (ix2 r c) = BitVec.ofNat 32 (r.val / 4) := by
  pointwise [k0_pay10]
  clear c
  revert r
  decide +kernel

/-- The comparison of two small words is the numbers'. -/
theorem sge_small : ∀ a b : Fin 4, IntOp.cmpi CmpIPredicate.sge (BitVec.ofNat 32 a.val) (BitVec.ofNat 32 b.val) = if b.val ≤ a.val then 1#1 else 0#1 := by
  decide +kernel

/-- A doubling at an index. -/
theorem dbl_at (x : FVec Ideal S16x2048 .f32) (w : ℕ) (hw : w < 4) (r : Fin 16) (c : Fin 2048) :
    dbl (BitVec.ofNat 32 w) x (ix2 r c) = x (ix2 r c) + if h : w ≤ r.val % 4 then x (ix2 ⟨r.val - w, by omega⟩ c) else 0 := by
  have ht : (BitVec.ofNat 32 w).toNat = w := by rw [BitVec.toNat_ofNat, Nat.mod_eq_of_lt (by omega)]
  pointwise [dbl, pos_at]
  rw [sge_small ⟨r.val % 4, Nat.mod_lt _ (by omega)⟩ ⟨w, hw⟩]
  by_cases h : w ≤ r.val % 4
  · rw [if_pos h, dif_pos h]
    congr 1
    refine (congrArg x ((ix2_inj ..).2 ⟨Fin.ext ?_, rfl⟩) : x (ix2 _ c) = x (ix2 _ c))
    simp only [ht]
    omega
  · rw [if_neg h, dif_neg h]
    rfl

/-- Running sums of `w` rows, doubled. -/
theorem dbl_window (f : ℕ → ℕ → Fin 2048 → EReal) (x : FVec Ideal S16x2048 .f32) (w : ℕ) (h0 : 0 < w) (hw : w < 4)
    (hx : ∀ (r : Fin 16) (c : Fin 2048), x (ix2 r c) = ∑ j ∈ Finset.Ico (r.val % 4 + 1 - w) (r.val % 4 + 1), f (r.val / 4) j c)
    (r : Fin 16) (c : Fin 2048) :
    dbl (BitVec.ofNat 32 w) x (ix2 r c)
      = ∑ j ∈ Finset.Ico (r.val % 4 + 1 - 2 * w) (r.val % 4 + 1), f (r.val / 4) j c := by
  rw [dbl_at x w hw, ← sum_window _ _ w h0, hx]
  congr 1
  by_cases h : w ≤ r.val % 4
  · rw [dif_pos h, if_pos h, hx]
    simp only
    rw [show (r.val - w) % 4 = r.val % 4 - w by omega, show (r.val - w) / 4 = r.val / 4 by omega]
  · rw [dif_neg h, if_neg h]

/-- Two doublings of the log gates are the running sums of whole samples. -/
theorem run_sums (f : ℕ → ℕ → Fin 2048 → EReal) (x : FVec Ideal S16x2048 .f32)
    (hx : ∀ (r : Fin 16) (c : Fin 2048), x (ix2 r c) = f (r.val / 4) (r.val % 4) c) (r : Fin 16) (c : Fin 2048) :
    k0_pay9 x k0_pay7 k0_pay8 (ix2 r c) = ∑ j ∈ Finset.range (r.val % 4 + 1), f (r.val / 4) j c := by
  have e : k0_pay9 x k0_pay7 k0_pay8 = dbl 2#32 (dbl 1#32 x) := rfl
  have h1 : ∀ (r : Fin 16) (c : Fin 2048), x (ix2 r c) = ∑ j ∈ Finset.Ico (r.val % 4 + 1 - 1) (r.val % 4 + 1), f (r.val / 4) j c := by
    intro r c
    rw [hx, Nat.add_sub_cancel, Nat.Ico_succ_singleton, Finset.sum_singleton]
  have h := dbl_window f _ 2 (by omega) (by omega) (dbl_window f x 1 (by omega) (by omega) h1) r c
  rw [e]
  refine h.trans ?_
  rw [show r.val % 4 + 1 - 2 * 2 = 0 by omega, Finset.range_eq_Ico]

/-- A choice among four by a row's sample. -/
theorem pick_four {α : Type} (f : ℕ → α) (p : ℕ) (hp : p < 4) :
    Scalar.select (IntOp.cmpi .eq (BitVec.ofNat 32 p) 3#32) (f 3) (Scalar.select (IntOp.cmpi .eq (BitVec.ofNat 32 p) 2#32) (f 2)
      (Scalar.select (IntOp.cmpi .eq (BitVec.ofNat 32 p) 1#32) (f 1) (f 0))) = f p := by
  interval_cases p <;> rfl

/-- The sum at the second row of a row's sample. -/
theorem mid_at (f : ℕ → EReal) (B : FVec Ideal S16x2048 .f32) (I : IVec S16x2048 32) (M : FVec Ideal S16x2048 .f32) (r : Fin 16) (c : Fin 2048)
    (hI : I (ix2 r c) = BitVec.ofNat 32 (r.val / 4)) (hM : M (ix2 r c) = Scalar.select (IntOp.cmpi .eq (BitVec.ofNat 32 (r.val / 4)) 1#32) (f 1) (f 0))
    (h2 : B (ix2 9 c) = f 2) (h3 : B (ix2 13 c) = f 3) :
    k0_pay14 B I M (ix2 r c) = f (r.val / 4) := by
  pointwise [k0_pay14]
  rw [hI, hM]
  refine Eq.trans ?_ (pick_four f _ (by omega))
  rw [← h2, ← h3]

section
variable (x0 x1 x2 x3 : Vec Ideal S16x2048 .bf16) (x4 x5 : Vec Ideal S1x2048 .f32) (x6 : Vec Ideal S4x16x128x128 .f32)
variable (L : Fin 2048 → EReal) (Q G V : ℕ → ℕ → Fin 2048 → EReal)

/-- The log gate of row `j` of sample `s` of the block at a column. -/
def lfc (s j : ℕ) (c : Fin 2048) : EReal := lf (fun _ => L c) (fun t _ => G s t c) j 0

/-- The sum of the log gates up to row `i`. -/
def cumc (s i : ℕ) (c : Fin 2048) : EReal := ∑ j ∈ Finset.range (i + 1), lfc L G s j c

/-- The block's vectors are the columns of four samples. -/
structure Cols : Prop where
  lb : ∀ c, x4 (ix2 0 c) = L c
  q : ∀ (r : Fin 16) c, x0 (ix2 r c) = Q (r.val / 4) (r.val % 4) c
  g : ∀ (r : Fin 16) c, x1 (ix2 r c) = G (r.val / 4) (r.val % 4) c
  v : ∀ (r : Fin 16) c, x2 (ix2 r c) = V (r.val / 4) (r.val % 4) c

variable {x0 x1 x2 x4 L Q G V} (H : Cols x0 x1 x2 x4 L Q G V)
include H

theorem lf_at (r : Fin 16) (c : Fin 2048) : k0_pay317 (F := Ideal) x0 x1 x2 x3 x4 x5 x6 (ix2 r c) = lfc L G (r.val / 4) (r.val % 4) c := by
  unfold k0_pay317
  pointwise [k0_pay5, k0_pay4, k0_pay3]
  rw [H.lb, H.g]
  simp only [lfc, lf, sg, zero_sub]

theorem sum_at (r : Fin 16) (c : Fin 2048) : k0_pay321 (F := Ideal) x0 x1 x2 x3 x4 x5 x6 (ix2 r c) = cumc L G (r.val / 4) (r.val % 4) c :=
  run_sums (lfc L G) _ (lf_at x3 x5 x6 H) r c

theorem midsum_at (r : Fin 16) (c : Fin 2048) :
    k0_pay14 (F := Ideal) (k0_pay321 x0 x1 x2 x3 x4 x5 x6) (k0_pay322 x0 x1 x2 x3 x4 x5 x6) (k0_pay323 x0 x1 x2 x3 x4 x5 x6) (ix2 r c) = cumc L G (r.val / 4) 1 c := by
  refine mid_at (fun s => cumc L G s 1 c) _ _ _ r c (samp_at r c) ?_ (sum_at x3 x5 x6 H 9 c) (sum_at x3 x5 x6 H 13 c)
  show k0_pay12 (F := Ideal) (k0_pay317 x0 x1 x2 x3 x4 x5 x6) (iota .tc S16x2048 32 [0] iota_S16x2048_d0_w32) k0_pay7 k0_pay8 (ix2 r c) = _
  have h0 : k0_pay9 (F := Ideal) (k0_pay317 x0 x1 x2 x3 x4 x5 x6) k0_pay7 k0_pay8 (ix2 1 c) = _ := sum_at x3 x5 x6 H 1 c
  have h1 : k0_pay9 (F := Ideal) (k0_pay317 x0 x1 x2 x3 x4 x5 x6) k0_pay7 k0_pay8 (ix2 5 c) = _ := sum_at x3 x5 x6 H 5 c
  have hs := samp_at r c
  unfold k0_pay12
  generalize k0_pay9 (F := Ideal) (k0_pay317 x0 x1 x2 x3 x4 x5 x6) k0_pay7 k0_pay8 = B at h0 h1 ⊢
  generalize k0_pay10 (iota .tc S16x2048 32 [0] iota_S16x2048_d0_w32) = I at hs ⊢
  pointwise
  rw [hs]
  exact congrArg₂ (Scalar.select _) h1 h0

/-- The key of row `j` of sample `s` of the block at a column. -/
def keyc (L : Fin 2048 → EReal) (G : ℕ → ℕ → Fin 2048 → EReal) (s j : ℕ) (c : Fin 2048) : EReal := key (fun _ => L c) (fun t _ => G s t c) j 0

theorem key_at (r : Fin 16) (c : Fin 2048) : k0_pay318 (F := Ideal) x0 x1 x2 x3 x4 x5 x6 (ix2 r c) = keyc L G (r.val / 4) (r.val % 4) c := by
  unfold k0_pay318
  pointwise [k0_pay6, k0_pay4, k0_pay3]
  rw [H.lb, H.g, keyc, key, ← one_sub_sg, zero_sub]
  rfl

theorem qe_at (r : Fin 16) (c : Fin 2048) : k0_pay324 (F := Ideal) x0 x1 x2 x3 x4 x5 x6 (ix2 r c)
    = Q (r.val / 4) (r.val % 4) c * Ideal.exp (cumc L G (r.val / 4) (r.val % 4) c - cumc L G (r.val / 4) 1 c) := by
  unfold k0_pay324 k0_pay316
  pointwise [k0_pay15, k0_pay2]
  rw [midsum_at x3 x5 x6 H, sum_at x3 x5 x6 H, H.q]

theorem ke_at (r : Fin 16) (c : Fin 2048) : k0_pay325 (F := Ideal) x0 x1 x2 x3 x4 x5 x6 (ix2 r c)
    = keyc L G (r.val / 4) (r.val % 4) c * Ideal.exp (cumc L G (r.val / 4) 1 c - cumc L G (r.val / 4) (r.val % 4) c) := by
  unfold k0_pay325
  pointwise [k0_pay16]
  rw [midsum_at x3 x5 x6 H, sum_at x3 x5 x6 H, key_at x3 x5 x6 H]

theorem qb_at (r : Fin 16) (c : Fin 2048) : k0_pay326 (F := Ideal) x0 x1 x2 x3 x4 x5 x6 (ix2 r c)
    = Q (r.val / 4) (r.val % 4) c * Ideal.exp (cumc L G (r.val / 4) (r.val % 4) c - cumc L G (r.val / 4) 1 c) * Ideal.exp (cumc L G (r.val / 4) 1 c) := by
  unfold k0_pay326 k0_pay316
  pointwise [k0_pay17, k0_pay15, k0_pay2]
  rw [midsum_at x3 x5 x6 H, sum_at x3 x5 x6 H, H.q]

theorem kd_at (r : Fin 16) (c : Fin 2048) : k0_pay327 (F := Ideal) x0 x1 x2 x3 x4 x5 x6 (ix2 r c)
    = keyc L G (r.val / 4) (r.val % 4) c * Ideal.exp (cumc L G (r.val / 4) 1 c - cumc L G (r.val / 4) (r.val % 4) c)
      * Ideal.exp (cumc L G (r.val / 4) 3 c - cumc L G (r.val / 4) 1 c) := by
  have hm := midsum_at x3 x5 x6 H r c
  have hs := sum_at x3 x5 x6 H
  have hk := key_at x3 x5 x6 H r c
  have hI : k0_pay322 (F := Ideal) x0 x1 x2 x3 x4 x5 x6 (ix2 r c) = _ := samp_at r c
  have h3 : k0_pay11 (F := Ideal) (k0_pay317 x0 x1 x2 x3 x4 x5 x6) (k0_pay319 x0 x1 x2 x3 x4 x5 x6) (k0_pay320 x0 x1 x2 x3 x4 x5 x6) (ix2 0 c) = cumc L G 0 3 c := by
    show k0_pay11 (F := Ideal) (k0_pay317 x0 x1 x2 x3 x4 x5 x6) k0_pay7 k0_pay8 (ix2 0 c) = _
    have h := hs 3 c
    change k0_pay9 (F := Ideal) (k0_pay317 x0 x1 x2 x3 x4 x5 x6) k0_pay7 k0_pay8 (ix2 3 c) = _ at h
    unfold k0_pay11
    generalize k0_pay9 (F := Ideal) (k0_pay317 x0 x1 x2 x3 x4 x5 x6) k0_pay7 k0_pay8 = B at h ⊢
    pointwise
    exact h
  unfold k0_pay327
  generalize k0_pay11 (F := Ideal) (k0_pay317 x0 x1 x2 x3 x4 x5 x6) (k0_pay319 x0 x1 x2 x3 x4 x5 x6) (k0_pay320 x0 x1 x2 x3 x4 x5 x6) = Z at h3 ⊢
  generalize k0_pay321 (F := Ideal) x0 x1 x2 x3 x4 x5 x6 = B at hm hs ⊢
  generalize k0_pay322 (F := Ideal) x0 x1 x2 x3 x4 x5 x6 = I at hm hI ⊢
  generalize k0_pay323 (F := Ideal) x0 x1 x2 x3 x4 x5 x6 = M at hm ⊢
  pointwise [k0_pay18, k0_pay16, k0_pay13]
  rw [hm, hs, hk, hI, h3, hs 7 c, hs 11 c, hs 15 c]
  exact congrArg (fun x => _ * Ideal.exp (x - _)) (pick_four (fun s => cumc L G s 3 c) _ (by omega))

theorem v_at (r : Fin 16) (c : Fin 2048) : k0_pay331 (F := Ideal) x0 x1 x2 x3 x4 x5 x6 (ix2 r c) = V (r.val / 4) (r.val % 4) c := by
  unfold k0_pay331
  pointwise [k0_pay23]
  exact H.v r c

variable (hpos : ∀ c, ∃ r : ℝ, 0 < r ∧ L c = r)
include hpos

omit H in
theorem lfc_real (s j : ℕ) (c : Fin 2048) : ∃ r : ℝ, lfc L G s j c = r := lf_real _ (fun _ => hpos c) j 0

/-- The first part of the log gates is the whole. -/
theorem part0_at (r : Fin 16) (c : Fin 2048) : k0_pay328 (F := Ideal) x0 x1 x2 x3 x4 x5 x6 (ix2 r c) = lfc L G (r.val / 4) (r.val % 4) c := by
  unfold k0_pay328
  pointwise [k0_pay19]
  exact lf_at x3 x5 x6 H r c

/-- The second part of the log gates is zero. -/
theorem part1_at (r : Fin 16) (c : Fin 2048) : k0_pay329 (F := Ideal) x0 x1 x2 x3 x4 x5 x6 (ix2 r c) = 0 := by
  obtain ⟨a, ha⟩ := lfc_real hpos (G := G) (r.val / 4) (r.val % 4) c
  unfold k0_pay329
  pointwise [k0_pay21, k0_pay20, k0_pay19]
  rw [lf_at x3 x5 x6 H, ha, ← EReal.coe_sub, sub_self]
  rfl

/-- The third part of the log gates is zero. -/
theorem part2_at (r : Fin 16) (c : Fin 2048) : k0_pay330 (F := Ideal) x0 x1 x2 x3 x4 x5 x6 (ix2 r c) = 0 := by
  obtain ⟨a, ha⟩ := lfc_real hpos (G := G) (r.val / 4) (r.val % 4) c
  unfold k0_pay330
  pointwise [k0_pay22, k0_pay21, k0_pay20, k0_pay19]
  rw [lf_at x3 x5 x6 H, ha, ← EReal.coe_sub, sub_self, EReal.coe_zero, sub_zero]

end

/-- The rows of the pair's first sample. -/
theorem inA_at (i : Fin 8) (e : Fin 128) : k0_pay25 (ix2 i e) = if i.val < 4 then 1#1 else 0#1 := by
  pointwise [k0_pay25]
  clear e
  revert i
  decide +kernel

/-- The rows of the same sample that come no later. -/
theorem mask_at (x0 x1 x2 x3 : Vec Ideal S16x2048 .bf16) (x4 x5 : Vec Ideal S1x2048 .f32) (x6 : Vec Ideal S4x16x128x128 .f32) (i k : Fin 8) :
    k0_pay339 (F := Ideal) x0 x1 x2 x3 x4 x5 x6 (ix2 i k) = if k.val ≤ i.val ∧ k.val / 4 = i.val / 4 then 1#1 else 0#1 := by
  show k0_pay30 (iota .tc S8x8 32 [1] iota_S8x8_d1_w32) k0_pay26 k0_pay27 4#32 k0_pay28 k0_pay29 (Scalar.extui (Scalar.cmpi .sgt 4#32 0#32)) (Scalar.cmpi .slt 4#32 0#32) (ix2 i k) = _
  pointwise [k0_pay30, k0_pay26, k0_pay27, k0_pay28, k0_pay29]
  revert i k
  decide +kernel

/-- The number of a true bit is one. -/
theorem bit_one : (FloatOps.sitofp FTy.f32 (BitVec.setWidth 32 (1#1)) : Ideal .f32) = 1 := by
  show (((BitVec.setWidth 32 (1#1)).toInt : ℝ) : EReal) = 1
  rw [show (BitVec.setWidth 32 (1#1)).toInt = 1 by decide]
  norm_num

/-- The number of a false bit is zero. -/
theorem bit_zero : (FloatOps.sitofp FTy.f32 (BitVec.setWidth 32 (0#1)) : Ideal .f32) = 0 := by
  show (((BitVec.setWidth 32 (0#1)).toInt : ℝ) : EReal) = 0
  rw [show (BitVec.setWidth 32 (0#1)).toInt = 0 by decide]
  norm_num

/-- The first eight rows of the columns that pick a sample's rows. -/
theorem sel_at (r : Fin 32) (c : Fin 256) (a : ℕ) (hr : r.val < 8) (hc : c.val / 128 = a) :
    k0_pay32 (F := Ideal) k0_pay25 (ix2 r c) = if r.val / 4 = a then 1 else 0 := by
  have hI := inA_at
  unfold k0_pay32
  generalize k0_pay25 = I at hI ⊢
  pointwise
  rw [dif_pos hr]
  by_cases h' : c.val < 128
  · rw [dif_pos h', hI]
    by_cases h : r.val < 4
    · rw [if_pos h, bit_one, if_pos (by omega)]
    · rw [if_neg h, bit_zero, if_neg (by omega)]
  · rw [dif_neg h', hI]
    by_cases h : r.val < 4
    · rw [if_pos h, bit_one, if_neg (by omega)]
      show ((1 : ℝ) : EReal) - ((1 : ℝ) : EReal) = 0
      rw [← EReal.coe_sub, sub_self, EReal.coe_zero]
    · rw [if_neg h, bit_zero, if_pos (by omega), sub_zero]

/-- A sum whose terms vanish outside four positions. -/
theorem sum_quarter {N : ℕ} (a : ℕ) (ha : 4 * a + 4 ≤ N) (T : Fin N → EReal) (f : Fin 4 → EReal) (h1 : ∀ j : Fin 4, T ⟨4 * a + j.val, by omega⟩ = f j)
    (h0 : ∀ k : Fin N, k.val / 4 ≠ a → T k = 0) : ∑ k, T k = ∑ j, f j := by
  refine (Finset.sum_of_injOn (fun j : Fin 4 => (⟨4 * a + j.val, by omega⟩ : Fin N)) ?_ (fun _ _ => Finset.mem_coe.2 (Finset.mem_univ _)) ?_ fun j _ => (h1 j).symm).symm
  · intro i _ j _ h
    have := congrArg Fin.val h
    exact Fin.ext (by dsimp only at this; omega)
  · intro k _ hk
    refine h0 k fun hq => hk ⟨⟨k.val % 4, Nat.mod_lt _ (by omega)⟩, Finset.mem_coe.2 (Finset.mem_univ _), Fin.ext ?_⟩
    show 4 * a + k.val % 4 = k.val
    omega

end Cert.SampleIdeal.Value

end
-- ==== Proof.SampleHeads.lean ====
/-
  The kernel's block of four samples: each sample's rows and state of each head are the recurrence's.
-/
module

public import proofs.«01_k».proof.Proof.SampleValue

@[expose] public section

set_option maxRecDepth 16384

noncomputable section

open Idealize.ShloMosaic Idealize.ShloMosaic.TcCoe Idealize.SL.Sem

namespace Cert.SampleIdeal.Value

open Cert.SampleIdeal Cert.SampleIdeal.Gen Cert.Recurrence

/-- Head `h`'s column for its channel `d`. -/
def col (h : Fin 16) (d : Fin 128) : Fin 2048 := ⟨128 * h.val + d.val, by have := h.isLt; have := d.isLt; omega⟩

/-- Head `h`'s rows of sample `s`. -/
def headRows (X : ℕ → ℕ → Fin 2048 → EReal) (s : ℕ) (h : Fin 16) (t : ℕ) (d : Fin 128) : EReal := X s t (col h d)

/-- Head `h`'s channels. -/
def headLane (L : Fin 2048 → EReal) (h : Fin 16) (d : Fin 128) : EReal := L (col h d)

/-- The state sample `s` of the block enters head `h` with. -/
def headState (x6 : Vec Ideal S4x16x128x128 .f32) (s : Fin 4) (h : Fin 16) (d e : Fin 128) : EReal := x6 (ix4 s h d e)

theorem entering_at (x6 : Vec Ideal S4x16x128x128 .f32) (s : Fin 4) (h : Fin 16) (d e : Fin 128) : entering x6 s h (ix4 0 0 d e) = headState x6 s h d e := by
  unfold entering headState
  refine congrArg x6 (funext fun a => Fin.ext ?_)
  match a with
  | ⟨0, _⟩ => show s.val + 1 * 0 = s.val; omega
  | ⟨1, _⟩ => show h.val + 1 * 0 = h.val; omega
  | ⟨2, _⟩ => show 0 + 1 * d.val = d.val; omega
  | ⟨3, _⟩ => show 0 + 1 * e.val = e.val; omega

section
variable {x0 x1 x2 : Vec Ideal S16x2048 .bf16} (x3 : Vec Ideal S16x2048 .bf16) {x4 : Vec Ideal S1x2048 .f32} (x5 : Vec Ideal S1x2048 .f32) (x6 : Vec Ideal S4x16x128x128 .f32)
variable {L : Fin 2048 → EReal} {Q G V : ℕ → ℕ → Fin 2048 → EReal} (H : Cols x0 x1 x2 x4 L Q G V) (hpos : ∀ c, ∃ r : ℝ, 0 < r ∧ L c = r)
include H hpos

theorem rowsOf_at (p a : Fin 2) (h : Fin 16) (t : Fin 4) (s : Fin 4) (hs : s.val = 2 * p.val + a.val) (i : Fin 8) (hi : i.val = 4 * a.val + t.val) (e : Fin 128) :
    rowsOf x0 x1 x2 x3 x4 x5 x6 p h (ix2 i e)
      = sout (headLane L h) (headRows Q s h) (headRows G s h) (headRows V s h) (headState x6 s h) t e := by
  have hp := p.isLt
  have ha := a.isLt
  have ht := t.isLt
  have q1 : ∀ j : Fin 4, (8 * p.val + (4 * a.val + j.val)) / 4 = s.val := fun j => by omega
  have q2 : ∀ j : Fin 4, (8 * p.val + (4 * a.val + j.val)) % 4 = j.val := fun j => by omega
  have q3 : (8 * p.val + i.val) / 4 = s.val := by omega
  have q4 : (8 * p.val + i.val) % 4 = t.val := by omega
  rw [← sout_mid (lb := headLane L h) _ _ _ _ (fun d => hpos (col h d))]
  have hm := mask_at x0 x1 x2 x3 x4 x5 x6
  have hqe := qe_at x3 x5 x6 H
  have hke := ke_at x3 x5 x6 H
  have hqb := qb_at x3 x5 x6 H
  have hv := v_at x3 x5 x6 H
  have hA : ∀ (i : Fin 8) (e : Fin 128), k0_pay334 (F := Ideal) x0 x1 x2 x3 x4 x5 x6 (ix2 i e) = _ := inA_at
  unfold rowsOf tileOut pair
  generalize k0_pay324 (F := Ideal) x0 x1 x2 x3 x4 x5 x6 = X1 at hqe ⊢
  generalize k0_pay325 (F := Ideal) x0 x1 x2 x3 x4 x5 x6 = X2 at hke ⊢
  generalize k0_pay326 (F := Ideal) x0 x1 x2 x3 x4 x5 x6 = X3 at hqb ⊢
  generalize k0_pay331 (F := Ideal) x0 x1 x2 x3 x4 x5 x6 = X4 at hv ⊢
  generalize k0_pay339 (F := Ideal) x0 x1 x2 x3 x4 x5 x6 = X5 at hm ⊢
  generalize k0_pay334 (F := Ideal) x0 x1 x2 x3 x4 x5 x6 = X6 at hA ⊢
  pointwise
  refine congrArg₂ (· + ·) (sum_quarter a.val (by omega) _ _ (fun j => ?_) fun k hk => ?_) ?_
  · have hj := j.isLt
    rw [hm]
    unfold sscore
    by_cases hle : j ≤ t
    · have hle' : j.val ≤ t.val := hle
      rw [if_pos (by constructor <;> dsimp only <;> omega), if_pos hle]
      refine (if_pos rfl).trans ?_
      simp only [hqe, hke, hv, q1, q2, q3, q4]
      rfl
    · have hle' : ¬ j.val ≤ t.val := hle
      rw [if_neg (by dsimp only; omega), if_neg hle, zero_mul]
      exact if_neg (by decide)
  · rw [hm, if_neg (by omega)]
    exact if_neg (by decide)
  · rw [hA]
    simp only [hqb, q3, q4, entering_at]
    obtain h0 | h0 : a.val = 0 ∨ a.val = 1 := by omega
    · rw [if_pos (by omega)]
      have e : (⟨2 * p.val, by omega⟩ : Fin 4) = s := Fin.ext (by dsimp only; omega)
      rw [e]
      exact if_pos rfl
    · rw [if_neg (by omega)]
      have e : (⟨2 * p.val + 1, by omega⟩ : Fin 4) = s := Fin.ext (by dsimp only; omega)
      rw [e]
      exact if_neg (by decide)

/-- The decay of a whole sample, from the columns that pick its rows. -/
theorem decay_at (p : Fin 2) (a : ℕ) (h : Fin 16) (s : Fin 4) (hs : s.val = 2 * p.val + a) (ha : a < 2) (T : Fin 32 → EReal) (d : Fin 128)
    (h1 : ∀ x : Fin 32, x.val < 8 → T x = lfc L G ((8 * p.val + x.val) / 4) ((8 * p.val + x.val) % 4) (col h d) * (if x.val / 4 = a then 1 else 0))
    (h0 : ∀ x : Fin 32, ¬ x.val < 8 → T x = 0) : ∑ x, T x = scum (headLane L h) (headRows G s h) 3 d := by
  have hp := p.isLt
  refine (sum_quarter a (by omega) _ (fun j => lf (headLane L h) (headRows G s h) j.val d) (fun j => ?_) fun x hx => ?_).trans ?_
  · have hj := j.isLt
    refine (h1 _ (by dsimp only; omega)).trans ?_
    rw [if_pos (by dsimp only; omega), mul_one]
    dsimp only
    rw [show (8 * p.val + (4 * a + j.val)) / 4 = s.val by omega, show (8 * p.val + (4 * a + j.val)) % 4 = j.val by omega]
    rfl
  · by_cases h8 : x.val < 8
    · rw [h1 x h8, if_neg hx, mul_zero]
    · exact h0 x h8
  · exact Fin.sum_univ_eq_sum_range (fun j => lf (headLane L h) (headRows G s h) j d) 4

theorem statesOf_at (p : Fin 2) (h : Fin 16) (s : Fin 4) (d e : Fin 128) :
    (s.val = 2 * p.val → left (statesOf x0 x1 x2 x3 x4 x5 x6 p h) (ix4 0 0 d e) = snew (headLane L h) (headRows G s h) (headRows V s h) (headState x6 s h) d e)
    ∧ (s.val = 2 * p.val + 1 → right (statesOf x0 x1 x2 x3 x4 x5 x6 p h) (ix4 0 0 d e) = snew (headLane L h) (headRows G s h) (headRows V s h) (headState x6 s h) d e) := by
  have hp := p.isLt
  rw [← snew_mid (lb := headLane L h) _ _ _ (fun d => hpos (col h d))]
  have hkd := kd_at x3 x5 x6 H
  have h0 := part0_at x3 x5 x6 H hpos
  have h1 := part1_at x3 x5 x6 H hpos
  have h2 := part2_at x3 x5 x6 H hpos
  have hv := v_at x3 x5 x6 H
  have hA : ∀ (i : Fin 8) (e : Fin 128), k0_pay334 (F := Ideal) x0 x1 x2 x3 x4 x5 x6 (ix2 i e) = _ := inA_at
  have hz : ∀ (i : Fin 8) (e : Fin 128), k0_pay340 (F := Ideal) x0 x1 x2 x3 x4 x5 x6 (ix2 i e) = 0 := fun i e => by
    unfold k0_pay340
    pointwise [k0_pay31]
  have hsel : ∀ (r : Fin 32) (c : Fin 256) (a : ℕ), r.val < 8 → c.val / 128 = a → k0_pay341 (F := Ideal) x0 x1 x2 x3 x4 x5 x6 (ix2 r c) = _ := sel_at
  unfold statesOf
  generalize k0_pay327 (F := Ideal) x0 x1 x2 x3 x4 x5 x6 = X1 at hkd ⊢
  generalize k0_pay328 (F := Ideal) x0 x1 x2 x3 x4 x5 x6 = X2 at h0 ⊢
  generalize k0_pay329 (F := Ideal) x0 x1 x2 x3 x4 x5 x6 = X3 at h1 ⊢
  generalize k0_pay330 (F := Ideal) x0 x1 x2 x3 x4 x5 x6 = X4 at h2 ⊢
  generalize k0_pay331 (F := Ideal) x0 x1 x2 x3 x4 x5 x6 = X5 at hv ⊢
  generalize k0_pay334 (F := Ideal) x0 x1 x2 x3 x4 x5 x6 = X6 at hA ⊢
  generalize k0_pay340 (F := Ideal) x0 x1 x2 x3 x4 x5 x6 = X7 at hz ⊢
  generalize k0_pay341 (F := Ideal) x0 x1 x2 x3 x4 x5 x6 = X8 at hsel ⊢
  constructor
  · intro hs
    have es : (⟨2 * p.val, by omega⟩ : Fin 4) = s := Fin.ext (by dsimp only; omega)
    have q1 : ∀ j : Fin 4, (8 * p.val + (4 * 0 + j.val)) / 4 = s.val := fun j => by omega
    have q2 : ∀ j : Fin 4, (8 * p.val + (4 * 0 + j.val)) % 4 = j.val := fun j => by omega
    unfold left tileState pair
    pointwise
    rw [es, entering_at]
    refine congrArg₂ (· + ·) (congrArg₂ (· * ·) (congrArg Ideal.exp (decay_at H hpos p 0 h s (by omega) (by omega) _ d (fun x hx => ?_) fun x hx => ?_)) rfl)
      (sum_quarter 0 (by omega) _ _ (fun j => ?_) fun k hk => ?_)
    · rw [dif_pos hx, h0, hsel x _ 0 hx (by dsimp only; omega)]
      rfl
    · simp only [h1, h2, hz, dif_neg hx, dite_eq_ite, ite_self, zero_mul]
    · have hj := j.isLt
      rw [hA, if_pos (by dsimp only; omega)]
      refine (if_pos rfl).trans ?_
      simp only [hkd, hv, q1, q2]
      rfl
    · rw [hA, if_neg (by omega)]
      exact if_neg (by decide)
  · intro hs
    have es : (⟨2 * p.val + 1, by omega⟩ : Fin 4) = s := Fin.ext (by dsimp only; omega)
    have q1 : ∀ j : Fin 4, (8 * p.val + (4 * 1 + j.val)) / 4 = s.val := fun j => by omega
    have q2 : ∀ j : Fin 4, (8 * p.val + (4 * 1 + j.val)) % 4 = j.val := fun j => by omega
    unfold right tileState pair
    pointwise
    rw [es, entering_at]
    refine congrArg₂ (· + ·) (congrArg₂ (· * ·) (congrArg Ideal.exp (decay_at H hpos p 1 h s (by omega) (by omega) _ d (fun x hx => ?_) fun x hx => ?_)) rfl)
      (sum_quarter 1 (by omega) _ _ (fun j => ?_) fun k hk => ?_)
    · rw [dif_pos hx, h0, hsel x _ 1 hx (by dsimp only; omega)]
      rfl
    · simp only [h1, h2, hz, dif_neg hx, dite_eq_ite, ite_self, zero_mul]
    · have hj := j.isLt
      rw [hA, if_neg (by dsimp only; omega)]
      refine (if_neg (by decide)).trans ?_
      simp only [hkd, hv, q1, q2]
      rfl
    · have hk8 := k.isLt
      rw [hA, if_pos (by omega)]
      exact if_pos rfl

/-- A sample's stored state. -/
theorem storedState_at (s : Fin 4) (h : Fin 16) (d e : Fin 128) :
    storedState x0 x1 x2 x3 x4 x5 x6 s h (ix4 0 0 d e) = snew (headLane L h) (headRows G s h) (headRows V s h) (headState x6 s h) d e := by
  unfold storedState
  by_cases hs : s.val % 2 = 0
  · rw [if_pos hs]
    exact (statesOf_at x3 x5 x6 H hpos ⟨s.val / 2, by omega⟩ h s d e).1 (by dsimp only; omega)
  · rw [if_neg hs]
    exact (statesOf_at x3 x5 x6 H hpos ⟨s.val / 2, by omega⟩ h s d e).2 (by dsimp only; omega)

/-- A sample's stored row. -/
theorem storedRows_at (h : Fin 16) (s t : Fin 4) (r : Fin 16) (hr : r.val = 4 * s.val + t.val) (e : Fin 128) :
    storedRows x0 x1 x2 x3 x4 x5 x6 h (ix2 r e)
      = gated (sout (headLane L h) (headRows Q s h) (headRows G s h) (headRows V s h) (headState x6 s h) t)
          (fun d => x5 (ix2 0 (col h d))) (x3 (ix2 r (col h e))) e := by
  have hs := s.isLt
  have ht := t.isLt
  have ha : ∀ (hr8 : r.val < 8) (x : Fin 128), rowsOf x0 x1 x2 x3 x4 x5 x6 0 h (ix2 ⟨r.val, hr8⟩ x) = _ := fun hr8 x =>
    rowsOf_at x3 x5 x6 H hpos 0 ⟨s.val % 2, by omega⟩ h t s (by show s.val = 2 * 0 + s.val % 2; omega) ⟨r.val, hr8⟩ (by show r.val = 4 * (s.val % 2) + t.val; omega) x
  have hb : ∀ (hr8 : ¬ r.val < 8) (x : Fin 128), rowsOf x0 x1 x2 x3 x4 x5 x6 1 h (ix2 ⟨r.val - 8, by omega⟩ x) = _ := fun hr8 x =>
    rowsOf_at x3 x5 x6 H hpos 1 ⟨s.val % 2, by omega⟩ h t s (by show s.val = 2 * 1 + s.val % 2; omega) ⟨r.val - 8, by omega⟩ (by show r.val - 8 = 4 * (s.val % 2) + t.val; omega) x
  unfold storedRows k0_pay333
  generalize rowsOf x0 x1 x2 x3 x4 x5 x6 0 h = A at ha ⊢
  generalize rowsOf x0 x1 x2 x3 x4 x5 x6 1 h = B at hb ⊢
  unfold tileGate
  pointwise [k0_pay24]
  by_cases hr8 : r.val < 8
  · simp only [dif_pos hr8, ha hr8, zero_sub]
    rfl
  · simp only [dif_neg hr8, hb hr8, zero_sub]
    rfl

end

end Cert.SampleIdeal.Value

end
-- ==== Proof.SampleArrays.lean ====
/-
  The samples' kernel leaves the recurrence's gated rows and every sample's new state.
-/
module

public import proofs.«01_k».proof.Proof.SampleHeads
public import Idealize.ShloMosaic.Lib.Pipeline.ValueKit

@[expose] public section

set_option maxRecDepth 16384

noncomputable section

open Idealize.ShloMosaic Idealize.ShloMosaic.TcCoe Idealize.SL.Sem

namespace Cert.SampleIdeal.Value

open Cert.SampleIdeal Cert.SampleIdeal.Gen Cert.Recurrence

variable (m : (ℓ : Loc nD τ sig) → Buf (Elt Ideal) ℓ) (ρ : Dev nD → PrngReg)

/-- The projections at a device. -/
abbrev sproj (c : Dev nD) : Vec Ideal S8704x14336 .bf16 := m ((c.tc : Thread nD τ).loc main_arg0)
/-- The floor of the forget gate at a device. -/
abbrev sfloor (c : Dev nD) : Vec Ideal S1x2048 .f32 := m ((c.tc : Thread nD τ).loc main_arg1)
/-- The weights of the norm at a device. -/
abbrev sweights (c : Dev nD) : Vec Ideal S1x2048 .f32 := m ((c.tc : Thread nD τ).loc main_arg2)
/-- The samples' states at a device. -/
abbrev sstates (c : Dev nD) : Vec Ideal S128x16x128x128 .f32 := m ((c.tc : Thread nD τ).loc main_arg3)

/-- Row `t` of sample `s` of block `n`, at a column of the projections' segment `g`. -/
def segc (proj : Vec Ideal S8704x14336 .bf16) (g : Fin 7) (n : Fin 32) (s t : ℕ) (c : Fin 2048) : EReal :=
  if h : s < 4 then swin proj g ⟨4 * n.val + s, by omega⟩ ⟨c.val / 128, by omega⟩ t ⟨c.val % 128, Nat.mod_lt _ (by omega)⟩ else 0

/-- A head's rows of a sample of a block. -/
theorem segc_head (proj : Vec Ideal S8704x14336 .bf16) (g : Fin 7) (n : Fin 32) (s : Fin 4) (h : Fin 16) (b : Fin 128) (hb : b.val = 4 * n.val + s.val) :
    headRows (segc proj g n) s.val h = swin proj g b h := by
  funext t d
  have hh := h.isLt
  have hd := d.isLt
  unfold headRows segc
  rw [dif_pos s.isLt]
  have e1 : (⟨4 * n.val + s.val, by omega⟩ : Fin 128) = b := Fin.ext hb.symm
  have e2 : (⟨(col h d).val / 128, by have := (col h d).isLt; omega⟩ : Fin 16) = h := Fin.ext (by show (128 * h.val + d.val) / 128 = h.val; omega)
  have e3 : (⟨(col h d).val % 128, Nat.mod_lt _ (by omega)⟩ : Fin 128) = d := Fin.ext (by show (128 * h.val + d.val) % 128 = d.val; omega)
  rw [e1, e2, e3]

/-- An entry of the projections as a column of a block. -/
theorem segc_of (proj : Vec Ideal S8704x14336 .bf16) (g : Fin 7) (n : Fin 32) (r : Fin 16) (c : Fin 2048) (R : Fin 8704) (C : Fin 14336)
    (hR : R.val = 8192 + (16 * n.val + r.val)) (hC : C.val = 2048 * g.val + c.val) : proj (ix2 R C) = segc proj g n (r.val / 4) (r.val % 4) c := by
  have hr := r.isLt
  have hc := c.isLt
  unfold segc
  rw [dif_pos (by omega)]
  refine swin_of proj g _ _ _ _ (by omega) R C ?_ ?_
  · show R.val = 8192 + (4 * (4 * n.val + r.val / 4) + r.val % 4)
    omega
  · show C.val = 128 * (16 * g.val + c.val / 128) + c.val % 128
    omega

/-- Where the queries lie. -/
theorem pos0 : ∀ t : Fin cfg0.N, cc0_transform_0 (grid0.coords t) = ![512 + t.val, 3] := by
  decide +kernel

/-- Where the forget logits lie. -/
theorem pos1 : ∀ t : Fin cfg0.N, cc0_transform_1 (grid0.coords t) = ![512 + t.val, 4] := by
  decide +kernel

/-- Where the values lie. -/
theorem pos2 : ∀ t : Fin cfg0.N, cc0_transform_2 (grid0.coords t) = ![512 + t.val, 5] := by
  decide +kernel

/-- Where the gates lie. -/
theorem pos3 : ∀ t : Fin cfg0.N, cc0_transform_3 (grid0.coords t) = ![512 + t.val, 6] := by
  decide +kernel

/-- Where the floor of the forget gate lies. -/
theorem pos4 : ∀ t : Fin cfg0.N, cc0_transform_4 (grid0.coords t) = ![0, 0] := by
  decide +kernel

/-- Where the weights of the norm lie. -/
theorem pos5 : ∀ t : Fin cfg0.N, cc0_transform_5 (grid0.coords t) = ![0, 0] := by
  decide +kernel

/-- Where the entering states lie. -/
theorem pos6 : ∀ t : Fin cfg0.N, cc0_transform_6 (grid0.coords t) = ![t.val, 0, 0, 0] := by
  decide +kernel

/-- Where the rows lie. -/
theorem pos7 : ∀ t : Fin cfg0.N, cc0_transform_7 (grid0.coords t) = ![t.val, 0] := by
  decide +kernel

/-- Where the new states lie. -/
theorem pos8 : ∀ t : Fin cfg0.N, cc0_transform_8 (grid0.coords t) = ![t.val, 0, 0, 0] := by
  decide +kernel

/-- A point of the grid as a block's number. -/
def blockNo (t : Fin cfg0.N) : Fin 32 := ⟨t.val, t.isLt⟩

/-- The queries at an index. -/
theorem x0_at (c : Dev nD) (t : Fin cfg0.N) (r : Fin 16) (j : Fin 2048) :
    iblk (F := Ideal) m c 0 t (ix2 r j) = segc (sproj m c) 3 (blockNo t) (r.val / 4) (r.val % 4) j := by
  have ht : t.val < 32 := t.isLt
  rw [← segc_of (sproj m c) 3 (blockNo t) r j ⟨8192 + (16 * t.val + r.val), by omega⟩ ⟨2048 * 3 + j.val, by omega⟩ rfl rfl]
  unfold iblk
  refine (congrFun (V_main_arg0 m c) _).trans (congrArg (m ((c.tc : Thread nD τ).loc main_arg0)) (funext fun a => Fin.ext ?_))
  match a with
  | ⟨0, _⟩ =>
    show cc0_transform_0 (grid0.coords t) 0 * 16 + 1 * r.val = _
    rw [pos0]; show (512 + t.val) * 16 + 1 * r.val = 8192 + (16 * t.val + r.val); omega
  | ⟨1, _⟩ =>
    show cc0_transform_0 (grid0.coords t) 1 * 2048 + 1 * j.val = _
    rw [pos0]; show 3 * 2048 + 1 * j.val = 2048 * 3 + j.val; omega

/-- The forget logits at an index. -/
theorem x1_at (c : Dev nD) (t : Fin cfg0.N) (r : Fin 16) (j : Fin 2048) :
    iblk (F := Ideal) m c 1 t (ix2 r j) = segc (sproj m c) 4 (blockNo t) (r.val / 4) (r.val % 4) j := by
  have ht : t.val < 32 := t.isLt
  rw [← segc_of (sproj m c) 4 (blockNo t) r j ⟨8192 + (16 * t.val + r.val), by omega⟩ ⟨2048 * 4 + j.val, by omega⟩ rfl rfl]
  unfold iblk
  refine (congrFun (V_main_arg0 m c) _).trans (congrArg (m ((c.tc : Thread nD τ).loc main_arg0)) (funext fun a => Fin.ext ?_))
  match a with
  | ⟨0, _⟩ =>
    show cc0_transform_1 (grid0.coords t) 0 * 16 + 1 * r.val = _
    rw [pos1]; show (512 + t.val) * 16 + 1 * r.val = 8192 + (16 * t.val + r.val); omega
  | ⟨1, _⟩ =>
    show cc0_transform_1 (grid0.coords t) 1 * 2048 + 1 * j.val = _
    rw [pos1]; show 4 * 2048 + 1 * j.val = 2048 * 4 + j.val; omega

/-- The values at an index. -/
theorem x2_at (c : Dev nD) (t : Fin cfg0.N) (r : Fin 16) (j : Fin 2048) :
    iblk (F := Ideal) m c 2 t (ix2 r j) = segc (sproj m c) 5 (blockNo t) (r.val / 4) (r.val % 4) j := by
  have ht : t.val < 32 := t.isLt
  rw [← segc_of (sproj m c) 5 (blockNo t) r j ⟨8192 + (16 * t.val + r.val), by omega⟩ ⟨2048 * 5 + j.val, by omega⟩ rfl rfl]
  unfold iblk
  refine (congrFun (V_main_arg0 m c) _).trans (congrArg (m ((c.tc : Thread nD τ).loc main_arg0)) (funext fun a => Fin.ext ?_))
  match a with
  | ⟨0, _⟩ =>
    show cc0_transform_2 (grid0.coords t) 0 * 16 + 1 * r.val = _
    rw [pos2]; show (512 + t.val) * 16 + 1 * r.val = 8192 + (16 * t.val + r.val); omega
  | ⟨1, _⟩ =>
    show cc0_transform_2 (grid0.coords t) 1 * 2048 + 1 * j.val = _
    rw [pos2]; show 5 * 2048 + 1 * j.val = 2048 * 5 + j.val; omega

/-- The gates at an index. -/
theorem x3_at (c : Dev nD) (t : Fin cfg0.N) (r : Fin 16) (j : Fin 2048) :
    iblk (F := Ideal) m c 3 t (ix2 r j) = segc (sproj m c) 6 (blockNo t) (r.val / 4) (r.val % 4) j := by
  have ht : t.val < 32 := t.isLt
  rw [← segc_of (sproj m c) 6 (blockNo t) r j ⟨8192 + (16 * t.val + r.val), by omega⟩ ⟨2048 * 6 + j.val, by omega⟩ rfl rfl]
  unfold iblk
  refine (congrFun (V_main_arg0 m c) _).trans (congrArg (m ((c.tc : Thread nD τ).loc main_arg0)) (funext fun a => Fin.ext ?_))
  match a with
  | ⟨0, _⟩ =>
    show cc0_transform_3 (grid0.coords t) 0 * 16 + 1 * r.val = _
    rw [pos3]; show (512 + t.val) * 16 + 1 * r.val = 8192 + (16 * t.val + r.val); omega
  | ⟨1, _⟩ =>
    show cc0_transform_3 (grid0.coords t) 1 * 2048 + 1 * j.val = _
    rw [pos3]; show 6 * 2048 + 1 * j.val = 2048 * 6 + j.val; omega

/-- The floor of the forget gate at an index. -/
theorem x4_at (c : Dev nD) (t : Fin cfg0.N) (j : Fin 2048) :
    iblk (F := Ideal) m c 4 t (ix2 0 j) = sfloor m c (ix2 0 j) := by
  unfold iblk
  refine (congrFun (V_main_arg1 m c) _).trans (congrArg (m ((c.tc : Thread nD τ).loc main_arg1)) (funext fun a => Fin.ext ?_))
  match a with
  | ⟨0, _⟩ =>
    show cc0_transform_4 (grid0.coords t) 0 * 1 + 1 * 0 = _
    rw [pos4]; rfl
  | ⟨1, _⟩ =>
    show cc0_transform_4 (grid0.coords t) 1 * 2048 + 1 * j.val = _
    rw [pos4]; show 0 * 2048 + 1 * j.val = j.val; omega

/-- The weights of the norm at an index. -/
theorem x5_at (c : Dev nD) (t : Fin cfg0.N) (j : Fin 2048) :
    iblk (F := Ideal) m c 5 t (ix2 0 j) = sweights m c (ix2 0 j) := by
  unfold iblk
  refine (congrFun (V_main_arg2 m c) _).trans (congrArg (m ((c.tc : Thread nD τ).loc main_arg2)) (funext fun a => Fin.ext ?_))
  match a with
  | ⟨0, _⟩ =>
    show cc0_transform_5 (grid0.coords t) 0 * 1 + 1 * 0 = _
    rw [pos5]; rfl
  | ⟨1, _⟩ =>
    show cc0_transform_5 (grid0.coords t) 1 * 2048 + 1 * j.val = _
    rw [pos5]; show 0 * 2048 + 1 * j.val = j.val; omega

/-- The entering states at an index. -/
theorem x6_at (c : Dev nD) (t : Fin cfg0.N) (s : Fin 4) (h : Fin 16) (d e : Fin 128) (b : Fin 128) (hb : b.val = 4 * t.val + s.val) :
    iblk (F := Ideal) m c 6 t (ix4 s h d e) = sstates m c (ix4 b h d e) := by
  unfold iblk
  refine (congrFun (V_main_arg3 m c) _).trans (congrArg (m ((c.tc : Thread nD τ).loc main_arg3)) (funext fun a => Fin.ext ?_))
  match a with
  | ⟨0, _⟩ =>
    show cc0_transform_6 (grid0.coords t) 0 * 4 + 1 * s.val = b.val
    rw [pos6]; show t.val * 4 + 1 * s.val = b.val; omega
  | ⟨1, _⟩ =>
    show cc0_transform_6 (grid0.coords t) 1 * 16 + 1 * h.val = h.val
    rw [pos6]; show 0 * 16 + 1 * h.val = h.val; omega
  | ⟨2, _⟩ =>
    show cc0_transform_6 (grid0.coords t) 2 * 128 + 1 * d.val = d.val
    rw [pos6]; show 0 * 128 + 1 * d.val = d.val; omega
  | ⟨3, _⟩ =>
    show cc0_transform_6 (grid0.coords t) 3 * 128 + 1 * e.val = e.val
    rw [pos6]; show 0 * 128 + 1 * e.val = e.val; omega

/-- A block's vectors are the columns of its samples. -/
theorem cols (c : Dev nD) (t : Fin cfg0.N) : Cols (iblk (F := Ideal) m c 0 t) (iblk (F := Ideal) m c 1 t) (iblk (F := Ideal) m c 2 t) (iblk (F := Ideal) m c 4 t)
    (fun j => sfloor m c (ix2 0 j)) (segc (sproj m c) 3 (blockNo t)) (segc (sproj m c) 4 (blockNo t)) (segc (sproj m c) 5 (blockNo t)) where
  lb := x4_at m c t
  q := x0_at m c t
  g := x1_at m c t
  v := x2_at m c t

/-- A block of rows made of heads' rows, at an index. -/
theorem rowsCanon_at (P : Fin 16 → Vec Ideal S16x128 .bf16) (r : Fin 16) (j : Fin 2048) (v : EReal)
    (hv : ∀ (h : Fin 16) (e : Fin 128), j.val = 128 * h.val + e.val → P h (ix2 r e) = v) :
    View.canon (List.ofFn fun k : Fin 16 => (⟨rowRect ⟨15 - k.val, by omega⟩, P ⟨15 - k.val, by omega⟩⟩ : View.Piece (Elt Ideal) S16x2048 .bf16)) (ix2 r j) = v := by
  have hr := r.isLt
  have hj := j.isLt
  refine View.canon_ofFn_eq_of_forall (Val := Elt Ideal) (e := .bf16) (fun k : Fin 16 => rowRect ⟨15 - k.val, by omega⟩) (fun k => P ⟨15 - k.val, by omega⟩) (ix2 r j) v ?_ ?_
  · refine ⟨⟨15 - j.val / 128, by omega⟩, ?_⟩
    refine Rect.mem_set_unit.2 fun a => ?_
    match a with
    | ⟨0, _⟩ => exact ⟨Nat.zero_le _, by show r.val < 0 + 16; omega⟩
    | ⟨1, _⟩ => exact ⟨by show 128 * (15 - (15 - j.val / 128)) ≤ j.val; omega, by show j.val < 128 * (15 - (15 - j.val / 128)) + 128; omega⟩
  · intro k x hx
    obtain ⟨r', e, rfl⟩ : ∃ (r' : Fin 16) (e : Fin 128), x = ix2 r' e := ⟨x 0, x 1, funext fun a => by match a with | ⟨0, _⟩ => rfl | ⟨1, _⟩ => rfl⟩
    have h0 : 0 + 1 * r'.val = r.val := congrArg Fin.val (congrFun hx 0)
    have h1 : 128 * (15 - k.val) + 1 * e.val = j.val := congrArg Fin.val (congrFun hx 1)
    obtain rfl : r' = r := Fin.ext (by omega)
    exact hv _ e (by dsimp only; omega)

/-- A block of states made of samples' heads' states, at an index. -/
theorem statesCanon_at (P : Fin 4 → Fin 16 → Vec Ideal S1x1x128x128 .f32) (s : Fin 4) (h : Fin 16) (d e : Fin 128) (v : EReal)
    (hv : P s h (ix4 0 0 d e) = v) :
    View.canon (List.ofFn fun k : Fin 64 => (⟨stRect ⟨(63 - k.val) % 4, by omega⟩ ⟨(63 - k.val) / 4, by omega⟩,
      P ⟨(63 - k.val) % 4, by omega⟩ ⟨(63 - k.val) / 4, by omega⟩⟩ : View.Piece (Elt Ideal) S4x16x128x128 .f32)) (ix4 s h d e) = v := by
  have hs := s.isLt
  have hh := h.isLt
  refine View.canon_ofFn_eq_of_forall (Val := Elt Ideal) (e := .f32) (fun k : Fin 64 => stRect ⟨(63 - k.val) % 4, by omega⟩ ⟨(63 - k.val) / 4, by omega⟩)
    (fun k => P ⟨(63 - k.val) % 4, by omega⟩ ⟨(63 - k.val) / 4, by omega⟩) (ix4 s h d e) v ?_ ?_
  · refine ⟨⟨63 - (4 * h.val + s.val), by omega⟩, ?_⟩
    refine Rect.mem_set_unit.2 fun a => ?_
    match a with
    | ⟨0, _⟩ => exact ⟨by show (63 - (63 - (4 * h.val + s.val))) % 4 ≤ s.val; omega, by show s.val < (63 - (63 - (4 * h.val + s.val))) % 4 + 1; omega⟩
    | ⟨1, _⟩ => exact ⟨by show (63 - (63 - (4 * h.val + s.val))) / 4 ≤ h.val; omega, by show h.val < (63 - (63 - (4 * h.val + s.val))) / 4 + 1; omega⟩
    | ⟨2, _⟩ => exact ⟨Nat.zero_le _, by show d.val < 0 + 128; omega⟩
    | ⟨3, _⟩ => exact ⟨Nat.zero_le _, by show e.val < 0 + 128; omega⟩
  · intro k x hx
    obtain ⟨d', e', rfl⟩ : ∃ (d' e' : Fin 128), x = ix4 0 0 d' e' := ⟨x 2, x 3, funext fun a => by
      match a with
      | ⟨0, _⟩ => exact Fin.ext (by have : (x 0).val < 1 := (x 0).isLt; show (x 0).val = 0; omega)
      | ⟨1, _⟩ => exact Fin.ext (by have : (x 1).val < 1 := (x 1).isLt; show (x 1).val = 0; omega)
      | ⟨2, _⟩ => rfl
      | ⟨3, _⟩ => rfl⟩
    have h0 : (63 - k.val) % 4 + 1 * 0 = s.val := congrArg Fin.val (congrFun hx 0)
    have h1 : (63 - k.val) / 4 + 1 * 0 = h.val := congrArg Fin.val (congrFun hx 1)
    have h2 : 0 + 1 * d'.val = d.val := congrArg Fin.val (congrFun hx 2)
    have h3 : 0 + 1 * e'.val = e.val := congrArg Fin.val (congrFun hx 3)
    have e0 : (⟨(63 - k.val) % 4, by omega⟩ : Fin 4) = s := Fin.ext (by dsimp only; omega)
    have e1 : (⟨(63 - k.val) / 4, by omega⟩ : Fin 16) = h := Fin.ext (by dsimp only; omega)
    obtain rfl : d' = d := Fin.ext (by omega)
    obtain rfl : e' = e := Fin.ext (by omega)
    rw [e0, e1]
    exact hv

variable (hpos : ∀ (c : Dev nD) (j : Fin 2048), ∃ r : ℝ, 0 < r ∧ (sfloor m c (ix2 0 j) : EReal) = (r : EReal))
include hpos

/-- A head's rows as they are stored, at a sample and row. -/
theorem rows_at (c : Dev nD) (t : Fin cfg0.N) (h : Fin 16) (r : Fin 16) (e : Fin 128) (b : Fin 128) (u : Fin 4) (hb : 4 * b.val + u.val = 16 * t.val + r.val) :
    storedRows (F := Ideal) (iblk m c 0 t) (iblk m c 1 t) (iblk m c 2 t) (iblk m c 3 t) (iblk m c 4 t) (iblk m c 5 t) (iblk m c 6 t) h (ix2 r e)
      = srowsAt (sproj m c) (sfloor m c) (sweights m c) (sstates m c) b h u e := by
  have hr := r.isLt
  have hu := u.isLt
  have ht : t.val < 32 := t.isLt
  obtain ⟨s, hs⟩ : ∃ s : Fin 4, s.val = r.val / 4 := ⟨⟨_, by omega⟩, rfl⟩
  have hbs : b.val = 4 * (blockNo t).val + s.val := by show b.val = 4 * t.val + s.val; omega
  have hus : r.val % 4 = u.val := by omega
  refine (storedRows_at (iblk m c 3 t) (iblk m c 5 t) (iblk m c 6 t) (cols m c t) (hpos c) h s u r (by omega) e).trans ?_
  rw [segc_head _ 3 _ s h b hbs, segc_head _ 4 _ s h b hbs, segc_head _ 5 _ s h b hbs, x3_at, ← hs, hus]
  have e6 : headState (iblk (F := Ideal) m c 6 t) s h = sstate (sstates m c) b h := funext fun d => funext fun e => x6_at m c t s h d e b hbs
  have eg : segc (sproj m c) 6 (blockNo t) s.val u.val (col h e) = swin (sproj m c) 6 b h u.val e :=
    congrFun (congrFun (segc_head (sproj m c) 6 (blockNo t) s h b hbs) u.val) e
  have e5 : (fun d => iblk (F := Ideal) m c 5 t (ix2 0 (col h d))) = slane (sweights m c) h := funext fun d => x5_at m c t (col h d)
  rw [e6, eg, e5]
  rfl

/-- A sample's state of a head as it is stored. -/
theorem state_at (c : Dev nD) (t : Fin cfg0.N) (s : Fin 4) (h : Fin 16) (d e : Fin 128) (b : Fin 128) (hb : b.val = 4 * t.val + s.val) :
    storedState (F := Ideal) (iblk m c 0 t) (iblk m c 1 t) (iblk m c 2 t) (iblk m c 3 t) (iblk m c 4 t) (iblk m c 5 t) (iblk m c 6 t) s h (ix4 0 0 d e)
      = sfinal (sproj m c) (sfloor m c) (sstates m c) (ix4 b h d e) := by
  refine (storedState_at (iblk m c 3 t) (iblk m c 5 t) (iblk m c 6 t) (cols m c t) (hpos c) s h d e).trans ?_
  have hbs : b.val = 4 * (blockNo t).val + s.val := hb
  rw [segc_head _ 4 _ s h b hbs, segc_head _ 5 _ s h b hbs]
  have e6 : headState (iblk (F := Ideal) m c 6 t) s h = sstate (sstates m c) b h := funext fun d => funext fun e => x6_at m c t s h d e b hb
  rw [e6, sfinal_at]
  rfl

/-- The block of rows at an index. -/
theorem rowsBlock_at (c : Dev nD) (t : Fin cfg0.N) (r : Fin 16) (j : Fin 2048) (R : Fin 512) (hR : R.val = 16 * t.val + r.val) :
    out0_7 (F := Ideal) (iblk m c 0 t) (iblk m c 1 t) (iblk m c 2 t) (iblk m c 3 t) (iblk m c 4 t) (iblk m c 5 t) (iblk m c 6 t) (ix2 r j)
      = soutRows (sproj m c) (sfloor m c) (sweights m c) (sstates m c) (ix2 R j) := by
  rw [out7_eq]
  refine rowsCanon_at (storedRows (iblk m c 0 t) (iblk m c 1 t) (iblk m c 2 t) (iblk m c 3 t) (iblk m c 4 t) (iblk m c 5 t) (iblk m c 6 t)) r j _ fun h e hj => ?_
  obtain ⟨b, hb⟩ : ∃ b : Fin 128, b.val = R.val / 4 := ⟨⟨_, by omega⟩, rfl⟩
  obtain ⟨u, hu⟩ : ∃ u : Fin 4, u.val = R.val % 4 := ⟨⟨_, by omega⟩, rfl⟩
  rw [soutRows_at _ _ _ _ (ix2 R j) b h u e (by show R.val = 4 * b.val + u.val; omega) hj]
  exact rows_at m hpos c t h r e b u (by omega)

/-- The block of states at an index. -/
theorem statesBlock_at (c : Dev nD) (t : Fin cfg0.N) (s : Fin 4) (h : Fin 16) (d e : Fin 128) (b : Fin 128) (hb : b.val = 4 * t.val + s.val) :
    out0_8 (F := Ideal) (iblk m c 0 t) (iblk m c 1 t) (iblk m c 2 t) (iblk m c 3 t) (iblk m c 4 t) (iblk m c 5 t) (iblk m c 6 t) (ix4 s h d e)
      = sfinal (sproj m c) (sfloor m c) (sstates m c) (ix4 b h d e) := by
  rw [out8_eq]
  exact statesCanon_at (storedState (iblk m c 0 t) (iblk m c 1 t) (iblk m c 2 t) (iblk m c 3 t) (iblk m c 4 t) (iblk m c 5 t) (iblk m c 6 t)) s h d e _
    (state_at m hpos c t s h d e b hb)

/-- The kernel's first result is the recurrence's gated rows. -/
theorem first_eq (c : Dev nD) : (dats m 0 c).arrAt 7 cfg0.N = soutRows (sproj m c) (sfloor m c) (sweights m c) (sstates m c) := by
  refine (dats m 0 c).arrAt_eq_of_covers 7 _ (by decide +kernel) fun t _ y => ?_
  blk_simp
  rw [after0_7]
  have ht : t.val < 32 := t.isLt
  obtain ⟨r, j, rfl⟩ : ∃ (r : Fin 16) (j : Fin 2048), y = ix2 r j := ⟨y 0, y 1, funext fun a => by match a with | ⟨0, _⟩ => rfl | ⟨1, _⟩ => rfl⟩
  have e : (win0_7.blk t).view.emb (ix2 r j) = ix2 (⟨16 * t.val + r.val, by omega⟩ : Fin 512) j := by
    refine funext fun a => Fin.ext ?_
    match a with
    | ⟨0, _⟩ =>
      show cc0_transform_7 (grid0.coords t) 0 * 16 + 1 * r.val = 16 * t.val + r.val
      rw [pos7]; show t.val * 16 + 1 * r.val = 16 * t.val + r.val; omega
    | ⟨1, _⟩ =>
      show cc0_transform_7 (grid0.coords t) 1 * 2048 + 1 * j.val = j.val
      rw [pos7]; show 0 * 2048 + 1 * j.val = _; omega
  exact (rowsBlock_at m hpos c t r j ⟨16 * t.val + r.val, by omega⟩ rfl).trans (congrArg (soutRows (sproj m c) (sfloor m c) (sweights m c) (sstates m c)) e).symm

/-- The kernel's second result is every sample's new state. -/
theorem second_eq (c : Dev nD) : (dats m 0 c).arrAt 8 cfg0.N = sfinal (sproj m c) (sfloor m c) (sstates m c) := by
  refine (dats m 0 c).arrAt_eq_of_covers 8 _ (by decide +kernel) fun t _ y => ?_
  blk_simp
  rw [after0_8]
  have ht : t.val < 32 := t.isLt
  obtain ⟨s, h, d, e, rfl⟩ : ∃ (s : Fin 4) (h : Fin 16) (d e : Fin 128), y = ix4 s h d e :=
    ⟨y 0, y 1, y 2, y 3, funext fun a => by match a with | ⟨0, _⟩ => rfl | ⟨1, _⟩ => rfl | ⟨2, _⟩ => rfl | ⟨3, _⟩ => rfl⟩
  have he : (win0_8.blk t).view.emb (ix4 s h d e) = ix4 (⟨4 * t.val + s.val, by omega⟩ : Fin 128) h d e := by
    refine funext fun a => Fin.ext ?_
    match a with
    | ⟨0, _⟩ =>
      show cc0_transform_8 (grid0.coords t) 0 * 4 + 1 * s.val = 4 * t.val + s.val
      rw [pos8]; show t.val * 4 + 1 * s.val = 4 * t.val + s.val; omega
    | ⟨1, _⟩ =>
      show cc0_transform_8 (grid0.coords t) 1 * 16 + 1 * h.val = h.val
      rw [pos8]; show 0 * 16 + 1 * h.val = h.val; omega
    | ⟨2, _⟩ =>
      show cc0_transform_8 (grid0.coords t) 2 * 128 + 1 * d.val = d.val
      rw [pos8]; show 0 * 128 + 1 * d.val = d.val; omega
    | ⟨3, _⟩ =>
      show cc0_transform_8 (grid0.coords t) 3 * 128 + 1 * e.val = e.val
      rw [pos8]; show 0 * 128 + 1 * e.val = e.val; omega
  exact (statesBlock_at m hpos c t s h d e ⟨4 * t.val + s.val, by omega⟩ rfl).trans (congrArg (sfinal (sproj m c) (sfloor m c) (sstates m c)) he).symm

end Cert.SampleIdeal.Value

end
-- ==== Proof.SampleRef.lean ====
/-
  The samples' reference: its two results are the recurrence's gated rows and the samples' new states.
-/
module

public import proofs.«01_k».proof.Proof.SampleSpec
public import proofs.«01_k».proof.Proof.Gen.SampleReferenceIdeal.Run

@[expose] public section

set_option maxRecDepth 100000

noncomputable section

namespace Cert.SampleReferenceIdeal.Value

open Cert.SampleReferenceIdeal Cert.SampleReferenceIdeal.Gen Cert.Recurrence
open Idealize.ShloMosaic Idealize.ShloMosaic.TcCoe Idealize.ShloMosaic.Tactic
open Idealize.ShloMosaic.StableHlo

/-- A running left sum is the start plus the sum. -/
theorem foldl_sum {N : ℕ} (g : Fin N → EReal) (v : EReal) : (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, Fin.sum_univ_def]

/-- A window of 4 positions ending at `i`, those before the first left out. -/
theorem sum_tail (f : ℕ → EReal) (i : Fin 4) :
    (∑ n : Fin 4, if 3 ≤ i.val + n.val then f (i.val + n.val - 3) else 0) = ∑ j ∈ Finset.range (i.val + 1), f j := by
  have hi := i.isLt
  have e : Finset.range 4 = Finset.range ((3 - i.val) + (i.val + 1)) := congrArg Finset.range (by omega)
  rw [Fin.sum_univ_eq_sum_range (fun n => if 3 ≤ i.val + n then f (i.val + n - 3) else 0) 4, e, Finset.sum_range_add, Finset.sum_eq_zero, zero_add]
  · refine Finset.sum_congr rfl fun j hj => ?_
    rw [if_pos (by omega)]
    exact congrArg f (by omega)
  · intro j hj
    have := Finset.mem_range.1 hj
    rw [if_neg (by omega)]

/-- Position `n` of the running sum's window. -/
theorem window_at : ∀ n : Fin (⟨4, ![1, 4, 1, 1]⟩ : Shape).numel,
    ((⟨4, ![1, 4, 1, 1]⟩ : Shape).rowMajor.symm n 0).val = 0 ∧ ((⟨4, ![1, 4, 1, 1]⟩ : Shape).rowMajor.symm n 1).val = n.val
    ∧ ((⟨4, ![1, 4, 1, 1]⟩ : Shape).rowMajor.symm n 2).val = 0 ∧ ((⟨4, ![1, 4, 1, 1]⟩ : Shape).rowMajor.symm n 3).val = 0 := by
  decide +kernel

/-- The running sum down a sample's rows, at an index. -/
theorem cumsum_at (x : FVec Ideal S128x4x16x128 .f32) (init : FVec Ideal S_ .f32) (hinit : ∀ j, init j = 0) (h) (hu)
    (b : Fin 128) (i : Fin 4) (hd : Fin 16) (d : Fin 128) (f : ℕ → EReal) (hx : ∀ j : Fin 4, x (ix4 b j hd d) = f j.val) :
    Host.reduceWindowAdd (F := Ideal) ![1, 4, 1, 1] ![1, 1, 1, 1] ![0, 3, 0, 0] ![0, 0, 0, 0] x init h hu (ix4 b i hd d)
      = ∑ j ∈ Finset.range (i.val + 1), f j := by
  have hi := i.isLt
  refine Eq.trans ?_ (sum_tail f i)
  show Host.reduceWindow (· + ·) ![1, 4, 1, 1] ![1, 1, 1, 1] ![0, 3, 0, 0] ![0, 0, 0, 0] x _ h _ (ix4 b i hd d) = _
  unfold Host.reduceWindow
  dsimp only
  refine (foldl_sum _ _).trans ?_
  rw [hinit, zero_add]
  show (∑ n : Fin 4, _) = _
  refine Finset.sum_congr rfl fun n _ => ?_
  obtain ⟨w0, w1, w2, w3⟩ := window_at n
  have hn : n.val < 4 := n.isLt
  split
  · next hin =>
    have h1 := hin 1
    change 3 ≤ i.val * 1 + ((⟨4, ![1, 4, 1, 1]⟩ : Shape).rowMajor.symm n 1).val ∧ i.val * 1 + ((⟨4, ![1, 4, 1, 1]⟩ : Shape).rowMajor.symm n 1).val - 3 < 4 at h1
    rw [w1] at h1
    rw [if_pos (by omega)]
    refine (congrArg x (funext fun a => Fin.ext ?_)).trans (hx ⟨i.val + n.val - 3, by omega⟩)
    match a with
    | ⟨0, _⟩ => show b.val * 1 + ((⟨4, ![1, 4, 1, 1]⟩ : Shape).rowMajor.symm n 0).val - 0 = b.val; rw [w0]; omega
    | ⟨1, _⟩ => show i.val * 1 + ((⟨4, ![1, 4, 1, 1]⟩ : Shape).rowMajor.symm n 1).val - 3 = i.val + n.val - 3; rw [w1]; omega
    | ⟨2, _⟩ => show hd.val * 1 + ((⟨4, ![1, 4, 1, 1]⟩ : Shape).rowMajor.symm n 2).val - 0 = hd.val; rw [w2]; omega
    | ⟨3, _⟩ => show d.val * 1 + ((⟨4, ![1, 4, 1, 1]⟩ : Shape).rowMajor.symm n 3).val - 0 = d.val; rw [w3]; omega
  · next hin =>
    rw [if_neg fun hle => hin fun a => by
      match a with
      | ⟨0, _⟩ => show 0 ≤ b.val * 1 + ((⟨4, ![1, 4, 1, 1]⟩ : Shape).rowMajor.symm n 0).val ∧ b.val * 1 + ((⟨4, ![1, 4, 1, 1]⟩ : Shape).rowMajor.symm n 0).val - 0 < 128; rw [w0]; omega
      | ⟨1, _⟩ => show 3 ≤ i.val * 1 + ((⟨4, ![1, 4, 1, 1]⟩ : Shape).rowMajor.symm n 1).val ∧ i.val * 1 + ((⟨4, ![1, 4, 1, 1]⟩ : Shape).rowMajor.symm n 1).val - 3 < 4; rw [w1]; omega
      | ⟨2, _⟩ => show 0 ≤ hd.val * 1 + ((⟨4, ![1, 4, 1, 1]⟩ : Shape).rowMajor.symm n 2).val ∧ hd.val * 1 + ((⟨4, ![1, 4, 1, 1]⟩ : Shape).rowMajor.symm n 2).val - 0 < 16; rw [w2]; omega
      | ⟨3, _⟩ => show 0 ≤ d.val * 1 + ((⟨4, ![1, 4, 1, 1]⟩ : Shape).rowMajor.symm n 3).val ∧ d.val * 1 + ((⟨4, ![1, 4, 1, 1]⟩ : Shape).rowMajor.symm n 3).val - 0 < 128; rw [w3]; omega]

section
variable (proj : Vec Ideal S8704x14336 .bf16) (lb ng : Vec Ideal S1x2048 .f32) (st : FVec Ideal S128x16x128x128 .f32)

/-- The samples' query, forget and value columns. -/
def qfv : FVec Ideal S128x4x6144 .f32 :=
  shapeCast _ (extractStridedSlice S512x6144 ![0, 6144] (extf .f32 (extractStridedSlice S512x14336 ![8192, 0] proj slices_S8704x14336_S512x14336_8192_0) bitsLt_bf16_f32) slices_S512x14336_S512x6144_0_6144) shapeCasts_S512x6144_S128x4x6144

/-- The queries. -/
def rq : FVec Ideal S128x4x16x128 .f32 := shapeCast _ (extractStridedSlice S128x4x2048 ![0, 0, 0] (qfv proj) slices_S128x4x6144_S128x4x2048_0_0_0) shapeCasts_S128x4x2048_S128x4x16x128
/-- The forget logits. -/
def rg : FVec Ideal S128x4x16x128 .f32 := shapeCast _ (extractStridedSlice S128x4x2048 ![0, 0, 2048] (qfv proj) slices_S128x4x6144_S128x4x2048_0_0_2048) shapeCasts_S128x4x2048_S128x4x16x128
/-- The values. -/
def rv : FVec Ideal S128x4x16x128 .f32 := shapeCast _ (extractStridedSlice S128x4x2048 ![0, 0, 4096] (qfv proj) slices_S128x4x6144_S128x4x2048_0_0_4096) shapeCasts_S128x4x2048_S128x4x16x128

theorem rq_at (b : Fin 128) (i : Fin 4) (h : Fin 16) (d : Fin 128) : rq proj (ix4 b i h d) = swin proj 3 b h i.val d := by
  unfold rq qfv
  pointwise
  exact swin_of proj 3 b h i.val d i.isLt _ _ (by show 8192 + (b.val * 4 + i.val) = _; omega) (by show 6144 + (h.val * 128 + d.val) = _; omega)

theorem rg_at (b : Fin 128) (i : Fin 4) (h : Fin 16) (d : Fin 128) : rg proj (ix4 b i h d) = swin proj 4 b h i.val d := by
  unfold rg qfv
  pointwise
  exact swin_of proj 4 b h i.val d i.isLt _ _ (by show 8192 + (b.val * 4 + i.val) = _; omega) (by show 6144 + (2048 + (h.val * 128 + d.val)) = _; omega)

theorem rv_at (b : Fin 128) (i : Fin 4) (h : Fin 16) (d : Fin 128) : rv proj (ix4 b i h d) = swin proj 5 b h i.val d := by
  unfold rv qfv
  pointwise
  exact swin_of proj 5 b h i.val d i.isLt _ _ (by show 8192 + (b.val * 4 + i.val) = _; omega) (by show 6144 + (4096 + (h.val * 128 + d.val)) = _; omega)

/-- The floor of the forget gate, by head. -/
def rl : FVec Ideal S16x128 .f32 := shapeCast _ lb shapeCasts_S1x2048_S16x128

theorem rl_at (h : Fin 16) (d : Fin 128) : rl lb (ix2 h d) = slane lb h d := by
  unfold rl
  pointwise
  exact slane_of lb h d _ (by show h.val * 128 + d.val = _; omega)

/-- One minus the floor, for every row. -/
def rk1 (l : FVec Ideal S16x128 .f32) : FVec Ideal S128x4x16x128 .f32 := broadcastInDim S128x4x16x128 ![0, 1, 2, 3] bcast_S1x1x16x128_S128x4x16x128_0_1_2_3 (broadcastInDim S1x1x16x128 ![2, 3] bcast_S16x128_S1x1x16x128_2_3 (subf (broadcastInDim S16x128 ![] bcast_S_S16x128 (constant S_ .f32 0x3F800000#32)) l))

/-- The logistic function, entry by entry. -/
def rs (x : FVec Ideal S128x4x16x128 .f32) : FVec Ideal S128x4x16x128 .f32 := Host.divf (broadcastInDim S128x4x16x128 ![] bcast_S_S128x4x16x128 (constant S_ .f32 0x3F800000#32)) (addf (broadcastInDim S128x4x16x128 ![] bcast_S_S128x4x16x128 (constant S_ .f32 0x3F800000#32)) (Host.exp (Host.negf x)))

/-- The log gates. -/
def rf : FVec Ideal S128x4x16x128 .f32 :=
  Host.log (addf (broadcastInDim S128x4x16x128 ![0, 1, 2, 3] bcast_S1x1x16x128_S128x4x16x128_0_1_2_3 (broadcastInDim S1x1x16x128 ![2, 3] bcast_S16x128_S1x1x16x128_2_3 (rl lb))) (mulf (rk1 (rl lb)) (rs (rg proj))))

/-- The keys. -/
def rk : FVec Ideal S128x4x16x128 .f32 := mulf (rk1 (rl lb)) (rs (Host.negf (rg proj)))

/-- The sums of the log gates. -/
def rb : FVec Ideal S128x4x16x128 .f32 :=
  Host.reduceWindowAdd ![1, 4, 1, 1] ![1, 1, 1, 1] ![0, 3, 0, 0] ![0, 0, 0, 0] (rf proj lb) (broadcastInDim S_ ![] bcast_S_S_ (constant S_ .f32 0x00000000#32)) reduceWindows_S128x4x16x128_S128x4x16x128_w1s1p0_0_w4s1p3_0_w1s1p0_0_w1s1p0_0 h_S_

theorem rf_at (b : Fin 128) (i : Fin 4) (h : Fin 16) (d : Fin 128) : rf proj lb (ix4 b i h d) = lf (slane lb h) (swin proj 4 b h) i.val d := by
  unfold rf rs rk1
  have e := rl_at lb h d
  have e' := rg_at proj b i h d
  generalize rl lb = X at e ⊢
  generalize rg proj = Y at e' ⊢
  pointwise
  rw [e, e']
  rfl

theorem rk_at (b : Fin 128) (i : Fin 4) (h : Fin 16) (d : Fin 128) : rk proj lb (ix4 b i h d) = key (slane lb h) (swin proj 4 b h) i.val d := by
  unfold rk rs rk1
  have e := rl_at lb h d
  have e' := rg_at proj b i h d
  generalize rl lb = X at e ⊢
  generalize rg proj = Y at e' ⊢
  pointwise
  rw [e, e']
  rfl

theorem rb_at (b : Fin 128) (i : Fin 4) (h : Fin 16) (d : Fin 128) : rb proj lb (ix4 b i h d) = scum (slane lb h) (swin proj 4 b h) i.val d := by
  unfold rb
  exact cumsum_at _ _ (fun j => by pointwise) _ _ b i h d (fun j => lf (slane lb h) (swin proj 4 b h) j d) fun j => rf_at proj lb b j h d

/-- The mask of the rows that come no later. -/
def rmask : IVec S4x4 1 := select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1))

theorem rmask_at (i j : Fin 4) : rmask (ix2 i j) = if j ≤ i then 1#1 else 0#1 := by
  unfold rmask
  pointwise
  revert i j
  decide +kernel

/-- The sum at the second row, for every row. -/
def rmid (B : FVec Ideal S128x4x16x128 .f32) : FVec Ideal S128x4x16x128 .f32 := broadcastInDim S128x4x16x128 ![0, 1, 2, 3] bcast_S128x1x16x128_S128x4x16x128_0_1_2_3 (extractStridedSlice S128x1x16x128 ![0, 1, 0, 0] B slices_S128x4x16x128_S128x1x16x128_0_1_0_0)

/-- The rows read out, before the norm. -/
def ro (q k v B : FVec Ideal S128x4x16x128 .f32) (mask : IVec S4x4 1) : FVec Ideal S128x4x16x128 .f32 :=
  addf (transpose S128x4x16x128 [0, 3, 1, 2] (Host.dotGeneral dot_S128x4x16x128_S128x16x4x4_S128x16x128x4_1_3_3_2_02_01 none v (select (broadcastInDim S128x16x4x4 ![2, 3] bcast_S4x4_S128x16x4x4_2_3 mask) (Host.dotGeneral dot_S128x4x16x128_S128x4x16x128_S128x16x4x4_3_3_1_1_02_02 none (mulf q (Host.exp (subf B (rmid B)))) (mulf k (Host.exp (subf (rmid B) B)))) (broadcastInDim S128x16x4x4 ![] bcast_S_S128x16x4x4 (id (constant S_ .f32 0x00000000#32))))) transposes_S128x16x128x4_S128x4x16x128_0_3_1_2) (transpose S128x4x16x128 [0, 3, 1, 2] (Host.dotGeneral dot_S128x16x128x128_S128x4x16x128_S128x16x128x4_2_3_3_1_01_02 none st (mulf q (Host.exp B))) transposes_S128x16x128x4_S128x4x16x128_0_3_1_2)

theorem ro_at (q k v B : FVec Ideal S128x4x16x128 .f32) (mask : IVec S4x4 1) (b : Fin 128) (h : Fin 16) (l : Fin 128 → EReal) (Q G V : ℕ → Fin 128 → EReal)
    (hq : ∀ (i : Fin 4) d, q (ix4 b i h d) = Q i.val d) (hk : ∀ (i : Fin 4) d, k (ix4 b i h d) = key l G i.val d)
    (hv : ∀ (i : Fin 4) d, v (ix4 b i h d) = V i.val d) (hB : ∀ (i : Fin 4) d, B (ix4 b i h d) = scum l G i.val d)
    (hm : ∀ i j, mask (ix2 i j) = if j ≤ i then 1#1 else 0#1) (i : Fin 4) (e : Fin 128) :
    ro st q k v B mask (ix4 b i h e) = sout l Q G V (sstate st b h) i e := by
  unfold ro rmid
  pointwise [hm]
  unfold sout
  refine congrArg₂ (· + ·) (Finset.sum_congr rfl fun j _ => congrArg₂ (· * ·) (hv j e) ?_) (Finset.sum_congr rfl fun d _ => congrArg₂ (· * ·) rfl ?_)
  · unfold sscore
    by_cases hle : j ≤ i
    · rw [if_pos hle, if_pos hle]
      refine (if_pos rfl).trans (Finset.sum_congr rfl fun d _ => ?_)
      rw [hq, hk, hB, hB, hB]
      rfl
    · rw [if_neg hle, if_neg hle]
      refine (if_neg (by decide)).trans ?_
      pointwise [id_eq]
  · rw [hq, hB]

/-- The samples' states after their rows. -/
def rstate (k v B : FVec Ideal S128x4x16x128 .f32) : FVec Ideal S128x16x128x128 .f32 :=
  addf (mulf (broadcastInDim S128x16x128x128 ![0, 1, 2, 3] bcast_S128x16x128x1_S128x16x128x128_0_1_2_3 (broadcastInDim S128x16x128x1 ![0, 1, 2] bcast_S128x16x128_S128x16x128x1_0_1_2 (Host.exp (shapeCast _ (extractStridedSlice S128x1x16x128 ![0, 3, 0, 0] B slices_S128x4x16x128_S128x1x16x128_0_3_0_0) shapeCasts_S128x1x16x128_S128x16x128)))) st) (Host.dotGeneral dot_S128x4x16x128_S128x4x16x128_S128x16x128x128_1_1_3_3_02_02 none (mulf k (Host.exp (subf (broadcastInDim S128x4x16x128 ![0, 1, 2, 3] bcast_S128x1x16x128_S128x4x16x128_0_1_2_3 (broadcastInDim S128x1x16x128 ![0, 2, 3] bcast_S128x16x128_S128x1x16x128_0_2_3 (shapeCast _ (extractStridedSlice S128x1x16x128 ![0, 3, 0, 0] B slices_S128x4x16x128_S128x1x16x128_0_3_0_0) shapeCasts_S128x1x16x128_S128x16x128))) B))) v)

theorem rstate_at (k v B : FVec Ideal S128x4x16x128 .f32) (b : Fin 128) (h : Fin 16) (l : Fin 128 → EReal) (G V : ℕ → Fin 128 → EReal)
    (hk : ∀ (i : Fin 4) d, k (ix4 b i h d) = key l G i.val d)
    (hv : ∀ (i : Fin 4) d, v (ix4 b i h d) = V i.val d) (hB : ∀ (i : Fin 4) d, B (ix4 b i h d) = scum l G i.val d) (d e : Fin 128) :
    rstate st k v B (ix4 b h d e) = snew l G V (sstate st b h) d e := by
  unfold rstate
  pointwise
  unfold snew
  refine congrArg₂ (· + ·) (congrArg₂ (· * ·) (congrArg Ideal.exp (hB 3 d)) rfl) (Finset.sum_congr rfl fun j _ => congrArg₂ (· * ·) (congrArg₂ (· * ·) (hk j d) (congrArg Ideal.exp (congrArg₂ (· - ·) (hB 3 d) (hB j d)))) (hv j e))

/-- The gate's columns of the samples' rows. -/
def rgate : FVec Ideal S128x4x2048 .f32 := shapeCast _ (extractStridedSlice S512x2048 ![0, 12288] (extf .f32 (extractStridedSlice S512x14336 ![8192, 0] proj slices_S8704x14336_S512x14336_8192_0) bitsLt_bf16_f32) slices_S512x14336_S512x2048_0_12288) shapeCasts_S512x2048_S128x4x2048

/-- The rows, normed and gated. -/
def rgated (O : FVec Ideal S128x4x16x128 .f32) (g : FVec Ideal S128x4x2048 .f32) : FVec Ideal S512x2048 .bf16 :=
  truncf .bf16 (shapeCast _ (mulf (mulf (shapeCast _ (mulf O (broadcastInDim S128x4x16x128 ![0, 1, 2, 3] bcast_S128x4x16x1_S128x4x16x128_0_1_2_3 (Host.rsqrt (addf (Host.divf (broadcastInDim S128x4x16x1 ![0, 1, 2] bcast_S128x4x16_S128x4x16x1_0_1_2 (Host.reduceAdd (mulf O O) (constant S_ .f32 0x00000000#32) reducesTo_S128x4x16x128_S128x4x16_d3 h_S_)) (broadcastInDim S128x4x16x1 ![] bcast_S_S128x4x16x1 (constant S_ .f32 0x43000000#32))) (broadcastInDim S128x4x16x1 ![] bcast_S_S128x4x16x1 (constant S_ .f32 0x358637BD#32)))))) shapeCasts_S128x4x16x128_S128x4x2048) (broadcastInDim S128x4x2048 ![0, 1, 2] bcast_S1x1x2048_S128x4x2048_0_1_2 (broadcastInDim S1x1x2048 ![1, 2] bcast_S1x2048_S1x1x2048_1_2 ng))) (mulf g (Host.divf (broadcastInDim S128x4x2048 ![] bcast_S_S128x4x2048 (constant S_ .f32 0x3F800000#32)) (addf (broadcastInDim S128x4x2048 ![] bcast_S_S128x4x2048 (constant S_ .f32 0x3F800000#32)) (Host.exp (Host.negf g)))))) shapeCasts_S128x4x2048_S512x2048) bitsLt_bf16_f32

theorem rgated_at (O : FVec Ideal S128x4x16x128 .f32) (W : Fin 128 → Fin 4 → Fin 16 → Fin 128 → EReal) (hO : ∀ b t h e, O (ix4 b t h e) = W b t h e)
    (y : S512x2048.Idx) (b : Fin 128) (h : Fin 16) (t : Fin 4) (e : Fin 128)
    (h0 : (y 0).val = 4 * b.val + t.val) (h1 : (y 1).val = 128 * h.val + e.val) :
    rgated ng O (rgate proj) y = gated (W b t h) (slane ng h) (swin proj 6 b h t e) e := by
  have hb := b.isLt
  have hh := h.isLt
  have ht := t.isLt
  have he := e.isLt
  have hrow : ∀ (b' : Fin 128) (t' : Fin 4) (h' : Fin 16) (x : Fin 128), b'.val = b.val → t'.val = t.val → h'.val = h.val → O (ix4 b' t' h' x) = W b t h x := by
    intro b' t' h' x e1 e2 e3
    obtain rfl := Fin.ext e1
    obtain rfl := Fin.ext e2
    obtain rfl := Fin.ext e3
    exact hO b' t' h' x
  have a0 : (y 0).val / 4 = b.val := by omega
  have a1 : (y 0).val % 4 = t.val := by omega
  have a3 : (y 1).val / 128 = h.val := by omega
  have ee : (⟨(y 1).val % 128, Nat.mod_lt _ (by omega)⟩ : Fin 128) = e := Fin.ext (by show (y 1).val % 128 = e.val; omega)
  have hn := slane_of ng h e (y 1) h1
  unfold rgated rgate
  pointwise
  unfold gated
  refine congrArg₂ (· * ·) (congrArg₂ (· * ·) (congrArg₂ (· * ·) ((hrow _ _ _ _ a0 a1 a3).trans (congrArg (W b t h) ee)) (congrArg Ideal.rsqrt (congrArg₂ (· + ·)
    (congrArg₂ Ideal.div (Finset.sum_congr rfl fun x _ => congrArg₂ (· * ·) (hrow _ _ _ _ a0 a1 a3) (hrow _ _ _ _ a0 a1 a3)) rfl) rfl))) hn)
    (congrArg (fun g => g * Ideal.div 1 (1 + Ideal.exp (-g))) (swin_of proj 6 b h t e ht _ _ ?_ ?_))
  · show 8192 + (y 0).val = 8192 + (4 * b.val + t.val)
    omega
  · show 12288 + (y 1).val = 128 * (16 * 6 + h.val) + e.val
    omega

end

variable (m : (ℓ : Loc nD τ sig) → Buf (Elt Ideal) ℓ) (cc : Dev nD)

/-- The second result is the samples' new states. -/
theorem second_value : (res_main_v71 (F := Ideal) m cc : FVec Ideal S128x16x128x128 .f32)
    = sfinal (m ((cc.tc : Thread nD τ).loc main_arg0)) (m ((cc.tc : Thread nD τ).loc main_arg1)) (m ((cc.tc : Thread nD τ).loc main_arg3)) := by
  have e : (res_main_v71 (F := Ideal) m cc : FVec Ideal S128x16x128x128 .f32)
      = rstate (m ((cc.tc : Thread nD τ).loc main_arg3)) (rk (m ((cc.tc : Thread nD τ).loc main_arg0)) (m ((cc.tc : Thread nD τ).loc main_arg1)))
        (rv (m ((cc.tc : Thread nD τ).loc main_arg0))) (rb (m ((cc.tc : Thread nD τ).loc main_arg0)) (m ((cc.tc : Thread nD τ).loc main_arg1))) := rfl
  rw [e]
  funext y
  obtain ⟨b, h, d, e, rfl⟩ : ∃ (b : Fin 128) (h : Fin 16) (d e : Fin 128), y = ix4 b h d e :=
    ⟨y 0, y 1, y 2, y 3, funext fun a => by match a with | ⟨0, _⟩ => rfl | ⟨1, _⟩ => rfl | ⟨2, _⟩ => rfl | ⟨3, _⟩ => rfl⟩
  exact rstate_at _ _ _ _ b h _ _ _ (fun i d => rk_at _ _ b i h d) (fun i d => rv_at _ b i h d) (fun i d => rb_at _ _ b i h d) d e

/-- The first result is the recurrence's gated rows. -/
theorem first_value : (res_main_v91 (F := Ideal) m cc : FVec Ideal S512x2048 .bf16)
    = soutRows (m ((cc.tc : Thread nD τ).loc main_arg0)) (m ((cc.tc : Thread nD τ).loc main_arg1)) (m ((cc.tc : Thread nD τ).loc main_arg2)) (m ((cc.tc : Thread nD τ).loc main_arg3)) := by
  have e : (res_main_v91 (F := Ideal) m cc : FVec Ideal S512x2048 .bf16)
      = rgated (m ((cc.tc : Thread nD τ).loc main_arg2)) (ro (m ((cc.tc : Thread nD τ).loc main_arg3)) (rq (m ((cc.tc : Thread nD τ).loc main_arg0))) (rk (m ((cc.tc : Thread nD τ).loc main_arg0)) (m ((cc.tc : Thread nD τ).loc main_arg1)))
        (rv (m ((cc.tc : Thread nD τ).loc main_arg0))) (rb (m ((cc.tc : Thread nD τ).loc main_arg0)) (m ((cc.tc : Thread nD τ).loc main_arg1))) rmask) (rgate (m ((cc.tc : Thread nD τ).loc main_arg0))) := rfl
  rw [e]
  funext y
  have h0 : (y 0).val < 512 := (y 0).isLt
  have h1 : (y 1).val < 2048 := (y 1).isLt
  have e0 : (y 0).val = 4 * ((y 0).val / 4) + (y 0).val % 4 := by omega
  have e1 : (y 1).val = 128 * ((y 1).val / 128) + (y 1).val % 128 := by omega
  obtain ⟨b, hb⟩ : ∃ b : Fin 128, b.val = (y 0).val / 4 := ⟨⟨_, by omega⟩, rfl⟩
  obtain ⟨h, hh⟩ : ∃ h : Fin 16, h.val = (y 1).val / 128 := ⟨⟨_, by omega⟩, rfl⟩
  obtain ⟨t, ht⟩ : ∃ t : Fin 4, t.val = (y 0).val % 4 := ⟨⟨_, by omega⟩, rfl⟩
  obtain ⟨e, he⟩ : ∃ e : Fin 128, e.val = (y 1).val % 128 := ⟨⟨_, by omega⟩, rfl⟩
  rw [← hb, ← ht] at e0
  rw [← hh, ← he] at e1
  rw [soutRows_at _ _ _ _ y b h t e e0 e1]
  exact rgated_at _ _ _ _ (fun b t h e => ro_at _ _ _ _ _ _ b h _ _ _ _ (fun i d => rq_at _ b i h d) (fun i d => rk_at _ _ b i h d) (fun i d => rv_at _ b i h d)
    (fun i d => rb_at _ _ b i h d) rmask_at t e) y b h t e e0 e1

end Cert.SampleReferenceIdeal.Value

end
-- ==== Proof.lean ====
/- The claims of the certificate, from the kernel's arrays and the plain recurrence's values. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Arrays
public import proofs.«01_k».proof.Proof.RefValue
public import proofs.«01_k».proof.Proof.Gen.InProj.Frame
public import proofs.«01_k».proof.Proof.Gen.InProjIdeal.Frame
public import proofs.«01_k».proof.Proof.InProjValue
public import proofs.«01_k».proof.Proof.Gen.InProjReferenceIdeal.Run
public import proofs.«01_k».proof.Proof.Gen.OutProj.Frame
public import proofs.«01_k».proof.Proof.Gen.OutProjIdeal.Frame
public import proofs.«01_k».proof.Proof.OutProjValue
public import proofs.«01_k».proof.Proof.Gen.ConvPrompt.Frame
public import proofs.«01_k».proof.Proof.Gen.ConvPromptIdeal.Frame
public import proofs.«01_k».proof.Proof.Gen.ConvPromptIdeal.Value
public import proofs.«01_k».proof.Proof.Gen.ConvPromptReferenceIdeal.Run
public import proofs.«01_k».proof.Proof.ConvPromptValue
public import proofs.«01_k».proof.Proof.Gen.ConvSample.Frame
public import proofs.«01_k».proof.Proof.Gen.ConvSampleIdeal.Frame
public import proofs.«01_k».proof.Proof.Gen.ConvSampleReferenceIdeal.Run
public import proofs.«01_k».proof.Proof.ConvSampleValue
public import proofs.«01_k».proof.Proof.Gen.NormIn.Frame
public import proofs.«01_k».proof.Proof.Gen.NormInIdeal.Frame
public import proofs.«01_k».proof.Proof.Gen.NormInIdeal.Value
public import proofs.«01_k».proof.Proof.Gen.NormInReferenceIdeal.Run
public import proofs.«01_k».proof.Proof.NormInValue
public import proofs.«01_k».proof.Proof.Gen.Sample.Frame
public import proofs.«01_k».proof.Proof.Gen.SampleIdeal.Frame
public import proofs.«01_k».proof.Proof.Gen.SampleIdeal.Value
public import proofs.«01_k».proof.Proof.Gen.SampleReferenceIdeal.Run
public import proofs.«01_k».proof.Proof.Gen.OutProjReferenceIdeal.Run
public import proofs.«01_k».proof.Proof.SampleArrays
public import proofs.«01_k».proof.Proof.SampleRef
public import Idealize.ShloMosaic.Adequacy
public import Idealize.ShloMosaic.Init

@[expose] public section

noncomputable section

namespace Cert.Proof

open Idealize.ShloMosaic Idealize.SL.Sem

/-- The precondition's stated side conditions hold. -/
theorem pre_facts : Cert.Pre_floor_positive.Facts where
  bcast_S_S1x2048 := by decide

/-- The side conditions of the precondition of the samples' recurrence hold. -/
theorem pre_sample_facts : Cert.Pre_sample_floor_positive.Facts where
  bcast_S_S1x2048 := by decide

attribute [local instance] pre_facts pre_sample_facts

/-- A number above zero and below some bound is a positive real. -/
theorem real_of_bits (x y : EReal) (h : IntOp.andi (BitVec.ofBool (decide (0 < x))) (BitVec.ofBool (decide (x < y))) = 1#1) : ∃ r : ℝ, 0 < r ∧ x = (r : EReal) := by
  by_cases h0 : 0 < x
  · by_cases h1 : x < y
    · have ht := ne_top_of_lt h1
      have hb : x ≠ ⊥ := fun e => by rw [e] at h0; exact absurd h0 (not_lt_of_ge bot_le)
      refine ⟨x.toReal, ?_, (EReal.coe_toReal ht hb).symm⟩
      rw [← EReal.coe_toReal ht hb] at h0
      exact_mod_cast h0
    · rw [decide_eq_false h1] at h
      exact absurd h (by cases decide (0 < x) <;> decide)
  · rw [decide_eq_false h0] at h
    exact absurd h (by cases decide (x < y) <;> decide)

/-- The precondition says that every entry of the lower bound is a positive real number. -/
theorem floor_real {a0 a1 a2} (h : Cert.Pre_floor_positive.fn (F := Ideal) a0 a1 a2 = fun _ => 1#1) (hd : Fin 16) (d : Fin 128) :
    ∃ r : ℝ, 0 < r ∧ (Cert.Recurrence.lane a1 hd d : EReal) = (r : EReal) := by
  have := congrFun h (ix2 (0 : Fin 1) (⟨128 * hd.val + d.val, by have := hd.isLt; have := d.isLt; omega⟩ : Fin 2048))
  unfold Cert.Pre_floor_positive.fn at this
  pointwise at this
  exact real_of_bits _ _ this

/-- The samples' precondition says the same of the lower bound the samples are given. -/
theorem sample_floor_real {a0 a1 a2 a3} (h : Cert.Pre_sample_floor_positive.fn (F := Ideal) a0 a1 a2 a3 = fun _ => 1#1) (j : Fin 2048) :
    ∃ r : ℝ, 0 < r ∧ (a1 (ix2 (0 : Fin 1) j) : EReal) = (r : EReal) := by
  have := congrFun h (ix2 (0 : Fin 1) j)
  unfold Cert.Pre_sample_floor_positive.fn at this
  pointwise at this
  exact real_of_bits _ _ this

/-- The plain recurrence runs, keeps its arguments and ends quiet. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

/-- Both programs end with the recurrence's gated rows and its final state. -/
theorem recurrence_equal : Cert.algebraic_KernelIdeal_ReferenceIdeal_pre_floor_positive (hKernelIdeal := Cert.KernelIdeal.Gen.facts)
    (hReferenceIdeal := Cert.ReferenceIdeal.Gen.facts) (hPre_floor_positive := pre_facts) := by
  intro m ρ m' ρ' hp hag
  have hpos : ∀ (c : Dev Cert.KernelIdeal.nD) (h : Fin 16) (d : Fin 128), ∃ r : ℝ, 0 < r ∧
      (Cert.Recurrence.lane (m ((c.tc : Thread Cert.KernelIdeal.nD Cert.KernelIdeal.τ).loc Cert.KernelIdeal.main_arg1)) h d : EReal) = (r : EReal) :=
    fun c => floor_real (hp c)
  refine ⟨fun c => Cert.Recurrence.outRows (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Recurrence.final (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono (fun r h c => ⟨(h c).1.trans (Cert.KernelIdeal.Value.first_eq m hpos c),
      (h c).2.1.trans (Cert.KernelIdeal.Value.second_eq m hpos c), (h c).2.2⟩) (Cert.KernelIdeal.Value.run_blocks (F := Ideal) m ρ)
  · refine (θ_run (Cert.ReferenceIdeal.defs (F := Ideal)) _ _).mono (fun r h c => ⟨?_, ?_, (h c).2.2⟩) (Cert.ReferenceIdeal.Value.run (F := Ideal) m' ρ')
    · refine ((h c).1.trans (Cert.ReferenceIdeal.Value.first_value m' c)).trans ?_
      rw [(hag c).1, (hag c).2.1, (hag c).2.2]
    · refine ((h c).2.1.trans (Cert.ReferenceIdeal.Value.second_value m' c)).trans ?_
      rw [(hag c).1, (hag c).2.1]

/-- The plain input projections run, keep their arguments and end quiet. -/
theorem frame_in_reference : Cert.quiescent_InProjReferenceIdeal (hInProjReferenceIdeal := Cert.InProjReferenceIdeal.Gen.facts) := fun m ρ _ =>
  (θ_run (Cert.InProjReferenceIdeal.defs (F := Ideal)) _ _).mono (fun r h => ⟨fun c => (h c).2, sem_eq_zero_of_no_sems (by decide) r.2⟩)
    (Cert.InProjReferenceIdeal.Value.run (F := Ideal) m ρ)

/-- The plain output projection runs, keeps its arguments and ends quiet. -/
theorem frame_out_reference : Cert.quiescent_OutProjReferenceIdeal (hOutProjReferenceIdeal := Cert.OutProjReferenceIdeal.Gen.facts) := fun m ρ _ =>
  (θ_run (Cert.OutProjReferenceIdeal.defs (F := Ideal)) _ _).mono (fun r h => ⟨fun c => (h c).2, sem_eq_zero_of_no_sems (by decide) r.2⟩)
    (Cert.OutProjReferenceIdeal.Value.run (F := Ideal) m ρ)

/-- Both programs end with the product of the features and the weights. -/
theorem in_equal : Cert.algebraic_InProjIdeal_InProjReferenceIdeal (hInProjIdeal := Cert.InProjIdeal.Gen.facts)
    (hInProjReferenceIdeal := Cert.InProjReferenceIdeal.Gen.facts) := by
  intro m ρ m' ρ' _ hag
  refine ⟨fun c => Cert.InProjection.proj (m ((c.tc : Thread Cert.InProjIdeal.nD Cert.InProjIdeal.τ).loc Cert.InProjIdeal.main_arg0))
      (m ((c.tc : Thread Cert.InProjIdeal.nD Cert.InProjIdeal.τ).loc Cert.InProjIdeal.main_arg1)), ?_, ?_⟩
  · exact (θ_run (Cert.InProjIdeal.defs (F := Ideal)) _ _).mono (fun r h c => ⟨(h c).1.trans (Cert.InProjIdeal.Value.result_eq m c), (h c).2⟩)
      (Cert.InProjIdeal.Value.run_blocks (F := Ideal) m ρ)
  · refine (θ_run (Cert.InProjReferenceIdeal.defs (F := Ideal)) _ _).mono (fun r h c => ⟨?_, (h c).2⟩) (Cert.InProjReferenceIdeal.Value.run (F := Ideal) m' ρ')
    refine ((h c).1.trans (Cert.InProjection.plain_eq _ _)).trans ?_
    rw [(hag c).1, (hag c).2]

/-- Both programs end with the residuals plus the mixed features times the weights. -/
theorem out_equal : Cert.algebraic_OutProjIdeal_OutProjReferenceIdeal (hOutProjIdeal := Cert.OutProjIdeal.Gen.facts)
    (hOutProjReferenceIdeal := Cert.OutProjReferenceIdeal.Gen.facts) := by
  intro m ρ m' ρ' _ hag
  refine ⟨fun c => Cert.OutProjection.joined (m ((c.tc : Thread Cert.OutProjIdeal.nD Cert.OutProjIdeal.τ).loc Cert.OutProjIdeal.main_arg0))
      (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2))
      (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4))
      (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)), ?_, ?_⟩
  · exact (θ_run (Cert.OutProjIdeal.defs (F := Ideal)) _ _).mono (fun r h c => ⟨(h c).1.trans (Cert.OutProjIdeal.Value.result_eq m c), (h c).2⟩)
      (Cert.OutProjIdeal.Value.run_blocks (F := Ideal) m ρ)
  · refine (θ_run (Cert.OutProjReferenceIdeal.defs (F := Ideal)) _ _).mono (fun r h c => ⟨?_, (h c).2⟩) (Cert.OutProjReferenceIdeal.Value.run (F := Ideal) m' ρ')
    refine ((h c).1.trans (Cert.OutProjection.plain_eq _ _ _ _ _ _ _)).trans ?_
    obtain ⟨h0, h1, h2, h3, h4, h5, h6⟩ := hag c
    rw [h0, h1, h2, h3, h4, h5, h6]

/-- The plain convolution of the prompts runs, keeps its arguments and ends quiet. -/
theorem frame_conv_reference : Cert.quiescent_ConvPromptReferenceIdeal (hConvPromptReferenceIdeal := Cert.ConvPromptReferenceIdeal.Gen.facts) := fun m ρ _ =>
  (θ_run (Cert.ConvPromptReferenceIdeal.defs (F := Ideal)) _ _).mono (fun r h => ⟨fun c => (h c).2.2, sem_eq_zero_of_no_sems (by decide) r.2⟩)
    (Cert.ConvPromptReferenceIdeal.Value.run (F := Ideal) m ρ)

/-- The plain convolution of the samples runs, keeps its arguments and ends quiet. -/
theorem frame_sample_reference : Cert.quiescent_ConvSampleReferenceIdeal (hConvSampleReferenceIdeal := Cert.ConvSampleReferenceIdeal.Gen.facts) := fun m ρ _ =>
  (θ_run (Cert.ConvSampleReferenceIdeal.defs (F := Ideal)) _ _).mono (fun r h => ⟨fun c => (h c).2.2, sem_eq_zero_of_no_sems (by decide) r.2⟩)
    (Cert.ConvSampleReferenceIdeal.Value.run (F := Ideal) m ρ)

/-- The plain input norm runs, keeps its arguments and ends quiet. -/
theorem frame_norm_reference : Cert.quiescent_NormInReferenceIdeal (hNormInReferenceIdeal := Cert.NormInReferenceIdeal.Gen.facts) := fun m ρ _ =>
  (θ_run (Cert.NormInReferenceIdeal.defs (F := Ideal)) _ _).mono (fun r h => ⟨fun c => (h c).2, sem_eq_zero_of_no_sems (by decide) r.2⟩)
    (Cert.NormInReferenceIdeal.Value.run (F := Ideal) m ρ)

/-- Both programs end with the prompts' convolved rows and their last gated rows. -/
theorem conv_equal : Cert.algebraic_ConvPromptIdeal_ConvPromptReferenceIdeal (hConvPromptIdeal := Cert.ConvPromptIdeal.Gen.facts)
    (hConvPromptReferenceIdeal := Cert.ConvPromptReferenceIdeal.Gen.facts) := by
  intro m ρ m' ρ' _ hag
  refine ⟨fun c => Cert.Convolution.mixedRows (m ((c.tc : Thread Cert.ConvPromptIdeal.nD Cert.ConvPromptIdeal.τ).loc Cert.ConvPromptIdeal.main_arg0))
      (m ((c.tc : Thread Cert.ConvPromptIdeal.nD Cert.ConvPromptIdeal.τ).loc Cert.ConvPromptIdeal.main_arg1)), fun c => Cert.Convolution.lastRows (m ((c.tc : Thread Cert.ConvPromptIdeal.nD Cert.ConvPromptIdeal.τ).loc Cert.ConvPromptIdeal.main_arg0)), ?_, ?_⟩
  · exact (θ_run (Cert.ConvPromptIdeal.defs (F := Ideal)) _ _).mono (fun r h c => ⟨(h c).1.trans (Cert.ConvPromptIdeal.Value.first_eq m c),
      (h c).2.1.trans (Cert.ConvPromptIdeal.Value.second_eq m c), (h c).2.2⟩) (Cert.ConvPromptIdeal.Value.run_blocks (F := Ideal) m ρ)
  · refine (θ_run (Cert.ConvPromptReferenceIdeal.defs (F := Ideal)) _ _).mono (fun r h c => ⟨?_, ?_, (h c).2.2⟩) (Cert.ConvPromptReferenceIdeal.Value.run (F := Ideal) m' ρ')
    · refine ((h c).1.trans (Cert.ConvPromptReferenceIdeal.Plain.first_eq _ _)).trans ?_
      rw [(hag c).1, (hag c).2]
    · refine ((h c).2.1.trans (Cert.ConvPromptReferenceIdeal.Plain.second_eq _)).trans ?_
      rw [(hag c).1]

/-- Both programs end with the samples' convolved rows and their last gated rows. -/
theorem sample_equal : Cert.algebraic_ConvSampleIdeal_ConvSampleReferenceIdeal (hConvSampleIdeal := Cert.ConvSampleIdeal.Gen.facts)
    (hConvSampleReferenceIdeal := Cert.ConvSampleReferenceIdeal.Gen.facts) := by
  intro m ρ m' ρ' _ hag
  refine ⟨fun c => Cert.Convolution.sampledRows (m ((c.tc : Thread Cert.ConvSampleIdeal.nD Cert.ConvSampleIdeal.τ).loc Cert.ConvSampleIdeal.main_arg0)) (m ((c.tc : Thread Cert.ConvSampleIdeal.nD Cert.ConvSampleIdeal.τ).loc Cert.ConvSampleIdeal.main_arg1))
      (m ((c.tc : Thread Cert.ConvSampleIdeal.nD Cert.ConvSampleIdeal.τ).loc Cert.ConvSampleIdeal.main_arg2)), fun c => Cert.Convolution.newRows (m ((c.tc : Thread Cert.ConvSampleIdeal.nD Cert.ConvSampleIdeal.τ).loc Cert.ConvSampleIdeal.main_arg0)) (m ((c.tc : Thread Cert.ConvSampleIdeal.nD Cert.ConvSampleIdeal.τ).loc Cert.ConvSampleIdeal.main_arg2)), ?_, ?_⟩
  · exact Cert.ConvSampleIdeal.Value.run m ρ
  · refine (θ_run (Cert.ConvSampleReferenceIdeal.defs (F := Ideal)) _ _).mono (fun r h c => ⟨?_, ?_, (h c).2.2⟩) (Cert.ConvSampleReferenceIdeal.Value.run (F := Ideal) m' ρ')
    · refine ((h c).1.trans (Cert.ConvSampleReferenceIdeal.Plain.first_eq _ _ _)).trans ?_
      rw [(hag c).1, (hag c).2.1, (hag c).2.2]
    · refine ((h c).2.1.trans (Cert.ConvSampleReferenceIdeal.Plain.second_eq _ _)).trans ?_
      rw [(hag c).1, (hag c).2.2]

/-- Both programs end with the normed rows. -/
theorem norm_equal : Cert.algebraic_NormInIdeal_NormInReferenceIdeal (hNormInIdeal := Cert.NormInIdeal.Gen.facts)
    (hNormInReferenceIdeal := Cert.NormInReferenceIdeal.Gen.facts) := by
  intro m ρ m' ρ' _ hag
  refine ⟨fun c => Cert.InputNorm.joined (m ((c.tc : Thread Cert.NormInIdeal.nD Cert.NormInIdeal.τ).loc Cert.NormInIdeal.main_arg0)) (m ((c.tc : Thread Cert.NormInIdeal.nD Cert.NormInIdeal.τ).loc Cert.NormInIdeal.main_arg1))
      (m ((c.tc : Thread Cert.NormInIdeal.nD Cert.NormInIdeal.τ).loc Cert.NormInIdeal.main_arg2)), ?_, ?_⟩
  · exact (θ_run (Cert.NormInIdeal.defs (F := Ideal)) _ _).mono (fun r h c => ⟨(h c).1.trans (Cert.NormInIdeal.Value.result_eq m c), (h c).2⟩)
      (Cert.NormInIdeal.Value.run_blocks (F := Ideal) m ρ)
  · refine (θ_run (Cert.NormInReferenceIdeal.defs (F := Ideal)) _ _).mono (fun r h c => ⟨?_, (h c).2⟩) (Cert.NormInReferenceIdeal.Value.run (F := Ideal) m' ρ')
    refine ((h c).1.trans (Cert.NormInReferenceIdeal.Plain.plain_eq _ _ _)).trans ?_
    rw [(hag c).1, (hag c).2.1, (hag c).2.2]

/-- The plain recurrence of the samples runs, keeps its arguments and ends quiet. -/
theorem frame_srec_reference : Cert.quiescent_SampleReferenceIdeal (hSampleReferenceIdeal := Cert.SampleReferenceIdeal.Gen.facts) := fun m ρ _ =>
  (θ_run (Cert.SampleReferenceIdeal.defs (F := Ideal)) _ _).mono (fun r h => ⟨fun c => (h c).2.2, sem_eq_zero_of_no_sems (by decide) r.2⟩)
    (Cert.SampleReferenceIdeal.Value.run (F := Ideal) m ρ)

/-- Both programs end with the samples' gated rows and their final states. -/
theorem srec_equal : Cert.algebraic_SampleIdeal_SampleReferenceIdeal_pre_sample_floor_positive (hSampleIdeal := Cert.SampleIdeal.Gen.facts)
    (hSampleReferenceIdeal := Cert.SampleReferenceIdeal.Gen.facts) (hPre_sample_floor_positive := pre_sample_facts) := by
  intro m ρ m' ρ' hp hag
  have hpos : ∀ (c : Dev Cert.SampleIdeal.nD) (j : Fin 2048), ∃ r : ℝ, 0 < r ∧ (Cert.SampleIdeal.Value.sfloor m c (ix2 (0 : Fin 1) j) : EReal) = (r : EReal) :=
    fun c => sample_floor_real (hp c)
  refine ⟨fun c => Cert.Recurrence.soutRows (m ((c.tc : Thread Cert.SampleIdeal.nD Cert.SampleIdeal.τ).loc Cert.SampleIdeal.main_arg0)) (m ((c.tc : Thread Cert.SampleIdeal.nD Cert.SampleIdeal.τ).loc Cert.SampleIdeal.main_arg1))
      (m ((c.tc : Thread Cert.SampleIdeal.nD Cert.SampleIdeal.τ).loc Cert.SampleIdeal.main_arg2)) (m ((c.tc : Thread Cert.SampleIdeal.nD Cert.SampleIdeal.τ).loc Cert.SampleIdeal.main_arg3)),
    fun c => Cert.Recurrence.sfinal (m ((c.tc : Thread Cert.SampleIdeal.nD Cert.SampleIdeal.τ).loc Cert.SampleIdeal.main_arg0)) (m ((c.tc : Thread Cert.SampleIdeal.nD Cert.SampleIdeal.τ).loc Cert.SampleIdeal.main_arg1))
      (m ((c.tc : Thread Cert.SampleIdeal.nD Cert.SampleIdeal.τ).loc Cert.SampleIdeal.main_arg3)), ?_, ?_⟩
  · exact (θ_run (Cert.SampleIdeal.defs (F := Ideal)) _ _).mono (fun r h c => ⟨(h c).1.trans (Cert.SampleIdeal.Value.first_eq m hpos c),
      (h c).2.1.trans (Cert.SampleIdeal.Value.second_eq m hpos c), (h c).2.2⟩) (Cert.SampleIdeal.Value.run_blocks (F := Ideal) m ρ)
  · refine (θ_run (Cert.SampleReferenceIdeal.defs (F := Ideal)) _ _).mono (fun r h c => ⟨?_, ?_, (h c).2.2⟩) (Cert.SampleReferenceIdeal.Value.run (F := Ideal) m' ρ')
    · refine ((h c).1.trans (Cert.SampleReferenceIdeal.Value.first_value m' c)).trans ?_
      obtain ⟨h0, h1, h2, h3⟩ := hag c
      rw [h0, h1, h2, h3]
    · refine ((h c).2.1.trans (Cert.SampleReferenceIdeal.Value.second_value m' c)).trans ?_
      obtain ⟨h0, h1, h2, h3⟩ := hag c
      rw [h0, h1, h3]

theorem claim : Cert.Claim :=
  ⟨Cert.Kernel.Gen.facts, Cert.KernelIdeal.Gen.facts, Cert.ReferenceIdeal.Gen.facts,
    Cert.InProj.Gen.facts, Cert.InProjIdeal.Gen.facts, Cert.InProjReferenceIdeal.Gen.facts,
    Cert.OutProj.Gen.facts, Cert.OutProjIdeal.Gen.facts, Cert.OutProjReferenceIdeal.Gen.facts,
    Cert.ConvPrompt.Gen.facts, Cert.ConvPromptIdeal.Gen.facts, Cert.ConvPromptReferenceIdeal.Gen.facts,
    Cert.ConvSample.Gen.facts, Cert.ConvSampleIdeal.Gen.facts, Cert.ConvSampleReferenceIdeal.Gen.facts,
    Cert.NormIn.Gen.facts, Cert.NormInIdeal.Gen.facts, Cert.NormInReferenceIdeal.Gen.facts,
    Cert.Sample.Gen.facts, Cert.SampleIdeal.Gen.facts, Cert.SampleReferenceIdeal.Gen.facts, pre_facts, pre_sample_facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.InProj.Gen.frame m ρ,
    fun m ρ _ => Cert.InProjIdeal.Gen.frame m ρ,
    frame_in_reference,
    fun m ρ _ => Cert.OutProj.Gen.frame m ρ,
    fun m ρ _ => Cert.OutProjIdeal.Gen.frame m ρ,
    frame_out_reference,
    fun m ρ _ => Cert.ConvPrompt.Gen.frame m ρ,
    fun m ρ _ => Cert.ConvPromptIdeal.Gen.frame m ρ,
    frame_conv_reference,
    fun m ρ _ => Cert.ConvSample.Gen.frame m ρ,
    fun m ρ _ => Cert.ConvSampleIdeal.Gen.frame m ρ,
    frame_sample_reference,
    fun m ρ _ => Cert.NormIn.Gen.frame m ρ,
    fun m ρ _ => Cert.NormInIdeal.Gen.frame m ρ,
    frame_norm_reference,
    fun m ρ _ => Cert.Sample.Gen.frame m ρ,
    fun m ρ _ => Cert.SampleIdeal.Gen.frame m ρ,
    fun m ρ _ => Cert.SampleIdeal.Gen.frame m ρ,
    frame_srec_reference,
    fun m ρ _ => frame_srec_reference m ρ trivial,
    trivial,
    recurrence_equal,
    trivial,
    in_equal,
    trivial,
    out_equal,
    trivial,
    conv_equal,
    trivial,
    sample_equal,
    trivial,
    norm_equal,
    trivial,
    srec_equal⟩

end Cert.Proof

end
